-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S3200000x16 : Shape := ⟨2, ![3200000, 16]⟩
abbrev S100000x16 : Shape := ⟨2, ![100000, 16]⟩
abbrev S31x32 : Shape := ⟨2, ![31, 32]⟩
abbrev S32 : Shape := ⟨1, ![32]⟩
abbrev S32x32 : Shape := ⟨2, ![32, 32]⟩
abbrev S3200000x1 : Shape := ⟨2, ![3200000, 1]⟩
abbrev S3200000 : Shape := ⟨1, ![3200000]⟩
abbrev S_ : Shape := ⟨0, ![]⟩

class Facts : Prop where
  slices_S3200000x16_S3200000x1_0_0 : S3200000x16.Slices ![0, 0] S3200000x1
  shapeCasts_S3200000x1_S3200000 : S3200000x1.ShapeCasts S3200000
  bcast_S_S3200000 : S_.BroadcastsInDim S3200000 (![] : Fin 0 → Fin S3200000.rank)
  reducesTo_S3200000_S_d0 : S3200000.ReducesTo [0] S_
  h_S_ : 0 < S_.numel

variable [Facts]

def fn {F : FTy → Type} [FloatOps F] (main_arg0 : FVec F S3200000x16 .f32) (main_arg1 : FVec F S100000x16 .f32) (main_arg2 : FVec F S31x32 .f32) (main_arg3 : FVec F S32 .f32) (main_arg4 : FVec F S32x32 .f32) (main_arg5 : FVec F S32 .f32) : IVec S_ 1 :=
  let main_v0 : FVec F S3200000x1 .f32 := (extractStridedSlice S3200000x1 ![0, 0] · slices_S3200000x16_S3200000x1_0_0) main_arg0
  let main_v1 : FVec F S3200000 .f32 := shapeCast S3200000 main_v0 shapeCasts_S3200000x1_S3200000
  let main_v2 : IVec S3200000 32 := fptosi 32 main_v1
  let main_c : IVec S_ 32 := constantI S_ 32 0#32
  let main_v3 : IVec S3200000 32 := broadcastInDim S3200000 ![] bcast_S_S3200000 main_c
  let main_v4 : IVec S3200000 1 := cmpi .sge main_v2 main_v3
  let main_c_0 : IVec S_ 32 := constantI S_ 32 100000#32
  let main_v5 : IVec S3200000 32 := broadcastInDim S3200000 ![] bcast_S_S3200000 main_c_0
  let main_v6 : IVec S3200000 1 := cmpi .slt main_v2 main_v5
  let main_v7 : IVec S3200000 1 := andi main_v4 main_v6
  let main_c_1 : IVec S_ 1 := constantI S_ 1 1#1
  let main_v8 : IVec S_ 1 := (fun x v => Host.reduce IntOp.andi x v reducesTo_S3200000_S_d0 h_S_) main_v7 main_c_1
  main_v8
-- ==== Kernel.lean ====
abbrev S3200000x16 : Shape := ⟨2, ![3200000, 16]⟩
abbrev S100000x16 : Shape := ⟨2, ![100000, 16]⟩
abbrev S31x32 : Shape := ⟨2, ![31, 32]⟩
abbrev S32 : Shape := ⟨1, ![32]⟩
abbrev S32x32 : Shape := ⟨2, ![32, 32]⟩
abbrev S16x3200000 : Shape := ⟨2, ![16, 3200000]⟩
abbrev S1x3200000 : Shape := ⟨2, ![1, 3200000]⟩
abbrev S_ : Shape := ⟨0, ![]⟩
abbrev S2x1x1024 : Shape := ⟨3, ![2, 1, 1024]⟩
abbrev S2 : Shape := ⟨1, ![2]⟩
abbrev S2x1024x16 : Shape := ⟨3, ![2, 1024, 16]⟩
abbrev S1x1x1024 : Shape := ⟨3, ![1, 1, 1024]⟩
abbrev S1x1024 : Shape := ⟨2, ![1, 1024]⟩
abbrev S1 : Shape := ⟨1, ![1]⟩
abbrev S1x1024x16 : Shape := ⟨3, ![1, 1024, 16]⟩
abbrev S1024x16 : Shape := ⟨2, ![1024, 16]⟩
abbrev S128x16 : Shape := ⟨2, ![128, 16]⟩
abbrev S1x128 : Shape := ⟨2, ![1, 128]⟩
abbrev S128 : Shape := ⟨1, ![128]⟩
abbrev S16x32 : Shape := ⟨2, ![16, 32]⟩
abbrev S32x16 : Shape := ⟨2, ![32, 16]⟩
abbrev S1x32 : Shape := ⟨2, ![1, 32]⟩
abbrev S15x32 : Shape := ⟨2, ![15, 32]⟩
abbrev S32x1 : Shape := ⟨2, ![32, 1]⟩
abbrev S32x3200000 : Shape := ⟨2, ![32, 3200000]⟩
abbrev S16x6400 : Shape := ⟨2, ![16, 6400]⟩
abbrev S32x6400 : Shape := ⟨2, ![32, 6400]⟩
abbrev S2x6400x16 : Shape := ⟨3, ![2, 6400, 16]⟩
abbrev S1x6400x16 : Shape := ⟨3, ![1, 6400, 16]⟩
abbrev S6400x16 : Shape := ⟨2, ![6400, 16]⟩
abbrev S3200000x32 : Shape := ⟨2, ![3200000, 32]⟩

abbrev nBuf : Table → Nat
  | .hbm => 22
  | .local .tc .vmem => 10
  | .local .scVector .vmem => 2
  | _ => 0

abbrev bufTy : (tb : Table) → Fin (nBuf tb) → BufTy
  | .hbm, ⟨0, _⟩ => ⟨S3200000x16, .f32⟩
  | .hbm, ⟨1, _⟩ => ⟨S100000x16, .f32⟩
  | .hbm, ⟨2, _⟩ => ⟨S31x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S16x3200000, .f32⟩
  | .hbm, ⟨7, _⟩ => ⟨S1x3200000, .f32⟩
  | .hbm, ⟨8, _⟩ => ⟨S1x3200000, .i32⟩
  | .hbm, ⟨9, _⟩ => ⟨S3200000x16, .f32⟩
  | .hbm, ⟨10, _⟩ => ⟨S16x32, .f32⟩
  | .hbm, ⟨11, _⟩ => ⟨S32x16, .f32⟩
  | .hbm, ⟨12, _⟩ => ⟨S_, .f32⟩
  | .hbm, ⟨13, _⟩ => ⟨S1x32, .f32⟩
  | .hbm, ⟨14, _⟩ => ⟨S15x32, .f32⟩
  | .hbm, ⟨15, _⟩ => ⟨S16x32, .f32⟩
  | .hbm, ⟨16, _⟩ => ⟨S32x16, .f32⟩
  | .hbm, ⟨17, _⟩ => ⟨S32x1, .f32⟩
  | .hbm, ⟨18, _⟩ => ⟨S32x1, .f32⟩
  | .hbm, ⟨19, _⟩ => ⟨S32x32, .f32⟩
  | .hbm, ⟨20, _⟩ => ⟨S32x3200000, .f32⟩
  | .hbm, ⟨21, _⟩ => ⟨S3200000x32, .f32⟩
  | .local .tc .vmem, ⟨0, _⟩ => ⟨S16x6400, .f32⟩
  | .local .tc .vmem, ⟨1, _⟩ => ⟨S16x6400, .f32⟩
  | .local .tc .vmem, ⟨2, _⟩ => ⟨S32x16, .f32⟩
  | .local .tc .vmem, ⟨3, _⟩ => ⟨S32x16, .f32⟩
  | .local .tc .vmem, ⟨4, _⟩ => ⟨S32x1, .f32⟩
  | .local .tc .vmem, ⟨5, _⟩ => ⟨S32x32, .f32⟩
  | .local .tc .vmem, ⟨6, _⟩ => ⟨S32x1, .f32⟩
  | .local .tc .vmem, ⟨7, _⟩ => ⟨S32x6400, .f32⟩
  | .local .tc .vmem, ⟨8, _⟩ => ⟨S32x6400, .f32⟩
  | .local .tc .vmem, ⟨9, _⟩ => ⟨S2x6400x16, .f32⟩
  | .local .scVector .vmem, ⟨0, _⟩ => ⟨S2x1x1024, .i32⟩
  | .local .scVector .vmem, ⟨1, _⟩ => ⟨S2x1024x16, .f32⟩
  | _, _ => ⟨S3200000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_arg1_scv : Ref sig .scVector := ⟨.hbm, 1, rfl⟩
abbrev main_v2_scv : Ref sig .scVector := ⟨.hbm, 8, rfl⟩
abbrev main_v3_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc1_scratch0 : Ref sig .tc := ⟨.vmem, 9, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c1024_i32_r0 : BitVec 32 := 1024#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v20_r0 : BitVec 32 := Scalar.addi c0_i32_10_r0 v10
  let v81_r0 : BitVec 32 := Scalar.muli c1024_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg7_r0 : BitVec 32) : Fin 3 → Nat :=
  let c2_i32_253_r0 : BitVec 32 := 2#32
  let v295_r0 : BitVec 32 := Scalar.remui arg7_r0 c2_i32_253_r0
  let c0_i32_254_r0 : BitVec 32 := 0#32
  let c0_i32_255_r0 : BitVec 32 := 0#32
  ![v295_r0.toNat, 0, 0]
def k0_cond3 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg6_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg6_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg11_r0 : BitVec 32) : Fin 2 → Nat :=
  let c0_i32_256_r0 : BitVec 32 := 0#32
  let c1024_i32_r0 : BitVec 32 := 1024#32
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v93_r0 : BitVec 1 := Scalar.cmpi .eq v92_r0 v5
  let c0_i32_66_r0 : BitVec 32 := 0#32
  let v94_r0 : BitVec 32 := Scalar.select v93_r0 c0_i32_66_r0 v92_r0
  let c21_i32_0 : BitVec 32 := 21#32
  let v6 : BitVec 1 := Scalar.cmpi .slt v3 c21_i32_0
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v95_r0 : BitVec 32 := Scalar.addi v94_r0 v10
  let v296_r0 : BitVec 32 := Scalar.muli c1024_i32_r0 v95_r0
  ![0, v296_r0.toNat]
def k0_off6 (arg7_r0 : BitVec 32) : Fin 1 → Nat :=
  let c2_i32_253_r0 : BitVec 32 := 2#32
  let v295_r0 : BitVec 32 := Scalar.remui arg7_r0 c2_i32_253_r0
  ![v295_r0.toNat]
def k0_off7 (arg8_r0 : BitVec 32) : Fin 3 → Nat :=
  let c2_i32_253_r0 : BitVec 32 := 2#32
  let v296_r0 : BitVec 32 := Scalar.remui arg8_r0 c2_i32_253_r0
  let c0_i32_254_r0 : BitVec 32 := 0#32
  let c0_i32_255_r0 : BitVec 32 := 0#32
  ![v296_r0.toNat, 0, 0]
def k0_cond4 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg6_r0 : BitVec 32 := Scf.iv c0_i32_29_r0 c1_i32_35_r0 k0_t1
  let c0_i32_58_r0 : BitVec 32 := 0#32
  let v81_r0 : BitVec 1 := Scalar.cmpi .eq arg6_r0 c0_i32_58_r0
  let v120_r0 : BitVec 1 := Scalar.ori v119_r0 v81_r0
  let c0_i32_79_r0 : BitVec 32 := 0#32
  let v121_r0 : BitVec 1 := Scalar.cmpi .sge arg6_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg11_r0 : BitVec 32) : Fin 2 → Nat :=
  let c0_i32_256_r0 : BitVec 32 := 0#32
  let c1024_i32_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let v295_r0 : BitVec 32 := Scalar.muli c1024_i32_r0 v84_r0
  ![0, v295_r0.toNat]
def k0_off9 (arg8_r0 : BitVec 32) : Fin 1 → Nat :=
  let c2_i32_253_r0 : BitVec 32 := 2#32
  let v296_r0 : BitVec 32 := Scalar.remui arg8_r0 c2_i32_253_r0
  ![v296_r0.toNat]
def k0_off10 (arg9_r0 : BitVec 32) : Fin 3 → Nat :=
  let c2_i32_84_r0 : BitVec 32 := 2#32
  let v132_r0 : BitVec 32 := Scalar.remui arg9_r0 c2_i32_84_r0
  let c0_i32_86_r0 : BitVec 32 := 0#32
  let c0_i32_87_r0 : BitVec 32 := 0#32
  ![v132_r0.toNat, 0, 0]

def k0_chk2 (i : grid0.Coords) (arg9_r0 : BitVec 32) : Prop :=
  (∀ (k0_h1 : k0_cond1 i = 1#1), ∀ a, (k0_off10 arg9_r0) a + S1x1024x16.size a ≤ S2x1024x16.size a)
theorem k0_off10_inb : ∀ (i : grid0.Coords) (arg9_r0 : BitVec 32) (k0_hw2 : k0_chk2 i arg9_r0), ∀ (k0_h1 : k0_cond1 i = 1#1), ∀ a, (k0_off10 arg9_r0) a + S1x1024x16.size a ≤ S2x1024x16.size a := fun i arg9_r0 k0_hw2 k0_h1 => k0_hw2 k0_h1

def k0_off11 (arg8_r0 : BitVec 32) : Fin 3 → Nat :=
  let c2_i32_83_r0 : BitVec 32 := 2#32
  let v131_r0 : BitVec 32 := Scalar.remui arg8_r0 c2_i32_83_r0
  let c0_i32_90_r0 : BitVec 32 := 0#32
  let c0_i32_91_r0 : BitVec 32 := 0#32
  ![v131_r0.toNat, 0, 0]

def k0_chk3 (i : grid0.Coords) (arg8_r0 : BitVec 32) : Prop :=
  (∀ (k0_h1 : k0_cond1 i = 1#1), ∀ a, (k0_off11 arg8_r0) a + S1x1x1024.size a ≤ S2x1x1024.size a)
theorem k0_off11_inb : ∀ (i : grid0.Coords) (arg8_r0 : BitVec 32) (k0_hw3 : k0_chk3 i arg8_r0), ∀ (k0_h1 : k0_cond1 i = 1#1), ∀ a, (k0_off11 arg8_r0) a + S1x1x1024.size a ≤ S2x1x1024.size a := fun i arg8_r0 k0_hw3 k0_h1 => k0_hw3 k0_h1

def k0_off12 (arg9_r0 : BitVec 32) : Fin 3 → Nat :=
  let c2_i32_253_r0 : BitVec 32 := 2#32
  let v295_r0 : BitVec 32 := Scalar.remui arg9_r0 c2_i32_253_r0
  let c0_i32_254_r0 : BitVec 32 := 0#32
  let c0_i32_255_r0 : BitVec 32 := 0#32
  ![v295_r0.toNat, 0, 0]
def k0_cond7 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v266_r0 : BitVec 1 := Scalar.cmpi .ne v84_r0 v95_r0
  let c0_i32_29_r0 : BitVec 32 := 0#32
  let c1_i32_35_r0 : BitVec 32 := 1#32
  let arg6_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg6_r0 v82_r0
  let v267_r0 : BitVec 1 := Scalar.ori v266_r0 v83_r0
  let v268_r0 : BitVec 32 := Scalar.extui v267_r0
  let c0_i32_239_r0 : BitVec 32 := 0#32
  let v269_r0 : BitVec 1 := Scalar.cmpi .ne v268_r0 c0_i32_239_r0
  v269_r0

def k0_off13 (i : grid0.Coords) (arg11_r0 : BitVec 32) : Fin 2 → Nat :=
  let c1024_i32_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let v296_r0 : BitVec 32 := Scalar.muli c1024_i32_r0 v84_r0
  let c0_i32_256_r0 : BitVec 32 := 0#32
  ![v296_r0.toNat, 0]
def k0_off14 (arg9_r0 : BitVec 32) : Fin 1 → Nat :=
  let c2_i32_253_r0 : BitVec 32 := 2#32
  let v295_r0 : BitVec 32 := Scalar.remui arg9_r0 c2_i32_253_r0
  ![v295_r0.toNat]
def k0_off15 (arg10_r0 : BitVec 32) : Fin 3 → Nat :=
  let c2_i32_253_r0 : BitVec 32 := 2#32
  let v295_r0 : BitVec 32 := Scalar.remui arg10_r0 c2_i32_253_r0
  let c0_i32_254_r0 : BitVec 32 := 0#32
  let c0_i32_255_r0 : BitVec 32 := 0#32
  ![v295_r0.toNat, 0, 0]
def k0_cond9 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v279_r0 : BitVec 1 := Scalar.cmpi .ne v84_r0 v90_r0
  let c0_i32_29_r0 : BitVec 32 := 0#32
  let c1_i32_35_r0 : BitVec 32 := 1#32
  let arg6_r0 : BitVec 32 := Scf.iv c0_i32_29_r0 c1_i32_35_r0 k0_t1
  let c0_i32_58_r0 : BitVec 32 := 0#32
  let v81_r0 : BitVec 1 := Scalar.cmpi .eq arg6_r0 c0_i32_58_r0
  let true_245_r0 : BitVec 1 := 1#1
  let v280_r0 : BitVec 1 := Scalar.xori v81_r0 true_245_r0
  let v281_r0 : BitVec 1 := Scalar.andi v279_r0 v280_r0
  let v282_r0 : BitVec 32 := Scalar.extui v281_r0
  let c0_i32_246_r0 : BitVec 32 := 0#32
  let v283_r0 : BitVec 1 := Scalar.cmpi .ne v282_r0 c0_i32_246_r0
  v283_r0

def k0_off16 (i : grid0.Coords) (arg11_r0 : BitVec 32) : Fin 2 → Nat :=
  let c1024_i32_r0 : BitVec 32 := 1024#32
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let c1_i32_63_r0 : BitVec 32 := 1#32
  let v88_r0 : BitVec 32 := Scalar.subi v5 c1_i32_63_r0
  let v89_r0 : BitVec 32 := Scalar.select v87_r0 v88_r0 v86_r0
  let c21_i32_0 : BitVec 32 := 21#32
  let v6 : BitVec 1 := Scalar.cmpi .slt v3 c21_i32_0
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v90_r0 : BitVec 32 := Scalar.addi v89_r0 v10
  let v296_r0 : BitVec 32 := Scalar.muli c1024_i32_r0 v90_r0
  let c0_i32_256_r0 : BitVec 32 := 0#32
  ![v296_r0.toNat, 0]
def k0_off17 (arg10_r0 : BitVec 32) : Fin 1 → Nat :=
  let c2_i32_253_r0 : BitVec 32 := 2#32
  let v295_r0 : BitVec 32 := Scalar.remui arg10_r0 c2_i32_253_r0
  ![v295_r0.toNat]

def k0_chk1 (i : grid0.Coords) (k0_t1 : Fin (k0_t1_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h3 : k0_cond3 i k0_t1 arg11_r0 = 1#1), ∀ a, (k0_off4 arg7_r0) a + S1x1x1024.size a ≤ S2x1x1024.size a) ∧
  (∀ (k0_h1 : k0_cond1 i = 1#1), ∀ (k0_h3 : k0_cond3 i k0_t1 arg11_r0 = 1#1), ∀ a, (k0_off5 i arg11_r0) a + S1x1024.size a ≤ S1x3200000.size a) ∧
  (∀ (k0_h1 : k0_cond1 i = 1#1), ∀ (k0_h3 : k0_cond3 i k0_t1 arg11_r0 = 1#1), ∀ a, (k0_off6 arg7_r0) a + S1.size a ≤ S2.size a) ∧
  (∀ (k0_h1 : k0_cond1 i = 1#1), ∀ (k0_h4 : k0_cond4 i k0_t1 arg11_r0 = 1#1), ∀ a, (k0_off7 arg8_r0) a + S1x1x1024.size a ≤ S2x1x1024.size a) ∧
  (∀ (k0_h1 : k0_cond1 i = 1#1), ∀ (k0_h4 : k0_cond4 i k0_t1 arg11_r0 = 1#1), ∀ a, (k0_off8 i arg11_r0) a + S1x1024.size a ≤ S1x3200000.size a) ∧
  (∀ (k0_h1 : k0_cond1 i = 1#1), ∀ (k0_h4 : k0_cond4 i k0_t1 arg11_r0 = 1#1), ∀ a, (k0_off9 arg8_r0) a + S1.size a ≤ S2.size a) ∧
  (∀ (k0_h1 : k0_cond1 i = 1#1), ∀ (k0_h7 : k0_cond7 i k0_t1 arg11_r0 = 1#1), ∀ a, (k0_off12 arg9_r0) a + S1x1024x16.size a ≤ S2x1024x16.size a) ∧
  (∀ (k0_h1 : k0_cond1 i = 1#1), ∀ (k0_h7 : k0_cond7 i k0_t1 arg11_r0 = 1#1), ∀ a, (k0_off13 i arg11_r0) a + S1024x16.size a ≤ S3200000x16.size a) ∧
  (∀ (k0_h1 : k0_cond1 i = 1#1), ∀ (k0_h7 : k0_cond7 i k0_t1 arg11_r0 = 1#1), ∀ a, (k0_off14 arg9_r0) a + S1.size a ≤ S2.size a) ∧
  (∀ (k0_h1 : k0_cond1 i = 1#1), ∀ (k0_h9 : k0_cond9 i k0_t1 arg11_r0 = 1#1), ∀ a, (k0_off15 arg10_r0) a + S1x1024x16.size a ≤ S2x1024x16.size a) ∧
  (∀ (k0_h1 : k0_cond1 i = 1#1), ∀ (k0_h9 : k0_cond9 i k0_t1 arg11_r0 = 1#1), ∀ a, (k0_off16 i arg11_r0) a + S1024x16.size a ≤ S3200000x16.size a) ∧
  (∀ (k0_h1 : k0_cond1 i = 1#1), ∀ (k0_h9 : k0_cond9 i k0_t1 arg11_r0 = 1#1), ∀ a, (k0_off17 arg10_r0) a + S1.size a ≤ S2.size a)
theorem k0_off4_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off4 arg7_r0) a + S1x1x1024.size a ≤ S2x1x1024.size a := fun i k0_t1 arg7_r0 arg8_r0 arg9_r0 arg10_r0 arg11_r0 k0_hw1 k0_h1 k0_h3 => k0_hw1.1 k0_h1 k0_h3
theorem k0_off5_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off5 i arg11_r0) a + S1x1024.size a ≤ S1x3200000.size a := fun i k0_t1 arg7_r0 arg8_r0 arg9_r0 arg10_r0 arg11_r0 k0_hw1 k0_h1 k0_h3 => k0_hw1.2.1 k0_h1 k0_h3
theorem k0_off6_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off6 arg7_r0) a + S1.size a ≤ S2.size a := fun i k0_t1 arg7_r0 arg8_r0 arg9_r0 arg10_r0 arg11_r0 k0_hw1 k0_h1 k0_h3 => k0_hw1.2.2.1 k0_h1 k0_h3
theorem k0_off7_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off7 arg8_r0) a + S1x1x1024.size a ≤ S2x1x1024.size a := fun i k0_t1 arg7_r0 arg8_r0 arg9_r0 arg10_r0 arg11_r0 k0_hw1 k0_h1 k0_h4 => k0_hw1.2.2.2.1 k0_h1 k0_h4
theorem k0_off8_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off8 i arg11_r0) a + S1x1024.size a ≤ S1x3200000.size a := fun i k0_t1 arg7_r0 arg8_r0 arg9_r0 arg10_r0 arg11_r0 k0_hw1 k0_h1 k0_h4 => k0_hw1.2.2.2.2.1 k0_h1 k0_h4
theorem k0_off9_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off9 arg8_r0) a + S1.size a ≤ S2.size a := fun i k0_t1 arg7_r0 arg8_r0 arg9_r0 arg10_r0 arg11_r0 k0_hw1 k0_h1 k0_h4 => k0_hw1.2.2.2.2.2.1 k0_h1 k0_h4
theorem k0_off12_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off12 arg9_r0) a + S1x1024x16.size a ≤ S2x1024x16.size a := fun i k0_t1 arg7_r0 arg8_r0 arg9_r0 arg10_r0 arg11_r0 k0_hw1 k0_h1 k0_h7 => k0_hw1.2.2.2.2.2.2.1 k0_h1 k0_h7
theorem k0_off13_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off13 i arg11_r0) a + S1024x16.size a ≤ S3200000x16.size a := fun i k0_t1 arg7_r0 arg8_r0 arg9_r0 arg10_r0 arg11_r0 k0_hw1 k0_h1 k0_h7 => k0_hw1.2.2.2.2.2.2.2.1 k0_h1 k0_h7
theorem k0_off14_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off14 arg9_r0) a + S1.size a ≤ S2.size a := fun i k0_t1 arg7_r0 arg8_r0 arg9_r0 arg10_r0 arg11_r0 k0_hw1 k0_h1 k0_h7 => k0_hw1.2.2.2.2.2.2.2.2.1 k0_h1 k0_h7
theorem k0_off15_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off15 arg10_r0) a + S1x1024x16.size a ≤ S2x1024x16.size a := fun i k0_t1 arg7_r0 arg8_r0 arg9_r0 arg10_r0 arg11_r0 k0_hw1 k0_h1 k0_h9 => k0_hw1.2.2.2.2.2.2.2.2.2.1 k0_h1 k0_h9
theorem k0_off16_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off16 i arg11_r0) a + S1024x16.size a ≤ S3200000x16.size a := fun i k0_t1 arg7_r0 arg8_r0 arg9_r0 arg10_r0 arg11_r0 k0_hw1 k0_h1 k0_h9 => k0_hw1.2.2.2.2.2.2.2.2.2.2.1 k0_h1 k0_h9
theorem k0_off17_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off17 arg10_r0) a + S1.size a ≤ S2.size a := fun i k0_t1 arg7_r0 arg8_r0 arg9_r0 arg10_r0 arg11_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg7_r0 : BitVec 32) : Fin 3 → Nat :=
  let c2_i32_253_r0 : BitVec 32 := 2#32
  let v295_r0 : BitVec 32 := Scalar.remui arg7_r0 c2_i32_253_r0
  let c0_i32_254_r0 : BitVec 32 := 0#32
  let c0_i32_255_r0 : BitVec 32 := 0#32
  ![v295_r0.toNat, 0, 0]
def k0_cond10 (i : grid0.Coords) (k0_t2 : Fin (k0_t2_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg6_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg6_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg11_r0 : BitVec 32) : Fin 2 → Nat :=
  let c0_i32_256_r0 : BitVec 32 := 0#32
  let c1024_i32_r0 : BitVec 32 := 1024#32
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v93_r0 : BitVec 1 := Scalar.cmpi .eq v92_r0 v5
  let c0_i32_66_r0 : BitVec 32 := 0#32
  let v94_r0 : BitVec 32 := Scalar.select v93_r0 c0_i32_66_r0 v92_r0
  let c21_i32_0 : BitVec 32 := 21#32
  let v6 : BitVec 1 := Scalar.cmpi .slt v3 c21_i32_0
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v95_r0 : BitVec 32 := Scalar.addi v94_r0 v10
  let v296_r0 : BitVec 32 := Scalar.muli c1024_i32_r0 v95_r0
  ![0, v296_r0.toNat]
def k0_off20 (arg7_r0 : BitVec 32) : Fin 1 → Nat :=
  let c2_i32_253_r0 : BitVec 32 := 2#32
  let v295_r0 : BitVec 32 := Scalar.remui arg7_r0 c2_i32_253_r0
  ![v295_r0.toNat]
def k0_off21 (arg8_r0 : BitVec 32) : Fin 3 → Nat :=
  let c2_i32_253_r0 : BitVec 32 := 2#32
  let v296_r0 : BitVec 32 := Scalar.remui arg8_r0 c2_i32_253_r0
  let c0_i32_254_r0 : BitVec 32 := 0#32
  let c0_i32_255_r0 : BitVec 32 := 0#32
  ![v296_r0.toNat, 0, 0]
def k0_cond11 (i : grid0.Coords) (k0_t2 : Fin (k0_t2_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg6_r0 : BitVec 32 := Scf.iv v46_r0 c1_i32_36_r0 k0_t2
  let c0_i32_58_r0 : BitVec 32 := 0#32
  let v81_r0 : BitVec 1 := Scalar.cmpi .eq arg6_r0 c0_i32_58_r0
  let v120_r0 : BitVec 1 := Scalar.ori v119_r0 v81_r0
  let c0_i32_79_r0 : BitVec 32 := 0#32
  let v121_r0 : BitVec 1 := Scalar.cmpi .sge arg6_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg11_r0 : BitVec 32) : Fin 2 → Nat :=
  let c0_i32_256_r0 : BitVec 32 := 0#32
  let c1024_i32_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let v295_r0 : BitVec 32 := Scalar.muli c1024_i32_r0 v84_r0
  ![0, v295_r0.toNat]
def k0_off23 (arg8_r0 : BitVec 32) : Fin 1 → Nat :=
  let c2_i32_253_r0 : BitVec 32 := 2#32
  let v296_r0 : BitVec 32 := Scalar.remui arg8_r0 c2_i32_253_r0
  ![v296_r0.toNat]
def k0_off24 (arg9_r0 : BitVec 32) : Fin 3 → Nat :=
  let c2_i32_84_r0 : BitVec 32 := 2#32
  let v132_r0 : BitVec 32 := Scalar.remui arg9_r0 c2_i32_84_r0
  let c0_i32_86_r0 : BitVec 32 := 0#32
  let c0_i32_87_r0 : BitVec 32 := 0#32
  ![v132_r0.toNat, 0, 0]

def k0_chk5 (i : grid0.Coords) (k0_t2 : Fin (k0_t2_loop i).trips) (arg9_r0 : BitVec 32) : Prop :=
  (∀ (k0_h1 : k0_cond1 i = 1#1), ∀ a, (k0_off24 arg9_r0) a + S1x1024x16.size a ≤ S2x1024x16.size a)
theorem k0_off24_inb : ∀ (i : grid0.Coords) (k0_t2 : Fin (k0_t2_loop i).trips) (arg9_r0 : BitVec 32) (k0_hw5 : k0_chk5 i k0_t2 arg9_r0), ∀ (k0_h1 : k0_cond1 i = 1#1), ∀ a, (k0_off24 arg9_r0) a + S1x1024x16.size a ≤ S2x1024x16.size a := fun i k0_t2 arg9_r0 k0_hw5 k0_h1 => k0_hw5 k0_h1

def k0_off25 (arg8_r0 : BitVec 32) : Fin 3 → Nat :=
  let c2_i32_83_r0 : BitVec 32 := 2#32
  let v131_r0 : BitVec 32 := Scalar.remui arg8_r0 c2_i32_83_r0
  let c0_i32_90_r0 : BitVec 32 := 0#32
  let c0_i32_91_r0 : BitVec 32 := 0#32
  ![v131_r0.toNat, 0, 0]

def k0_chk6 (i : grid0.Coords) (k0_t2 : Fin (k0_t2_loop i).trips) (arg8_r0 : BitVec 32) : Prop :=
  (∀ (k0_h1 : k0_cond1 i = 1#1), ∀ a, (k0_off25 arg8_r0) a + S1x1x1024.size a ≤ S2x1x1024.size a)
theorem k0_off25_inb : ∀ (i : grid0.Coords) (k0_t2 : Fin (k0_t2_loop i).trips) (arg8_r0 : BitVec 32) (k0_hw6 : k0_chk6 i k0_t2 arg8_r0), ∀ (k0_h1 : k0_cond1 i = 1#1), ∀ a, (k0_off25 arg8_r0) a + S1x1x1024.size a ≤ S2x1x1024.size a := fun i k0_t2 arg8_r0 k0_hw6 k0_h1 => k0_hw6 k0_h1

def k0_off26 (arg9_r0 : BitVec 32) : Fin 3 → Nat :=
  let c2_i32_253_r0 : BitVec 32 := 2#32
  let v295_r0 : BitVec 32 := Scalar.remui arg9_r0 c2_i32_253_r0
  let c0_i32_254_r0 : BitVec 32 := 0#32
  let c0_i32_255_r0 : BitVec 32 := 0#32
  ![v295_r0.toNat, 0, 0]
def k0_cond14 (i : grid0.Coords) (k0_t2 : Fin (k0_t2_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_65_r0 : BitVec 1 := 1#1
  let c1_i32_64_r0 : BitVec 32 := 1#32
  let v91_r0 : BitVec 32 := Scalar.addi arg11_r0 c1_i32_64_r0
  let v92_r0 : BitVec 32 := Scalar.select true_65_r0 v91_r0 arg11_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v266_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg6_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg6_r0 v82_r0
  let v267_r0 : BitVec 1 := Scalar.ori v266_r0 v83_r0
  let v268_r0 : BitVec 32 := Scalar.extui v267_r0
  let c0_i32_239_r0 : BitVec 32 := 0#32
  let v269_r0 : BitVec 1 := Scalar.cmpi .ne v268_r0 c0_i32_239_r0
  v269_r0

def k0_off27 (i : grid0.Coords) (arg11_r0 : BitVec 32) : Fin 2 → Nat :=
  let c1024_i32_r0 : BitVec 32 := 1024#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let v296_r0 : BitVec 32 := Scalar.muli c1024_i32_r0 v84_r0
  let c0_i32_256_r0 : BitVec 32 := 0#32
  ![v296_r0.toNat, 0]
def k0_off28 (arg9_r0 : BitVec 32) : Fin 1 → Nat :=
  let c2_i32_253_r0 : BitVec 32 := 2#32
  let v295_r0 : BitVec 32 := Scalar.remui arg9_r0 c2_i32_253_r0
  ![v295_r0.toNat]
def k0_off29 (arg10_r0 : BitVec 32) : Fin 3 → Nat :=
  let c2_i32_253_r0 : BitVec 32 := 2#32
  let v295_r0 : BitVec 32 := Scalar.remui arg10_r0 c2_i32_253_r0
  let c0_i32_254_r0 : BitVec 32 := 0#32
  let c0_i32_255_r0 : BitVec 32 := 0#32
  ![v295_r0.toNat, 0, 0]
def k0_cond16 (i : grid0.Coords) (k0_t2 : Fin (k0_t2_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32_0 : BitVec 32 := 21#32
  let v6 : BitVec 1 := Scalar.cmpi .slt v3 c21_i32_0
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v84_r0 : BitVec 32 := Scalar.addi arg11_r0 v10
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v279_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg6_r0 : BitVec 32 := Scf.iv v46_r0 c1_i32_36_r0 k0_t2
  let c0_i32_58_r0 : BitVec 32 := 0#32
  let v81_r0 : BitVec 1 := Scalar.cmpi .eq arg6_r0 c0_i32_58_r0
  let true_245_r0 : BitVec 1 := 1#1
  let v280_r0 : BitVec 1 := Scalar.xori v81_r0 true_245_r0
  let v281_r0 : BitVec 1 := Scalar.andi v279_r0 v280_r0
  let v282_r0 : BitVec 32 := Scalar.extui v281_r0
  let c0_i32_246_r0 : BitVec 32 := 0#32
  let v283_r0 : BitVec 1 := Scalar.cmpi .ne v282_r0 c0_i32_246_r0
  v283_r0

def k0_off30 (i : grid0.Coords) (arg11_r0 : BitVec 32) : Fin 2 → Nat :=
  let c1024_i32_r0 : BitVec 32 := 1024#32
  let true_61_r0 : BitVec 1 := 1#1
  let c1_i32_60_r0 : BitVec 32 := 1#32
  let v85_r0 : BitVec 32 := Scalar.subi arg11_r0 c1_i32_60_r0
  let v86_r0 : BitVec 32 := Scalar.select true_61_r0 v85_r0 arg11_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let c1_i32_63_r0 : BitVec 32 := 1#32
  let v88_r0 : BitVec 32 := Scalar.subi v5 c1_i32_63_r0
  let v89_r0 : BitVec 32 := Scalar.select v87_r0 v88_r0 v86_r0
  let c21_i32_0 : BitVec 32 := 21#32
  let v6 : BitVec 1 := Scalar.cmpi .slt v3 c21_i32_0
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v90_r0 : BitVec 32 := Scalar.addi v89_r0 v10
  let v296_r0 : BitVec 32 := Scalar.muli c1024_i32_r0 v90_r0
  let c0_i32_256_r0 : BitVec 32 := 0#32
  ![v296_r0.toNat, 0]
def k0_off31 (arg10_r0 : BitVec 32) : Fin 1 → Nat :=
  let c2_i32_253_r0 : BitVec 32 := 2#32
  let v295_r0 : BitVec 32 := Scalar.remui arg10_r0 c2_i32_253_r0
  ![v295_r0.toNat]

def k0_chk4 (i : grid0.Coords) (k0_t2 : Fin (k0_t2_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h10 : k0_cond10 i k0_t2 arg11_r0 = 1#1), ∀ a, (k0_off18 arg7_r0) a + S1x1x1024.size a ≤ S2x1x1024.size a) ∧
  (∀ (k0_h1 : k0_cond1 i = 1#1), ∀ (k0_h10 : k0_cond10 i k0_t2 arg11_r0 = 1#1), ∀ a, (k0_off19 i arg11_r0) a + S1x1024.size a ≤ S1x3200000.size a) ∧
  (∀ (k0_h1 : k0_cond1 i = 1#1), ∀ (k0_h10 : k0_cond10 i k0_t2 arg11_r0 = 1#1), ∀ a, (k0_off20 arg7_r0) a + S1.size a ≤ S2.size a) ∧
  (∀ (k0_h1 : k0_cond1 i = 1#1), ∀ (k0_h11 : k0_cond11 i k0_t2 arg11_r0 = 1#1), ∀ a, (k0_off21 arg8_r0) a + S1x1x1024.size a ≤ S2x1x1024.size a) ∧
  (∀ (k0_h1 : k0_cond1 i = 1#1), ∀ (k0_h11 : k0_cond11 i k0_t2 arg11_r0 = 1#1), ∀ a, (k0_off22 i arg11_r0) a + S1x1024.size a ≤ S1x3200000.size a) ∧
  (∀ (k0_h1 : k0_cond1 i = 1#1), ∀ (k0_h11 : k0_cond11 i k0_t2 arg11_r0 = 1#1), ∀ a, (k0_off23 arg8_r0) a + S1.size a ≤ S2.size a) ∧
  (∀ (k0_h1 : k0_cond1 i = 1#1), ∀ (k0_h14 : k0_cond14 i k0_t2 arg11_r0 = 1#1), ∀ a, (k0_off26 arg9_r0) a + S1x1024x16.size a ≤ S2x1024x16.size a) ∧
  (∀ (k0_h1 : k0_cond1 i = 1#1), ∀ (k0_h14 : k0_cond14 i k0_t2 arg11_r0 = 1#1), ∀ a, (k0_off27 i arg11_r0) a + S1024x16.size a ≤ S3200000x16.size a) ∧
  (∀ (k0_h1 : k0_cond1 i = 1#1), ∀ (k0_h14 : k0_cond14 i k0_t2 arg11_r0 = 1#1), ∀ a, (k0_off28 arg9_r0) a + S1.size a ≤ S2.size a) ∧
  (∀ (k0_h1 : k0_cond1 i = 1#1), ∀ (k0_h16 : k0_cond16 i k0_t2 arg11_r0 = 1#1), ∀ a, (k0_off29 arg10_r0) a + S1x1024x16.size a ≤ S2x1024x16.size a) ∧
  (∀ (k0_h1 : k0_cond1 i = 1#1), ∀ (k0_h16 : k0_cond16 i k0_t2 arg11_r0 = 1#1), ∀ a, (k0_off30 i arg11_r0) a + S1024x16.size a ≤ S3200000x16.size a) ∧
  (∀ (k0_h1 : k0_cond1 i = 1#1), ∀ (k0_h16 : k0_cond16 i k0_t2 arg11_r0 = 1#1), ∀ a, (k0_off31 arg10_r0) a + S1.size a ≤ S2.size a)
theorem k0_off18_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h10 : k0_cond10 i k0_t2 arg11_r0 = 1#1), ∀ a, (k0_off18 arg7_r0) a + S1x1x1024.size a ≤ S2x1x1024.size a := fun i k0_t2 arg7_r0 arg8_r0 arg9_r0 arg10_r0 arg11_r0 k0_hw4 k0_h1 k0_h10 => k0_hw4.1 k0_h1 k0_h10
theorem k0_off19_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h10 : k0_cond10 i k0_t2 arg11_r0 = 1#1), ∀ a, (k0_off19 i arg11_r0) a + S1x1024.size a ≤ S1x3200000.size a := fun i k0_t2 arg7_r0 arg8_r0 arg9_r0 arg10_r0 arg11_r0 k0_hw4 k0_h1 k0_h10 => k0_hw4.2.1 k0_h1 k0_h10
theorem k0_off20_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h10 : k0_cond10 i k0_t2 arg11_r0 = 1#1), ∀ a, (k0_off20 arg7_r0) a + S1.size a ≤ S2.size a := fun i k0_t2 arg7_r0 arg8_r0 arg9_r0 arg10_r0 arg11_r0 k0_hw4 k0_h1 k0_h10 => k0_hw4.2.2.1 k0_h1 k0_h10
theorem k0_off21_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h11 : k0_cond11 i k0_t2 arg11_r0 = 1#1), ∀ a, (k0_off21 arg8_r0) a + S1x1x1024.size a ≤ S2x1x1024.size a := fun i k0_t2 arg7_r0 arg8_r0 arg9_r0 arg10_r0 arg11_r0 k0_hw4 k0_h1 k0_h11 => k0_hw4.2.2.2.1 k0_h1 k0_h11
theorem k0_off22_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h11 : k0_cond11 i k0_t2 arg11_r0 = 1#1), ∀ a, (k0_off22 i arg11_r0) a + S1x1024.size a ≤ S1x3200000.size a := fun i k0_t2 arg7_r0 arg8_r0 arg9_r0 arg10_r0 arg11_r0 k0_hw4 k0_h1 k0_h11 => k0_hw4.2.2.2.2.1 k0_h1 k0_h11
theorem k0_off23_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h11 : k0_cond11 i k0_t2 arg11_r0 = 1#1), ∀ a, (k0_off23 arg8_r0) a + S1.size a ≤ S2.size a := fun i k0_t2 arg7_r0 arg8_r0 arg9_r0 arg10_r0 arg11_r0 k0_hw4 k0_h1 k0_h11 => k0_hw4.2.2.2.2.2.1 k0_h1 k0_h11
theorem k0_off26_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h14 : k0_cond14 i k0_t2 arg11_r0 = 1#1), ∀ a, (k0_off26 arg9_r0) a + S1x1024x16.size a ≤ S2x1024x16.size a := fun i k0_t2 arg7_r0 arg8_r0 arg9_r0 arg10_r0 arg11_r0 k0_hw4 k0_h1 k0_h14 => k0_hw4.2.2.2.2.2.2.1 k0_h1 k0_h14
theorem k0_off27_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h14 : k0_cond14 i k0_t2 arg11_r0 = 1#1), ∀ a, (k0_off27 i arg11_r0) a + S1024x16.size a ≤ S3200000x16.size a := fun i k0_t2 arg7_r0 arg8_r0 arg9_r0 arg10_r0 arg11_r0 k0_hw4 k0_h1 k0_h14 => k0_hw4.2.2.2.2.2.2.2.1 k0_h1 k0_h14
theorem k0_off28_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h14 : k0_cond14 i k0_t2 arg11_r0 = 1#1), ∀ a, (k0_off28 arg9_r0) a + S1.size a ≤ S2.size a := fun i k0_t2 arg7_r0 arg8_r0 arg9_r0 arg10_r0 arg11_r0 k0_hw4 k0_h1 k0_h14 => k0_hw4.2.2.2.2.2.2.2.2.1 k0_h1 k0_h14
theorem k0_off29_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h16 : k0_cond16 i k0_t2 arg11_r0 = 1#1), ∀ a, (k0_off29 arg10_r0) a + S1x1024x16.size a ≤ S2x1024x16.size a := fun i k0_t2 arg7_r0 arg8_r0 arg9_r0 arg10_r0 arg11_r0 k0_hw4 k0_h1 k0_h16 => k0_hw4.2.2.2.2.2.2.2.2.2.1 k0_h1 k0_h16
theorem k0_off30_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h16 : k0_cond16 i k0_t2 arg11_r0 = 1#1), ∀ a, (k0_off30 i arg11_r0) a + S1024x16.size a ≤ S3200000x16.size a := fun i k0_t2 arg7_r0 arg8_r0 arg9_r0 arg10_r0 arg11_r0 k0_hw4 k0_h1 k0_h16 => k0_hw4.2.2.2.2.2.2.2.2.2.2.1 k0_h1 k0_h16
theorem k0_off31_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw4 : k0_chk4 i k0_t2 arg7_r0 arg8_r0 arg9_r0 arg10_r0 arg11_r0), ∀ (k0_h1 : k0_cond1 i = 1#1), ∀ (k0_h16 : k0_cond16 i k0_t2 arg11_r0 = 1#1), ∀ a, (k0_off31 arg10_r0) a + S1.size a ≤ S2.size a := fun i k0_t2 arg7_r0 arg8_r0 arg9_r0 arg10_r0 arg11_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c1024_i32_r0 : BitVec 32 := 1024#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c21_i32 : BitVec 32 := 21#32
  let v4 : BitVec 1 := Scalar.cmpi .slt v3 c21_i32
  let c98_i32 : BitVec 32 := 98#32
  let c97_i32 : BitVec 32 := 97#32
  let v5 : BitVec 32 := Scalar.select v4 c98_i32 c97_i32
  let c1_i32_40_r0 : BitVec 32 := 1#32
  let v52_r0 : BitVec 32 := Scalar.subi v5 c1_i32_40_r0
  let v53_r0 : BitVec 32 := Scalar.select v51_r0 v52_r0 v50_r0
  let c21_i32_0 : BitVec 32 := 21#32
  let v6 : BitVec 1 := Scalar.cmpi .slt v3 c21_i32_0
  let v7 : BitVec 32 := Scalar.muli v3 v5
  let c97_i32_1 : BitVec 32 := 97#32
  let v8 : BitVec 32 := Scalar.muli v3 c97_i32_1
  let c21_i32_2 : BitVec 32 := 21#32
  let v9 : BitVec 32 := Scalar.addi v8 c21_i32_2
  let v10 : BitVec 32 := Scalar.select v6 v7 v9
  let v59_r0 : BitVec 32 := Scalar.addi v53_r0 v10
  let v81_r0 : BitVec 32 := Scalar.muli c1024_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S1024x16.size a ≤ S3200000x16.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S1024x16.size a ≤ S3200000x16.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x1024x16.size a ≤ S2x1024x16.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x1024x16.size a ≤ S2x1024x16.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x1024x16.size a ≤ S2x1024x16.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x1024x16.size a ≤ S2x1024x16.size a := fun i v48_3_r0 k0_hw7 k0_h1 k0_h18 => k0_hw7.2.2 k0_h1 k0_h18

abbrev grid1 : Pipeline.Grid := ⟨1, ![500], ![false]⟩

def k1_cond1 (i : grid1.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k1_off1 (i : grid1.Coords) : Fin 1 → Nat :=
  let arg0 : BitVec 32 := BitVec.ofNat 32 (i 0).val
  let c2_i32 : BitVec 32 := 2#32
  let v0 : BitVec 32 := Scalar.remsi arg0 c2_i32
  ![v0.toNat]
def k1_off2 (i : grid1.Coords) : Fin 3 → Nat :=
  let arg0 : BitVec 32 := BitVec.ofNat 32 (i 0).val
  let c2_i32 : BitVec 32 := 2#32
  let v0 : BitVec 32 := Scalar.remsi arg0 c2_i32
  let c0_i32_26 : BitVec 32 := 0#32
  let c0_i32_27 : BitVec 32 := 0#32
  ![v0.toNat, 0, 0]
def k1_off3 (i : grid1.Coords) : Fin 2 → Nat :=
  let arg0 : BitVec 32 := BitVec.ofNat 32 (i 0).val
  let c6400_i32_25 : BitVec 32 := 6400#32
  let v43 : BitVec 32 := Scalar.muli arg0 c6400_i32_25
  let c0_i32_28 : BitVec 32 := 0#32
  ![v43.toNat, 0]
def k1_cond2 (i : grid1.Coords) : BitVec 1 :=
  let arg0 : BitVec 32 := BitVec.ofNat 32 (i 0).val
  let c1_i32_2 : BitVec 32 := 1#32
  let v6 : BitVec 32 := Scalar.addi arg0 c1_i32_2
  let c500_i32 : BitVec 32 := 500#32
  let v7 : BitVec 1 := Scalar.cmpi .slt v6 c500_i32
  let v8 : BitVec 32 := Scalar.extui v7
  let c0_i32_3 : BitVec 32 := 0#32
  let v9 : BitVec 1 := Scalar.cmpi .ne v8 c0_i32_3
  v9

def k1_off4 (i : grid1.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k1_off5 (i : grid1.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_27 : BitVec 32 := 0#32
  let c0_i32_28 : BitVec 32 := 0#32
  ![v2.toNat, 0, 0]
def k1_off6 (i : grid1.Coords) : Fin 2 → Nat :=
  let arg0 : BitVec 32 := BitVec.ofNat 32 (i 0).val
  let c1_i32_25 : BitVec 32 := 1#32
  let v43 : BitVec 32 := Scalar.addi arg0 c1_i32_25
  let c6400_i32_26 : BitVec 32 := 6400#32
  let v44 : BitVec 32 := Scalar.muli v43 c6400_i32_26
  let c0_i32_29 : BitVec 32 := 0#32
  ![v44.toNat, 0]
def k1_off7 (i : grid1.Coords) : Fin 1 → Nat :=
  let arg0 : BitVec 32 := BitVec.ofNat 32 (i 0).val
  let c2_i32 : BitVec 32 := 2#32
  let v0 : BitVec 32 := Scalar.remsi arg0 c2_i32
  ![v0.toNat]
def k1_off8 (i : grid1.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k1_off9 (i : grid1.Coords) : Fin 2 → Nat :=
  let arg0 : BitVec 32 := BitVec.ofNat 32 (i 0).val
  let c6400_i32 : BitVec 32 := 6400#32
  let v10 : BitVec 32 := Scalar.muli arg0 c6400_i32
  let c0_i32_6 : BitVec 32 := 0#32
  ![v10.toNat, 0]
def k1_off10 (i : grid1.Coords) : Fin 3 → Nat :=
  let arg0 : BitVec 32 := BitVec.ofNat 32 (i 0).val
  let c2_i32 : BitVec 32 := 2#32
  let v0 : BitVec 32 := Scalar.remsi arg0 c2_i32
  let v16 : Index := Scalar.indexCast v0
  let c0 : Index := 0#32
  let c0_7 : Index := 0#32
  ![v16.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S32x6400 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3200000x16 : Shape := ⟨2, ![3200000, 16]⟩
abbrev S100000x16 : Shape := ⟨2, ![100000, 16]⟩
abbrev S31x32 : Shape := ⟨2, ![31, 32]⟩
abbrev S32 : Shape := ⟨1, ![32]⟩
abbrev S32x32 : Shape := ⟨2, ![32, 32]⟩
abbrev S3200000x1 : Shape := ⟨2, ![3200000, 1]⟩
abbrev S3200000 : Shape := ⟨1, ![3200000]⟩
abbrev S3200000x15 : Shape := ⟨2, ![3200000, 15]⟩
abbrev S_ : Shape := ⟨0, ![]⟩
abbrev S1 : Shape := ⟨1, ![1]⟩
abbrev S1x1 : Shape := ⟨2, ![1, 1]⟩
abbrev S3200000x31 : Shape := ⟨2, ![3200000, 31]⟩
abbrev S3200000x32 : Shape := ⟨2, ![3200000, 32]⟩
abbrev S1x32 : Shape := ⟨2, ![1, 32]⟩

abbrev nBuf : Space → Nat
  | .hbm => 45
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S100000x16, .f32⟩
  | .hbm, ⟨2, _⟩ => ⟨S31x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S3200000x1, .f32⟩
  | .hbm, ⟨7, _⟩ => ⟨S3200000, .f32⟩
  | .hbm, ⟨8, _⟩ => ⟨S3200000, .i32⟩
  | .hbm, ⟨9, _⟩ => ⟨S3200000x15, .f32⟩
  | .hbm, ⟨10, _⟩ => ⟨S_, .i32⟩
  | .hbm, ⟨11, _⟩ => ⟨S3200000, .i32⟩
  | .hbm, ⟨12, _⟩ => ⟨S3200000, .i1⟩
  | .hbm, ⟨13, _⟩ => ⟨S_, .i32⟩
  | .hbm, ⟨14, _⟩ => ⟨S3200000, .i32⟩
  | .hbm, ⟨15, _⟩ => ⟨S3200000, .i32⟩
  | .hbm, ⟨16, _⟩ => ⟨S3200000, .i32⟩
  | .hbm, ⟨17, _⟩ => ⟨S3200000x1, .i32⟩
  | .hbm, ⟨18, _⟩ => ⟨S1, .i32⟩
  | .hbm, ⟨19, _⟩ => ⟨S_, .i32⟩
  | .hbm, ⟨20, _⟩ => ⟨S3200000x1, .i32⟩
  | .hbm, ⟨21, _⟩ => ⟨S3200000x1, .i1⟩
  | .hbm, ⟨22, _⟩ => ⟨S1x1, .i32⟩
  | .hbm, ⟨23, _⟩ => ⟨S3200000x1, .i32⟩
  | .hbm, ⟨24, _⟩ => ⟨S3200000x1, .i1⟩
  | .hbm, ⟨25, _⟩ => ⟨S3200000x1, .i1⟩
  | .hbm, ⟨26, _⟩ => ⟨S_, .i1⟩
  | .hbm, ⟨27, _⟩ => ⟨S3200000, .i1⟩
  | .hbm, ⟨28, _⟩ => ⟨S3200000x16, .f32⟩
  | .hbm, ⟨29, _⟩ => ⟨S3200000x16, .i1⟩
  | .hbm, ⟨30, _⟩ => ⟨S_, .f32⟩
  | .hbm, ⟨31, _⟩ => ⟨S3200000x16, .f32⟩
  | .hbm, ⟨32, _⟩ => ⟨S3200000x16, .f32⟩
  | .hbm, ⟨33, _⟩ => ⟨S3200000x31, .f32⟩
  | .hbm, ⟨34, _⟩ => ⟨S3200000x32, .f32⟩
  | .hbm, ⟨35, _⟩ => ⟨S1x32, .f32⟩
  | .hbm, ⟨36, _⟩ => ⟨S3200000x32, .f32⟩
  | .hbm, ⟨37, _⟩ => ⟨S3200000x32, .f32⟩
  | .hbm, ⟨38, _⟩ => ⟨S_, .f32⟩
  | .hbm, ⟨39, _⟩ => ⟨S3200000x32, .f32⟩
  | .hbm, ⟨40, _⟩ => ⟨S3200000x32, .f32⟩
  | .hbm, ⟨41, _⟩ => ⟨S3200000x32, .f32⟩
  | .hbm, ⟨42, _⟩ => ⟨S1x32, .f32⟩
  | .hbm, ⟨43, _⟩ => ⟨S3200000x32, .f32⟩
  | .hbm, ⟨44, _⟩ => ⟨S3200000x32, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_call1_cst : Ref sig .tc := ⟨.hbm, 38, rfl⟩
abbrev main_call1_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩

abbrev nD : Nat := 1
abbrev τ : Topo := Topo.v7x

variable {F : FTy → Type} [FloatOps F]
-- ==== Proof.BlockWords.lean ====
/-
  The words of the dense kernel's grid points, in closed form.

  Point `n` of 500 works on rows `6400·n … 6400·n + 6399` of the gathered array. It copies the next point's rows into slot
  `(n + 1) mod 2` of its scratch before it awaits its own in slot `n mod 2`; point 0 also starts its own copy.
-/
module

public import proofs.«01_k».proof.KernelIdeal
public import proofs.«01_k».proof.Proof.Gen.KernelIdeal.Skeleton

@[expose] public section

noncomputable section

namespace Cert.Proof.BlockWords

open Cert.KernelIdeal Cert.KernelIdeal.Gen
open Idealize.ShloMosaic

/-- Point `n` of the grid. -/
def at1 (n : Fin 500) : grid1.Coords :=
  fun | 0 => n | ⟨_ + 1, h⟩ => absurd h (Nat.not_lt.2 (Nat.le_add_left _ _))

theorem eq_at1 (i : grid1.Coords) : i = at1 (i 0) := by
  funext a
  match a with
  | 0 => rfl

/-- What one point's words come to. -/
structure Point (i : grid1.Coords) (n : ℕ) : Prop where
  c1 : k1_cond1 i = 1#1 ↔ n = 0
  o1 : k1_off1 i = ![n % 2]
  o2 : k1_off2 i = ![n % 2, 0, 0]
  o3 : k1_off3 i = ![6400 * n, 0]
  c2 : k1_cond2 i = 1#1 ↔ n + 1 < 500
  o4 : k1_off4 i = ![(n + 1) % 2]
  o5 : k1_off5 i = ![(n + 1) % 2, 0, 0]
  o6 : k1_off6 i = ![6400 * (n + 1), 0]
  o7 : k1_off7 i = ![n % 2]
  o8 : k1_off8 i = ![n % 2, 0, 0]
  o9 : k1_off9 i = ![6400 * n, 0]
  o10 : k1_off10 i = ![n % 2, 0, 0]

instance (i : grid1.Coords) (n : ℕ) : Decidable (Point i n) :=
  decidable_of_iff
    ((k1_cond1 i = 1#1 ↔ n = 0) ∧ k1_off1 i = ![n % 2] ∧ k1_off2 i = ![n % 2, 0, 0] ∧ k1_off3 i = ![6400 * n, 0]
      ∧ (k1_cond2 i = 1#1 ↔ n + 1 < 500) ∧ k1_off4 i = ![(n + 1) % 2] ∧ k1_off5 i = ![(n + 1) % 2, 0, 0]
      ∧ k1_off6 i = ![6400 * (n + 1), 0] ∧ k1_off7 i = ![n % 2] ∧ k1_off8 i = ![n % 2, 0, 0] ∧ k1_off9 i = ![6400 * n, 0]
      ∧ k1_off10 i = ![n % 2, 0, 0])
    ⟨fun ⟨a, b, c, d, e, f, g, h, i, j, k, l⟩ => ⟨a, b, c, d, e, f, g, h, i, j, k, l⟩,
      fun ⟨a, b, c, d, e, f, g, h, i, j, k, l⟩ => ⟨a, b, c, d, e, f, g, h, i, j, k, l⟩⟩

theorem point_all : ∀ n : Fin 500, Point (at1 n) n.val := by decide +kernel

theorem point (i : grid1.Coords) : Point i (i 0).val := by
  rw [eq_at1 i]; exact point_all _

theorem coords_all : ∀ t : Fin grid1.N, ((grid1.coords t) 0).val = t.val := by decide +kernel

/-- Point `t` of the schedule is point `t` of the grid. -/
theorem point_t (t : Fin grid1.N) : Point (grid1.coords t) t.val := by
  have h := point (grid1.coords t)
  rw [coords_all t] at h
  exact h

end Cert.Proof.BlockWords

end
-- ==== Proof.BlockMem.lean ====
/-
  The dense kernel's scratch buffer as one grid point addresses it, and the steps it takes on it.

  The scratch has two slots of 6400 rows (`eSl p`); block `g` of the gathered array is `eBlk g`. Each slot keeps a share of
  the gathered array `G` for the copies into it. The lemmas are the kernel's copies and waits, its loads of a slot and of a
  whole window, and its store of a whole window.
-/
module

public import proofs.«01_k».proof.Proof.BlockWords
public import Idealize.ShloMosaic.Lib.SparseCore.Quiescent
public import Idealize.ShloMosaic.Lib.SparseCore.Ops
public import Idealize.ShloMosaic.Lib.Tactic

@[expose] public section

noncomputable section

namespace Cert.Proof.BlockMem

open Cert.KernelIdeal Cert.KernelIdeal.Gen
open Idealize.ShloMosaic
open Idealize.ShloMosaic.SparseCore.Cfg (HIx)
open Idealize.ShloMosaic.Transfers
open Idealize.SL Idealize.SL.RA
open Idealize.SL.BI (sProp Storable bigSep)
open scoped Idealize.SL.BI
open Idealize.SL.BI.BIBase Idealize.SL.BI.Laws Idealize.SL.ProofMode Idealize.SL.Sem
open Idealize.ShloMosaic.Tactic

variable {F : FTy → Type}

abbrev rowsV : Memref sig .tc .hbm S3200000x16 .f32 := Memref.whole main_v3
abbrev eBuf : Memref sig .tc .vmem S2x6400x16 .f32 := Memref.whole cc1_scratch0

theorem eSl_inb (p : Fin 2) : ∀ a, (![p.val, 0, 0] : Fin 3 → ℕ) a + S1x6400x16.size a ≤ S2x6400x16.size a := by
  have := p.isLt
  intro a; fin_cases a <;> simp [S1x6400x16, S2x6400x16]; omega
theorem eBlk_inb (g : Fin 500) : ∀ a, (![6400 * g.val, 0] : Fin 2 → ℕ) a + S6400x16.size a ≤ S3200000x16.size a := by
  have := g.isLt
  intro a; fin_cases a <;> simp [S6400x16, S3200000x16]; omega
theorem eSem_inb (p : Fin 2) : ∀ a, (![p.val] : Fin 1 → ℕ) a + S1.size a ≤ S2.size a := by
  have := p.isLt
  intro a; fin_cases a; simp [S1, S2]; omega

/-- Slot `p` of the scratch, block `g` of the gathered rows, slot `p`'s semaphore. -/
abbrev eSl (p : Fin 2) : Memref sig .tc .vmem S6400x16 .f32 :=
  (eBuf.slice (Rect.unit (s := S2x6400x16) ![p.val, 0, 0] S1x6400x16.size (eSl_inb p)) (fun _ => rfl)).squeeze S6400x16 squeezes_S1x6400x16_S6400x16
abbrev eBlk (g : Fin 500) : Memref sig .tc .hbm S6400x16 .f32 :=
  rowsV.slice (Rect.unit (s := S3200000x16) ![6400 * g.val, 0] S6400x16.size (eBlk_inb g)) (fun _ => rfl)
abbrev eSem (p : Fin 2) : DmaSem sig :=
  ((cc1_scratch1.slice (Rect.unit (s := S2) ![p.val] S1.size (eSem_inb p))).squeeze S_ squeezes_S1_S_).sem

variable {U : Type} [URA U] [CountersIn U]

local notation "𝕄" => MT nD τ sig (HIx 1) (Elt F) ℕ U ℕ

variable (d : Dev nD)

/-- The device's TensorCore. -/
abbrev core : Thread nD τ := d.tc

abbrev NE : ℕ := (eSl 0).view.dmaCredit

variable (G : Buf (Elt F) (rowsV.view.loc (core d))) (q : Fin 2 → PosShare TreeShare)

/-- Slot `p` idle: its elements, its semaphore at zero, its share of the gathered array. -/
def EIdle (p : Fin 2) : sProp 𝕄 :=
  iprop((∃ f, (eSl p).view.loc (core d) ↦[(eSl p).view.set]{fullShare} f) ∗ semVal ((core d), .dma (eSem p)) 0
    ∗ rowsV.view.loc (core d) ↦{q p} G)

/-- Block `g` on its way to slot `p`. -/
def EFly (p : Fin 2) (g : Fin 500) : sProp 𝕄 :=
  iprop((∃ fd, Flight countersEmb (core d) (.dma (eSem p)) (default : HIx 1) NE
      iprop(((eSl p).view.loc (core d) ↦[(eSl p).view.set]{fullShare}
          ((eSl p).view.write (Elt F) fd ((eBlk g).view.read (Elt F) G) Finset.univ))
        ∗ ((eBlk g).view.loc (core d) ↦[(eBlk g).view.set]{q p} G)))
    ∗ rowsV.view.loc (core d) ↦[Finset.univ \ (eBlk g).view.set]{q p} G)

/-- Slot `p` holding block `g`, awaited. -/
def EHas (p : Fin 2) (g : Fin 500) : sProp 𝕄 :=
  iprop((∃ f, ⌜(eSl p).view.read (Elt F) f = (eBlk g).view.read (Elt F) G⌝ ∗ (eSl p).view.loc (core d) ↦[(eSl p).view.set]{fullShare} f)
    ∗ semVal ((core d), .dma (eSem p)) 0 ∗ rowsV.view.loc (core d) ↦{q p} G)

theorem EHas_idle (p : Fin 2) (g : Fin 500) : (EHas d G q p g : sProp 𝕄) ⊢ EIdle d G q p := by
  unfold EHas EIdle
  iintro ⟨⟨%f, -, H⟩, Hv, Hs⟩
  isplitl [H]; · iexists f; iexact H
  isplitl [Hv]; · iexact Hv
  iexact Hs

theorem NE_eq (p : Fin 2) : (eSl p).view.dmaCredit = NE := by revert p; decide

variable [FloatOps F]

variable {α : Type} {Ψ : α → sProp (MT nD τ sig (HIx 1) (Elt F) ℕ U ℕ)}

/-- Issuing the copy of block `g` to slot `p`. -/
theorem wp_issue (p : Fin 2) (g : Fin 500) {o4 : Fin 3 → ℕ} {o5 : Fin 2 → ℕ} {o6 : Fin 1 → ℕ}
    (h4 : o4 = ![p.val, 0, 0]) (h5 : o5 = ![6400 * g.val, 0]) (h6 : o6 = ![p.val])
    {n4 : ∀ a, o4 a + S1x6400x16.size a ≤ S2x6400x16.size a} {n5 : ∀ a, o5 a + S6400x16.size a ≤ S3200000x16.size a} {n6 : ∀ a, o6 a + S1.size a ≤ S2.size a}
    {r4 : ∀ a, (Rect.unit (s := S2x6400x16) o4 S1x6400x16.size n4).stride a = 1} {r5 : ∀ a, (Rect.unit (s := S3200000x16) o5 S6400x16.size n5).stride a = 1}
    {hsrc : (rowsV.slice (Rect.unit (s := S3200000x16) o5 S6400x16.size n5) r5).view.WordExact}
    {hdst : (DmaTarget.here (nD := nD) (p := (core d).2) ((eBuf.slice (Rect.unit (s := S2x6400x16) o4 S1x6400x16.size n4) r4).squeeze S6400x16 squeezes_S1x6400x16_S6400x16)).view.WordExact}
    {ht : (DmaTarget.here (nD := nD) (p := (core d).2) ((eBuf.slice (Rect.unit (s := S2x6400x16) o4 S1x6400x16.size n4) r4).squeeze S6400x16 squeezes_S1x6400x16_S6400x16)).Typed .hbm
      (SemLoc.dma ((cc1_scratch1.slice (Rect.unit (s := S2) o6 S1.size n6)).squeeze S_ squeezes_S1_S_).sem)}
    {k : PUnit → Prog (TpuEff nD τ sig (Elt F) Λ₀ (core d).2) α} :
    (EIdle d G q p : sProp 𝕄) ⊢ iprop((EFly d G q p g -∗ wp frame (wpE (defs₀ (F := F)) Variants.none (core d) none) Set.univ (k ⟨⟩) Ψ)
      -∗ wp frame (wpE (defs₀ (F := F)) Variants.none (core d) none) Set.univ
        (.op (.enqueueDma (rowsV.slice (Rect.unit (s := S3200000x16) o5 S6400x16.size n5) r5)
          (.here ((eBuf.slice (Rect.unit (s := S2x6400x16) o4 S1x6400x16.size n4) r4).squeeze S6400x16 squeezes_S1x6400x16_S6400x16))
          (.dma ((cc1_scratch1.slice (Rect.unit (s := S2) o6 S1.size n6)).squeeze S_ squeezes_S1_S_).sem) hsrc hdst ht) k) Ψ) := by
  subst h4; subst h5; subst h6
  unfold EIdle EFly
  iintro ⟨⟨%fd, Hd⟩, Hv, Hs⟩ Hk
  ihave Hs' := (pointsTo_split_subset (Finset.subset_univ (eBlk g).view.set)).1 $$ Hs
  icases Hs' with ⟨Hs, Hr⟩
  iapply (wp_dmaLocal countersEmb Variants.none (core d) none (src := eBlk g) (dst := eSl p) (Sd := (eSl p).view.set) (sm := .dma (eSem p)) (default : HIx 1) NE (show (eSl p).view.amount (.dma (eSem p)) = NE from NE_eq p) (by decide) subset_rfl)
    $$ [Hs Hd Hv]
  · isplitl [Hs]; · iexact Hs
    isplitl [Hd]; · iexact Hd
    iexact Hv
  iintro Hf
  iapply Hk
  isplitl [Hf]; · iexists fd; iexact Hf
  iexact Hr

/-- Awaiting it: the slot holds the block. -/
theorem wp_await (p : Fin 2) (g : Fin 500) {o7 : Fin 3 → ℕ} {o8 : Fin 2 → ℕ} {o9 : Fin 1 → ℕ}
    (h7 : o7 = ![p.val, 0, 0]) (h8 : o8 = ![6400 * g.val, 0]) (h9 : o9 = ![p.val])
    {n7 : ∀ a, o7 a + S1x6400x16.size a ≤ S2x6400x16.size a} {n8 : ∀ a, o8 a + S6400x16.size a ≤ S3200000x16.size a} {n9 : ∀ a, o9 a + S1.size a ≤ S2.size a}
    {r7 : ∀ a, (Rect.unit (s := S2x6400x16) o7 S1x6400x16.size n7).stride a = 1} {r8 : ∀ a, (Rect.unit (s := S3200000x16) o8 S6400x16.size n8).stride a = 1}
    {hsrc : (rowsV.slice (Rect.unit (s := S3200000x16) o8 S6400x16.size n8) r8).view.WordExact}
    {hdst : ((eBuf.slice (Rect.unit (s := S2x6400x16) o7 S1x6400x16.size n7) r7).squeeze S6400x16 squeezes_S1x6400x16_S6400x16).view.WordExact}
    {k : PUnit → Prog (TpuEff nD τ sig (Elt F) Λ₀ (core d).2) α} {W : Waits sig (HIx 1)} :
    (iprop(EFly d G q p g ∗ owes (core d) (0 : CellTallies nD τ sig (HIx 1)) W) : sProp 𝕄)
    ⊢ iprop((iprop(EHas d G q p g ∗ owes (core d) (0 : CellTallies nD τ sig (HIx 1)) (insert (SemLoc.dma (eSem p), (default : HIx 1)) W))
        -∗ wp frame (wpE (defs₀ (F := F)) Variants.none (core d) none) Set.univ (k ⟨⟩) Ψ)
      -∗ wp frame (wpE (defs₀ (F := F)) Variants.none (core d) none) Set.univ
        (.op (.waitDma2 ((cc1_scratch1.slice (Rect.unit (s := S2) o9 S1.size n9)).squeeze S_ squeezes_S1_S_).sem
          (rowsV.slice (Rect.unit (s := S3200000x16) o8 S6400x16.size n8) r8)
          ((eBuf.slice (Rect.unit (s := S2x6400x16) o7 S1x6400x16.size n7) r7).squeeze S6400x16 squeezes_S1x6400x16_S6400x16) hsrc hdst) k) Ψ) := by
  subst h7; subst h8; subst h9
  unfold EHas EFly
  iintro ⟨⟨⟨%fd, Hf⟩, Hr⟩, HO⟩ Hk
  iapply (wp_waitLocalO countersEmb Variants.none (core d) none (default : HIx 1) (NE_eq p)) $$ [Hf HO]
  · isplitl [Hf]; · iexact Hf
    isplitl [HO]; · iexact HO
    iapply ((MayWaits.zero (core d) (default : HIx 1)).trans (MayWaits.elim (SemLoc.dma (eSem p))))
    iempintro
  iintro ⟨⟨Hd, Hs⟩, Hv, HO⟩
  iapply Hk
  isplitr [HO]
  · isplitl [Hd]
    · iexists ((eSl p).view.write (Elt F) fd ((eBlk g).view.read (Elt F) G) Finset.univ)
      isplitr
      · ipureintro; exact View.read_write_univ _ _
      iexact Hd
    isplitl [Hv]; · iexact Hv
    iapply (pointsTo_split_subset (Finset.subset_univ (eBlk g).view.set)).2
    isplitl [Hs]; · iexact Hs
    iexact Hr
  iexact HO

/-- Loading slot `p`: the rows of block `g`, up to the slot's unit axis. -/
theorem wp_loadSlot (p : Fin 2) (g : Fin 500) {o : Fin 3 → ℕ} (h : o = ![p.val, 0, 0])
    {n : ∀ a, o a + S1x6400x16.size a ≤ S2x6400x16.size a}
    {hl : eBuf.view.LoadsAt (Rect.unit (s := S2x6400x16) o S1x6400x16.size n).toLoadRect}
    {k : Vec F S1x6400x16 .f32 → Prog (TpuEff nD τ sig (Elt F) Λ₀ (core d).2) α} :
    (EHas d G q p g : sProp 𝕄)
    ⊢ iprop((∀ v : Vec F S1x6400x16 .f32, ⌜shapeCast S6400x16 v shapeCasts_S1x6400x16_S6400x16 = (eBlk g).view.read (Elt F) G⌝ -∗ EHas d G q p g
        -∗ wp frame (wpE (defs₀ (F := F)) Variants.none (core d) none) Set.univ (k v) Ψ)
      -∗ wp frame (wpE (defs₀ (F := F)) Variants.none (core d) none) Set.univ
        (.op (.load eBuf (Rect.unit (s := S2x6400x16) o S1x6400x16.size n).toLoadRect hl) k) Ψ) := by
  subst h
  unfold EHas
  iintro ⟨⟨%f, %hf, H⟩, Hv, Hs⟩ Hk
  iapply (wp_load Variants.none (core d) none Set.univ (m := eBuf) (S := (eSl p).view.set) (f := f) (q := fullShare) (show _ ⊆ (eSl p).view.set from by rw [View.set_reshape, View.set_slice]; exact subset_rfl)) $$ H
  iintro H
  iapply Hk $$ %_ %(show shapeCast S6400x16 (eBuf.view.readAt (Elt F) (Rect.unit (s := S2x6400x16) ![p.val, 0, 0] S1x6400x16.size n).toLoadRect f) shapeCasts_S1x6400x16_S6400x16 = (eBlk g).view.read (Elt F) G from by rw [← hf]; rfl)
  isplitl [H]
  · iexists f
    isplitr; · ipureintro; exact hf
    iexact H
  isplitl [Hv]; · iexact Hv
  iexact Hs

/-- Loading a whole window. -/
theorem wp_loadWin {sh : Shape} {e : EltTy} {M : Memref sig .tc .vmem sh e} {X : sh.Idx → Elt F e} {o : Fin sh.rank → ℕ} (h : o = fun _ => 0)
    {n : ∀ a, o a + sh.size a ≤ sh.size a} {hl : M.view.LoadsAt (Rect.unit (s := sh) o sh.size n).toLoadRect}
    {k : (sh.Idx → Elt F e) → Prog (TpuEff nD τ sig (Elt F) Λ₀ (core d).2) α} :
    (owns (core d) M fullShare X : sProp 𝕄)
    ⊢ iprop((owns (core d) M fullShare X -∗ wp frame (wpE (defs₀ (F := F)) Variants.none (core d) none) Set.univ (k X) Ψ)
      -∗ wp frame (wpE (defs₀ (F := F)) Variants.none (core d) none) Set.univ
        (.op (.load M (Rect.unit (s := sh) o sh.size n).toLoadRect hl) k) Ψ) := by
  subst h
  unfold owns
  iintro ⟨%f, %hf, H⟩ Hk
  iapply (wp_load Variants.none (core d) none Set.univ (m := M) (S := M.view.set) (f := f) (q := fullShare) (by
    intro x hx
    obtain ⟨y, -, rfl⟩ := Finset.mem_map.mp hx
    exact Finset.mem_map_of_mem _ (Finset.mem_univ y))) $$ H
  iintro H
  rw [show M.view.readAt (Elt F) (Rect.unit (s := sh) (fun _ => 0) sh.size n).toLoadRect f = X from by
    rw [← hf]
    funext x
    show M.view.read (Elt F) f ((Rect.whole sh).emb x) = _
    rw [Rect.emb_whole_apply]]
  iapply Hk
  iexists f
  isplitr; · ipureintro; exact hf
  iexact H

/-- Storing a whole window. -/
theorem wp_storeWin {sh : Shape} {e : EltTy} {M : Memref sig .tc .vmem sh e} {X : sh.Idx → Elt F e} {w : sh.Idx → Elt F e} {o : Fin sh.rank → ℕ} (h : o = fun _ => 0)
    {n : ∀ a, o a + sh.size a ≤ sh.size a} {hx : (M.access (Rect.unit (s := sh) o sh.size n)).Stores Finset.univ}
    {hm : (Finset.univ : Finset (Rect.unit (s := sh) o sh.size n).shape.Idx) = Finset.univ ∨ ∀ a, (Rect.unit (s := sh) o sh.size n).stride a = 1}
    {k : PUnit → Prog (TpuEff nD τ sig (Elt F) Λ₀ (core d).2) α} :
    (owns (core d) M fullShare X : sProp 𝕄)
    ⊢ iprop((owns (core d) M fullShare w -∗ wp frame (wpE (defs₀ (F := F)) Variants.none (core d) none) Set.univ (k ⟨⟩) Ψ)
      -∗ wp frame (wpE (defs₀ (F := F)) Variants.none (core d) none) Set.univ
        (.op (.store M (Rect.unit (s := sh) o sh.size n) w Finset.univ hx hm) k) Ψ) := by
  subst h
  unfold owns
  iintro ⟨%f, %hf, H⟩ Hk
  iapply (wp_store Variants.none (core d) none Set.univ (m := M) (r := Rect.unit (s := sh) (fun _ => 0) sh.size n) (S := M.view.set) (f := f) (by
    intro x hx
    obtain ⟨y, -, rfl⟩ := Finset.mem_map.mp hx
    exact Finset.mem_map_of_mem _ (Finset.mem_univ _))) $$ H
  iintro H
  iapply Hk
  iexists _
  isplitr; swap
  · iexact H
  ipureintro
  funext x
  have := View.read_slice_write_emb (Val := Elt F) (v := M.view) (Rect.unit (s := sh) (fun _ => 0) sh.size n) f w (x := x) (Finset.mem_univ _)
  rwa [show (Rect.unit (s := sh) (fun _ => 0) sh.size n).emb x = x from Rect.emb_whole_apply _ x] at this

end Cert.Proof.BlockMem

end
-- ==== Proof.BlockBody.lean ====
/-
  One grid point of the dense kernel, run once.

  Before point `n` the slot of parity `n` is filling with block `n` (idle before the first point and after the last) and the
  other slot is idle: `Ring n`. The point leaves `Ring (n + 1)`, the operands' windows as they were, and in the result's
  window `blkOut` of block `n` of the gathered rows and the operands.
-/
module

public import proofs.«01_k».proof.Proof.BlockMem

@[expose] public section

noncomputable section

namespace Cert.Proof.BlockBody

open Cert.KernelIdeal Cert.KernelIdeal.Gen
open Cert.Proof.BlockWords Cert.Proof.BlockMem
open Idealize.ShloMosaic
open Idealize.ShloMosaic.SparseCore.Cfg (HIx)
open Idealize.ShloMosaic.Transfers
open Idealize.SL Idealize.SL.RA
open Idealize.SL.BI (sProp Storable bigSep)
open scoped Idealize.SL.BI
open Idealize.SL.BI.BIBase Idealize.SL.BI.Laws Idealize.SL.ProofMode Idealize.SL.Sem
open Idealize.ShloMosaic.Tactic

variable {F : FTy → Type} [FloatOps F]

/-- One block of the result: the hidden layer on the block's rows `e` and edge features `a`, then the output layer. -/
def blkPre (e : FVec F S6400x16 .f32) (w1e w1n : Vec F S32x16 .f32) (a : Vec F S16x6400 .f32) : FVec F S32x6400 .f32 :=
  addf (matmul dot_S32x16_S16x6400_S32x6400_1_0_0_1_n_n none (shapeCast S32x16 w1e shapeCasts_S32x16_S32x16)
      (transpose S16x6400 [1, 0] e transposes_S6400x16_p1_0_S16x6400) (constant S32x6400 .f32 0x00000000#32))
    (matmul dot_S32x16_S16x6400_S32x6400_1_0_0_1_n_n none (shapeCast S32x16 w1n shapeCasts_S32x16_S32x16)
      (shapeCast S16x6400 a shapeCasts_S16x6400_S16x6400) (constant S32x6400 .f32 0x00000000#32))
def blkOut (e : FVec F S6400x16 .f32) (a : Vec F S16x6400 .f32) (w1e w1n : Vec F S32x16 .f32) (b1 : Vec F S32x1 .f32)
    (w2 : Vec F S32x32 .f32) (b2 : Vec F S32x1 .f32) : FVec F S32x6400 .f32 :=
  k1_pay1 (blkPre e w1e w1n a) (k1_pay3 b1) w2 b2

theorem pay2_eq (v : Vec F S1x6400x16 .f32) (w1e w1n : Vec F S32x16 .f32) (a : Vec F S16x6400 .f32) :
    k1_pay2 v w1e w1n a = blkPre (shapeCast S6400x16 v shapeCasts_S1x6400x16_S6400x16) w1e w1n a := rfl

/-- The slot of parity `n`, and block `n`. -/
def par (n : ℕ) : Fin 2 := ⟨n % 2, Nat.mod_lt _ (by decide)⟩
def blk (n : ℕ) : Fin 500 := ⟨n % 500, Nat.mod_lt _ (by decide)⟩
theorem blk_val {n : ℕ} (h : n < 500) : (blk n).val = n := Nat.mod_eq_of_lt h
theorem par_add_two (n : ℕ) : par (n + 2) = par n := Fin.ext (Nat.add_mod_right n 2)

variable {U : Type} [URA U] [CountersIn U]

local notation "𝕄" => MT nD τ sig (HIx 1) (Elt F) ℕ U ℕ

variable (d : Dev nD) (G : Buf (Elt F) (rowsV.view.loc (core d))) (q : Fin 2 → PosShare TreeShare)

/-- The scratch and its semaphores before point `n`. -/
def Ring (n : ℕ) : sProp 𝕄 :=
  iprop((if 0 < n ∧ n < 500 then EFly (U := U) d G q (par n) (blk n) else EIdle (U := U) d G q (par n)) ∗ EIdle (U := U) d G q (par (n + 1)))

/-- Once point `n`'s own copy is started, and once the next point's is. -/
def Own (n : ℕ) : sProp 𝕄 := iprop(EFly (U := U) d G q (par n) (blk n) ∗ EIdle (U := U) d G q (par (n + 1)))
def Next (n : ℕ) : sProp 𝕄 :=
  if 0 < n ∧ n < 500 then EFly (U := U) d G q (par n) (blk n) else EIdle (U := U) d G q (par n)

variable {i : grid1.Coords} {n : ℕ}

/-- The first conditional. -/
theorem wp_first (hP : Point i n) (hn : n < 500) {α : Type} {Ψ : α → sProp (MT nD τ sig (HIx 1) (Elt F) ℕ U ℕ)}
    {K : Prog (TpuEff nD τ sig (Elt F) Λ₀ .tc) α} :
    (Ring (U := U) d G q n : sProp 𝕄)
    ⊢ iprop((Own (U := U) d G q n -∗ wp frame (wpE (defs₀ (F := F)) Variants.none (core d) none) Set.univ K Ψ) -∗ wp frame (wpE (defs₀ (F := F)) Variants.none (core d) none) Set.univ
        (if k1_h1 : k1_cond1 i = 1#1 then
          (.op (.enqueueDma (rowsV.slice (Rect.unit (s := S3200000x16) (k1_off3 i) S6400x16.size (k1_off3_inb i k1_h1)) (fun _ => rfl))
            (.here ((eBuf.slice (Rect.unit (s := S2x6400x16) (k1_off2 i) S1x6400x16.size (k1_off2_inb i k1_h1)) (fun _ => rfl)).squeeze S6400x16 squeezes_S1x6400x16_S6400x16))
            (.dma ((cc1_scratch1.slice (Rect.unit (s := S2) (k1_off1 i) S1.size (k1_off1_inb i k1_h1))).squeeze S_ squeezes_S1_S_).sem)
            (View.wordExact_bits rfl) ((View.wordExact_bits rfl).reshape _ _) ⟨Or.inl rfl, trivial⟩) (fun _ => K)
            : Prog (TpuEff nD τ sig (Elt F) Λ₀ .tc) α)
        else K) Ψ) := by
  unfold Ring Own
  by_cases h0 : n = 0
  · rw [dif_pos (hP.c1.mpr h0), if_neg (by omega)]
    iintro ⟨H, HI⟩ Hk
    iapply (wp_issue d G q (par n) (blk n) hP.o2 (hP.o3.trans (by rw [blk_val hn])) hP.o1) $$ H
    iintro H
    iapply Hk
    isplitl [H]; · iexact H
    iexact HI
  · rw [dif_neg (fun h => h0 (hP.c1.mp h)), if_pos ⟨Nat.pos_of_ne_zero h0, hn⟩]
    iintro ⟨H, HI⟩ Hk
    iapply Hk
    isplitl [H]; · iexact H
    iexact HI

/-- The second conditional. -/
theorem wp_next (hP : Point i n) {α : Type} {Ψ : α → sProp (MT nD τ sig (HIx 1) (Elt F) ℕ U ℕ)}
    {K : Prog (TpuEff nD τ sig (Elt F) Λ₀ .tc) α} :
    (EIdle (U := U) d G q (par (n + 1)) : sProp 𝕄)
    ⊢ iprop((Next (U := U) d G q (n + 1) -∗ wp frame (wpE (defs₀ (F := F)) Variants.none (core d) none) Set.univ K Ψ) -∗ wp frame (wpE (defs₀ (F := F)) Variants.none (core d) none) Set.univ
        (if k1_h2 : k1_cond2 i = 1#1 then
          (.op (.enqueueDma (rowsV.slice (Rect.unit (s := S3200000x16) (k1_off6 i) S6400x16.size (k1_off6_inb i k1_h2)) (fun _ => rfl))
            (.here ((eBuf.slice (Rect.unit (s := S2x6400x16) (k1_off5 i) S1x6400x16.size (k1_off5_inb i k1_h2)) (fun _ => rfl)).squeeze S6400x16 squeezes_S1x6400x16_S6400x16))
            (.dma ((cc1_scratch1.slice (Rect.unit (s := S2) (k1_off4 i) S1.size (k1_off4_inb i k1_h2))).squeeze S_ squeezes_S1_S_).sem)
            (View.wordExact_bits rfl) ((View.wordExact_bits rfl).reshape _ _) ⟨Or.inl rfl, trivial⟩) (fun _ => K)
            : Prog (TpuEff nD τ sig (Elt F) Λ₀ .tc) α)
        else K) Ψ) := by
  unfold Next
  by_cases h0 : n + 1 < 500
  · rw [dif_pos (hP.c2.mpr h0), if_pos ⟨Nat.succ_pos _, h0⟩]
    iintro H Hk
    iapply (wp_issue d G q (par (n + 1)) (blk (n + 1)) hP.o5 (hP.o6.trans (by rw [blk_val h0])) hP.o4) $$ H
    iintro H
    iapply Hk $$ H
  · rw [dif_neg (fun h => h0 (hP.c2.mp h)), if_neg (by omega)]
    iintro H Hk
    iapply Hk $$ H

variable {M0 : Memref sig .tc .vmem S16x6400 .f32} {M1 M2 : Memref sig .tc .vmem S32x16 .f32} {M3 M5 : Memref sig .tc .vmem S32x1 .f32}
  {M4 : Memref sig .tc .vmem S32x32 .f32} {M6 : Memref sig .tc .vmem S32x6400 .f32}
  (h0 : M0.IsWhole) (h1 : M1.IsWhole) (h2 : M2.IsWhole) (h3 : M3.IsWhole) (h4 : M4.IsWhole) (h5 : M5.IsWhole) (h6 : M6.IsWhole)
  {hrows : rowsV.IsWhole} {hbuf : eBuf.IsWhole}
  (X0 : Vec F S16x6400 .f32) (X1 X2 : Vec F S32x16 .f32) (X3 X5 : Vec F S32x1 .f32) (X4 : Vec F S32x32 .f32)
  (R : Set (SemLoc sig × HIx 1)) (hR : ∀ s, (s, (default : HIx 1)) ∈ R)

/-- The operands' windows, each at its block. -/
def Ops : sProp 𝕄 :=
  iprop(owns (core d) M0 fullShare X0 ∗ owns (core d) M1 fullShare X1 ∗ owns (core d) M2 fullShare X2
    ∗ owns (core d) M3 fullShare X3 ∗ owns (core d) M4 fullShare X4 ∗ owns (core d) M5 fullShare X5)

include hR in
/-- The whole point. -/
theorem wp_point (hP : Point i n) (hn : n < 500) {Ψ : PUnit → sProp (MT nD τ sig (HIx 1) (Elt F) ℕ U ℕ)} :
    (iprop(Ring (U := U) d G q n ∗ Pipeline.owesWithin d (0 : CellTallies nD τ sig (HIx 1)) R
      ∗ Ops (U := U) d (M0 := M0) (M1 := M1) (M2 := M2) (M3 := M3) (M4 := M4) (M5 := M5) X0 X1 X2 X3 X5 X4 ∗ ∃ X, owns (core d) M6 fullShare X) : sProp 𝕄)
    ⊢ iprop((iprop(Ring (U := U) d G q (n + 1) ∗ Pipeline.owesWithin d (0 : CellTallies nD τ sig (HIx 1)) R
          ∗ Ops (U := U) d (M0 := M0) (M1 := M1) (M2 := M2) (M3 := M3) (M4 := M4) (M5 := M5) X0 X1 X2 X3 X5 X4
          ∗ owns (core d) M6 fullShare (blkOut ((eBlk (blk n)).view.read (Elt F) G) X0 X1 X2 X3 X4 X5)) -∗ Ψ ⟨⟩)
      -∗ wp frame (wpE (defs₀ (F := F)) Variants.none (core d) none) Set.univ
        (cc1_body i M0 h0 rowsV hrows M1 h1 M2 h2 M3 h3 M4 h4 M5 h5 M6 h6 eBuf hbuf cc1_scratch1) Ψ) := by
  rw [cc1_body_eq_skeleton]
  unfold cc1_body_skel
  rw [k1_part1_eq_skeleton]
  unfold k1_part1_skel
  simp only [wp_bind, Prog.bind_lift, Prog.pure_eq_ret]
  unfold Ops
  iintro ⟨HR, ⟨%W, %hW, HO⟩, ⟨H0, H1, H2, H3, H4, H5⟩, ⟨%X, H6⟩⟩ Hk
  iapply (wp_first (U := U) d G q hP hn) $$ HR
  unfold Own
  iintro ⟨HF, HI⟩
  iapply (wp_next (U := U) d G q hP) $$ HI
  iintro HN
  iapply (wp_await d G q (par n) (blk n) hP.o8 (hP.o9.trans (by rw [blk_val hn])) hP.o7) $$ [HF HO]
  · isplitl [HF]; · iexact HF
    iexact HO
  iintro ⟨HH, HO⟩
  iapply (wp_loadSlot d G q (par n) (blk n) hP.o10) $$ HH
  iintro %v %hv HH
  have z2 : (![0, 0] : Fin 2 → ℕ) = fun _ => 0 := by funext a; fin_cases a <;> rfl
  iapply (wp_loadWin d z2) $$ H1
  iintro H1
  iapply (wp_loadWin d z2) $$ H2
  iintro H2
  iapply (wp_loadWin d z2) $$ H0
  iintro H0
  iapply (wp_loadWin d z2) $$ H3
  iintro H3
  rw [wp_ret]
  imodintro
  simp only []
  iapply (wp_loadWin d z2) $$ H4
  iintro H4
  iapply (wp_loadWin d z2) $$ H5
  iintro H5
  iapply (wp_loadWin d z2) $$ H6
  iintro H6
  iapply (wp_storeWin d z2) $$ H6
  iintro H6
  rw [wp_ret]
  imodintro
  iapply Hk
  ihave HH := (EHas_idle d G q (par n) (blk n)) $$ HH
  isplitl [HN HH]
  · unfold Ring
    isplitl [HN]; · unfold Next; iexact HN
    rw [show n + 1 + 1 = n + 2 from rfl, par_add_two]
    iexact HH
  isplitl [HO]
  · iexists _
    isplitr; swap
    · iexact HO
    ipureintro
    intro x hx
    rcases Finset.mem_insert.mp (Finset.mem_coe.mp hx) with h | h
    · rw [h]; exact hR _
    · exact hW h
  isplitr [H6]
  · isplitl [H0]; · iexact H0
    isplitl [H1]; · iexact H1
    isplitl [H2]; · iexact H2
    isplitl [H3]; · iexact H3
    isplitl [H4]; · iexact H4
    iexact H5
  rw [pay2_eq, hv]
  iexact H6

end Cert.Proof.BlockBody

end
-- ==== Proof.BlockRegion.lean ====
/-
  The dense call as a region of the program: its proof data over the contents of the arrays behind its windows and of the
  gathered array, the obligation of its body at every grid point, and the region with what it is entered from and left at.

  The gathered array stays outside the windows: the call holds it in two shares, one for each slot of its scratch.
-/
module

public import proofs.«01_k».proof.Proof.BlockBody
public import proofs.«01_k».proof.Proof.Gen.KernelIdeal.Launch
public import Idealize.ShloMosaic.Lib.Pipeline.FrameBody
public import Idealize.ShloMosaic.Lib.Pipeline.Regions
public import Idealize.ShloMosaic.Lib.Ring

@[expose] public section

noncomputable section

namespace Cert.Proof.BlockRegion

open Cert.KernelIdeal Cert.KernelIdeal.Gen
open Cert.Proof.BlockWords Cert.Proof.BlockMem Cert.Proof.BlockBody
open Idealize.ShloMosaic
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type}

/-! ## The scratch's two slots -/

def eset (p : Fin 2) : Finset S2x6400x16.Idx := (eSl p).view.set

theorem mem_eset (p : Fin 2) (x : S2x6400x16.Idx) : x ∈ eset p ↔ (x 0).val = p.val := by
  have e : eset p = (Rect.unit (s := S2x6400x16) ![p.val, 0, 0] S1x6400x16.size (eSl_inb p)).set := by
    show (((View.whole (cc1_scratch0 : Ref sig .tc)).slice _).reshape S6400x16 _).set = _
    rw [View.set_reshape, View.set_slice]; exact Finset.map_refl
  rw [e, Rect.mem_set_unit]
  constructor
  · intro h
    have h0 := h 0
    simp [S1x6400x16] at h0
    omega
  · intro h a
    have h1 := (x 1).isLt
    have h2 := (x 2).isLt
    fin_cases a
    · simp [S1x6400x16]; omega
    · simp [S1x6400x16]; exact h1
    · simp [S1x6400x16]; exact h2

theorem eset_disjoint : ∀ p p', p ≠ p' → Disjoint (eset p) (eset p') := fun p p' h =>
  Finset.disjoint_left.mpr fun x hx hx' => h (Fin.ext (((mem_eset p x).mp hx).symm.trans ((mem_eset p' x).mp hx')))
theorem eset_cover : Finset.univ.biUnion eset = Finset.univ := by
  rw [Finset.eq_univ_iff_forall]; intro x
  exact Finset.mem_biUnion.mpr ⟨x 0, Finset.mem_univ _, (mem_eset _ x).mpr rfl⟩

variable {U : Type} [URA U] [CountersIn U]

local notation "𝕄" => MT nD τ sig (HIx 1) (Elt F) ℕ U ℕ

theorem eslots (d : Dev nD) : (iprop(∃ f, (core d).loc cc1_scratch0 ↦{fullShare} f) : sProp 𝕄)
    ⊢ iprop((∃ f, (eSl 0).view.loc (core d) ↦[(eSl 0).view.set]{fullShare} f) ∗ ∃ f, (eSl 1).view.loc (core d) ↦[(eSl 1).view.set]{fullShare} f) :=
  Ring.slots2_split (ℓ := (core d).loc cc1_scratch0) eset eset_disjoint eset_cover _ _ (fun _ => rfl) (fun _ => rfl)
theorem eslots_back (d : Dev nD) : (iprop((∃ f, (eSl 0).view.loc (core d) ↦[(eSl 0).view.set]{fullShare} f) ∗ ∃ f, (eSl 1).view.loc (core d) ↦[(eSl 1).view.set]{fullShare} f) : sProp 𝕄)
    ⊢ iprop(∃ f, (core d).loc cc1_scratch0 ↦{fullShare} f) :=
  Ring.slots2_join (ℓ := (core d).loc cc1_scratch0) eset eset_disjoint eset_cover _ _ (fun _ => rfl) (fun _ => rfl)

/-! ## The proof data -/

variable [FloatOps F]
variable (A : (c : Dev nD) → (w : Fin 7) → Buf (Elt F) ((cfg1.win w).arr.view.loc (core c)))
  (G : (c : Dev nD) → Buf (Elt F) (rowsV.view.loc (core c))) (q : Fin 2 → PosShare TreeShare)
  (R : Dev nD → Set (SemLoc sig × HIx 1))

/-- Window `w`'s block at point `t`. -/
abbrev inb (c : Dev nD) (w : Fin 7) (t : Fin cfg1.N) : ((cfg1.win w).xblock (cfg1.grid.coords t)).Idx → Elt F (cfg1.win w).elt :=
  ((cfg1.win w).blk t).view.read (Elt F) (A c w)

/-- What the body leaves in the result's window at point `t`. -/
def outb (c : Dev nD) (t : Fin cfg1.N) : FVec F S32x6400 .f32 :=
  blkOut ((eBlk (blk t.val)).view.read (Elt F) (G c)) (inb A c 0 t) (inb A c 1 t) (inb A c 2 t) (inb A c 3 t) (inb A c 4 t) (inb A c 5 t)

def dat (c : Dev nD) : Dat τ (Elt F) (HIx 1) ℕ U ℕ cfg1 c where
  A w := A c w
  after w t := match w with
    | ⟨0, _⟩ => inb A c 0 t
    | ⟨1, _⟩ => inb A c 1 t
    | ⟨2, _⟩ => inb A c 2 t
    | ⟨3, _⟩ => inb A c 3 t
    | ⟨4, _⟩ => inb A c 4 t
    | ⟨5, _⟩ => inb A c 5 t
    | ⟨6, _⟩ => outb A G c t
    | ⟨_ + 7, h⟩ => absurd h (Nat.not_lt.2 (Nat.le_add_left _ _))
  Φ t := BlockBody.Ring (U := U) c (G c) q t.val
  q _ := fullShare
  owed _ := 0
  recorded _ := R c

abbrev adm : (p : Fin 1) → (pcfgs (F := F) p).Adm := fun p => (cfgs p).toPCfg_adm

abbrev pdats : (p : Fin 1) → (c : Dev nD) → Dat τ (Elt F) (HIx 1) ℕ U ℕ (Pipeline.pin (pcfgs (F := F)) adm p) c
  | ⟨0, _⟩ => fun c => dat A G q R c

/-- Each operand's window holds its block when the body runs. -/
theorem before_0 (c : Dev nD) (t : Fin cfg1.N) (x) : (dat (U := U) A G q R c).before 0 t x = inb A c 0 t :=
  (dat (U := U) A G q R c).before_in_eq_fetched 0 rfl (fun _ => rfl) (fun _ _ _ => rfl) (fun _ => rfl) t x
theorem before_1 (c : Dev nD) (t : Fin cfg1.N) (x) : (dat (U := U) A G q R c).before 1 t x = inb A c 1 t :=
  (dat (U := U) A G q R c).before_in_eq_fetched 1 rfl (fun _ => rfl) (fun _ _ _ => rfl) (fun _ => rfl) t x
theorem before_2 (c : Dev nD) (t : Fin cfg1.N) (x) : (dat (U := U) A G q R c).before 2 t x = inb A c 2 t :=
  (dat (U := U) A G q R c).before_in_eq_fetched 2 rfl (fun _ => rfl) (fun _ _ _ => rfl) (fun _ => rfl) t x
theorem before_3 (c : Dev nD) (t : Fin cfg1.N) (x) : (dat (U := U) A G q R c).before 3 t x = inb A c 3 t :=
  (dat (U := U) A G q R c).before_in_eq_fetched 3 rfl (fun _ => rfl) (fun _ _ _ => rfl) (fun _ => rfl) t x
theorem before_4 (c : Dev nD) (t : Fin cfg1.N) (x) : (dat (U := U) A G q R c).before 4 t x = inb A c 4 t :=
  (dat (U := U) A G q R c).before_in_eq_fetched 4 rfl (fun _ => rfl) (fun _ _ _ => rfl) (fun _ => rfl) t x
theorem before_5 (c : Dev nD) (t : Fin cfg1.N) (x) : (dat (U := U) A G q R c).before 5 t x = inb A c 5 t :=
  (dat (U := U) A G q R c).before_in_eq_fetched 5 rfl (fun _ => rfl) (fun _ _ _ => rfl) (fun _ => rfl) t x

variable (hR : ∀ c s, (s, (default : HIx 1)) ∈ R c)

include hR in
/-- The body at every grid point. -/
theorem body_obligation (c : Dev nD) : BodyObligation (dat (U := U) A G q R c) (defs₀ (F := F)) Variants.none (none : HIx 1) Set.univ := fun t => by
  have hn : t.val < 500 := lt_of_lt_of_eq t.isLt N_1
  rw [bigSep_W1, bigSep_W1]
  rw [show (dat (U := U) A G q R c).Φ t.castSucc = BlockBody.Ring (U := U) c (G c) q t.val from rfl,
    show (dat (U := U) A G q R c).Φ t.succ = BlockBody.Ring (U := U) c (G c) q (t.val + 1) from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (wp_point (U := U) c (G c) q (hstage1_0 ((cfg1.slots t 0).cast nbuf1_0)) (hstage1_1 ((cfg1.slots t 1).cast nbuf1_1))
    (hstage1_2 ((cfg1.slots t 2).cast nbuf1_2)) (hstage1_3 ((cfg1.slots t 3).cast nbuf1_3)) (hstage1_4 ((cfg1.slots t 4).cast nbuf1_4))
    (hstage1_5 ((cfg1.slots t 5).cast nbuf1_5)) (hstage1_6 ((cfg1.slots t 6).cast nbuf1_6))
    (inb A c 0 t) (inb A c 1 t) (inb A c 2 t) (inb A c 3 t) (inb A c 5 t) (inb A c 4 t)
    ((dat (U := U) A G q R c).bound none t.castSucc) (fun s => Or.inl (hR c s)) (point_t t) hn) $$ [HΦ Howes H0 H1 H2 H3 H4 H5 H6]
  · isplitl [HΦ]; · iexact HΦ
    isplitl [Howes]; · iexact Howes
    isplitr [H6]
    · unfold Ops
      isplitl [H0]; · iexact H0
      isplitl [H1]; · iexact H1
      isplitl [H2]; · iexact H2
      isplitl [H3]; · iexact H3
      isplitl [H4]; · iexact H4
      iexact H5
    · iexists _; iexact H6
  · unfold Ops
    iintro ⟨HΦ, Howes, ⟨H0, H1, H2, H3, H4, H5⟩, H6⟩
    isplitl [HΦ]; · iexact HΦ
    isplitl [Howes]; · iexact Howes
    isplitl [H0]; · iexact H0
    isplitl [H1]; · iexact H1
    isplitl [H2]; · iexact H2
    isplitl [H3]; · iexact H3
    isplitl [H4]; · iexact H4
    isplitl [H5]; · iexact H5
    iexact H6

/-! ## The region -/

/-- The kernel's own two semaphores. -/
def osem (k : Fin 2) : SemLoc sig := .dma (eSem k)

theorem ownSemFacts : Pipeline.OwnSemFacts (cfgs 0).spec osem := by decide

/-- The gathered array in its two shares. -/
abbrev gath2 (c : Dev nD) : sProp 𝕄 :=
  iprop((rowsV.view.loc (core c) ↦{q 0} G c) ∗ rowsV.view.loc (core c) ↦{q 1} G c)

theorem ownSems_eq (c : Dev nD) :
    (Pipeline.ownSems0 (Ix := HIx 1) (Name := ℕ) (U := U) (Lvl := ℕ) (Val := Elt F) (τ := τ) osem c : sProp 𝕄)
      = iprop(semVal ((core c), .dma (eSem 0)) 0 ∗ semVal ((core c), .dma (eSem 1)) 0) :=
  Pipeline.ownSems0_eq_of_list c osem [0, 1] (by decide) (by decide)

/-- Before the first point and after the last both slots are idle. -/
theorem ring_start (c : Dev nD) :
    (iprop((gath2 (U := U) G q c ∗ Pipeline.ownSems0 (τ := τ) osem c) ∗ ∃ f, (core c).loc cc1_scratch0 ↦{fullShare} f) : sProp 𝕄)
      ⊢ BlockBody.Ring (U := U) c (G c) q 0 := by
  rw [ownSems_eq]
  unfold BlockBody.Ring
  rw [if_neg (by omega), show par 0 = 0 from rfl, show par (0 + 1) = 1 from rfl]
  unfold EIdle
  iintro ⟨⟨⟨HG0, HG1⟩, Hs0, Hs1⟩, Hb⟩
  ihave Hb' := (eslots (F := F) (U := U) c) $$ Hb
  icases Hb' with ⟨Hb0, Hb1⟩
  isplitl [HG0 Hs0 Hb0]
  · isplitl [Hb0]; · iexact Hb0
    isplitl [Hs0]; · iexact Hs0
    iexact HG0
  · isplitl [Hb1]; · iexact Hb1
    isplitl [Hs1]; · iexact Hs1
    iexact HG1

theorem ring_end (c : Dev nD) :
    (BlockBody.Ring (U := U) c (G c) q 500 : sProp 𝕄)
      ⊢ iprop(gath2 (U := U) G q c ∗ Pipeline.ownSems0 (τ := τ) osem c ∗ ∃ f, (core c).loc cc1_scratch0 ↦{fullShare} f) := by
  rw [ownSems_eq]
  unfold BlockBody.Ring
  rw [if_neg (by omega), show par 500 = 0 from rfl, show par (500 + 1) = 1 from rfl]
  unfold EIdle
  iintro ⟨⟨Hb0, Hs0, HG0⟩, Hb1, Hs1, HG1⟩
  isplitl [HG0 HG1]
  · isplitl [HG0]; · iexact HG0
    iexact HG1
  isplitl [Hs0 Hs1]
  · isplitl [Hs0]; · iexact Hs0
    iexact Hs1
  iapply (eslots_back (F := F) (U := U) c)
  isplitl [Hb0]; · iexact Hb0
  iexact Hb1

variable (L : GSem nD τ sig → Finset (HIx 1)) (lv : GSem nD τ sig → HIx 1 → ℕ)

set_option backward.isDefEq.respectTransparency.types false in
/-- The dense call: entered from the arrays behind its windows, the gathered array in two shares and nothing owed; left with
    the arrays at what the write-backs make of them. -/
def reg : Pipeline.RegionSeg (pcfgs (F := F)) adm (pdats (U := U) A G q R) (none : HIx 1) defs₀ Variants.none L lv 0 where
  win := (launch1).win.to₀
  block_pos := (launch1).block_pos
  stage_whole := (launch1).stage_whole
  K := Fin 2
  osem := osem
  ho := ownSemFacts
  hbody c := (body_obligation A G q R hR c).loose
  hwaits := Pipeline.hwaits_of_owed_zero _ _ _ _ L lv 0 fun _ _ => rfl
  pre c := iprop((dat (U := U) A G q R c).arrays ((dat (U := U) A G q R c).arrAt · 0) ∗ (dat (U := U) A G q R c).owesAt none 0 ∗ gath2 (U := U) G q c)
  post c := iprop((dat (U := U) A G q R c).arrays ((dat (U := U) A G q R c).arrAt · cfg1.N)
    ∗ (dat (U := U) A G q R c).owesAt none (Fin.last cfg1.N) ∗ gath2 (U := U) G q c)
  X c := iprop(gath2 (U := U) G q c ∗ Pipeline.ownSems0 (τ := τ) osem c)
  Y c := gath2 (U := U) G q c
  Z _ := BI.emp
  hentry c := by
    iintro ⟨⟨Ha, HO, HG⟩, Hs, -⟩
    imodintro
    isplitl [Ha]; · iexact Ha
    isplitr; · unfold Pipeline.prefHeld; rw [show (Finset.univ : Finset (Fin 0)) = ∅ from rfl, BI.bigSep_empty]; iempintro
    isplitl [HO]; · iexact HO
    isplitl [HG Hs]
    · isplitl [HG]; · iexact HG
      iexact Hs
    iempintro
  hin c := by
    rw [show (pdats (U := U) A G q R 0 c).Φ 0 = BlockBody.Ring (U := U) c (G c) q 0 from rfl]
    iintro ⟨HX, -, Hr⟩
    iapply (ring_start (U := U) G q c)
    isplitl [HX]; · iexact HX
    iapply (Entails.of_eq (scopedRest1_eq (Ix := HIx 1) (Name := ℕ) (U := U) (Lvl := ℕ) (Val := Elt F) c)) $$ Hr
  hout c := by
    rw [show (pdats (U := U) A G q R 0 c).Φ (Fin.last _) = BlockBody.Ring (U := U) c (G c) q 500 from
      congrArg (BlockBody.Ring (U := U) c (G c) q) N_1]
    iintro H
    ihave H := (ring_end (U := U) G q c) $$ H
    icases H with ⟨HG, Hs, Hb⟩
    isplitl [HG]; · iexact HG
    isplitl [Hs]; · iexact Hs
    iapply (Entails.of_eq (scopedRest1_eq (Ix := HIx 1) (Name := ℕ) (U := U) (Lvl := ℕ) (Val := Elt F) c).symm) $$ Hb
  hexit c := by
    iintro ⟨Ha, HO, HG, -⟩
    imodintro
    isplitl [Ha]; · iexact Ha
    isplitl [HO]; · iexact HO
    iexact HG

/-! ## The arrays behind the windows -/

/-- The seven arrays, whole. -/
theorem arrays_chain (c : Dev nD) (X : (w : Fin 7) → Buf (Elt F) ((cfg1.win w).arr.view.loc (core c))) :
    (dat (U := U) A G q R c).arrays X
      = iprop(((core c).loc main_v0 ↦{fullShare} X 0) ∗ ((core c).loc main_v5 ↦{fullShare} X 1) ∗ ((core c).loc main_v9 ↦{fullShare} X 2)
        ∗ ((core c).loc main_v10 ↦{fullShare} X 3) ∗ ((core c).loc main_v12 ↦{fullShare} X 4) ∗ ((core c).loc main_v11 ↦{fullShare} X 5)
        ∗ ((core c).loc main_v13 ↦{fullShare} X 6)) := by
  have h := Pipeline.arrays_eq (p := 0) (Pipeline.pin (pcfgs (F := F)) adm) (pdats (U := U) A G q R) c (launch1).arr_whole
    ((dat (U := U) A G q R c).share_full fun _ => rfl) X
  exact h.trans (bigSep_W1 _)

end Cert.Proof.BlockRegion

end
-- ==== Proof.BlockArr.lean ====
/-
  What the dense call's arrays hold: each operand's block as the array's elements, and the result after the last point,
  column by column of blocks.
-/
module

public import proofs.«01_k».proof.Proof.BlockRegion
public import proofs.«01_k».proof.Proof.Gen.KernelIdeal.Points
public import Idealize.ShloMosaic.Lib.Pipeline.Value

@[expose] public section

noncomputable section

namespace Cert.Proof.BlockArr

open Cert.KernelIdeal Cert.KernelIdeal.Gen
open Cert.Proof.BlockWords Cert.Proof.BlockMem Cert.Proof.BlockBody Cert.Proof.BlockRegion
open Idealize.ShloMosaic
open Idealize.ShloMosaic.SparseCore.Cfg (HIx)
open Idealize.ShloMosaic.Transfers
open Idealize.SL Idealize.SL.RA
open Idealize.ShloMosaic.Pipeline (Dat)

variable {F : FTy → Type} [FloatOps F]
variable {U : Type} [URA U] [CountersIn U]
variable (A : (c : Dev nD) → (w : Fin 7) → Buf (Elt F) ((cfg1.win w).arr.view.loc (core c)))
  (G : (c : Dev nD) → Buf (Elt F) (rowsV.view.loc (core c))) (q : Fin 2 → PosShare TreeShare)
  (R : Dev nD → Set (SemLoc sig × HIx 1)) (c : Dev nD)

/-- The grid point and the place in its block of a column of the result. -/
def pt (n : Fin 3200000) : Fin cfg1.N := ⟨n.val / 6400, by
  have h : cfg1.N = 500 := N_1
  have := n.isLt
  omega⟩
def col (n : Fin 3200000) : Fin 6400 := ⟨n.val % 6400, Nat.mod_lt _ (by decide)⟩

/-- The result's index of row `j` and column `n`, and its place in the column's block. -/
def place (x : S32x3200000.Idx) : S32x6400.Idx := fun
  | 0 => (x 0 : Fin 32)
  | 1 => col (x 1)

/-- The result. -/
def outArr : Buf (Elt F) ((core c).loc main_v13) := fun x : S32x3200000.Idx => outb A G c (pt (x 1)) (place x)

theorem tr_0 (t : Fin cfg1.N) : cc1_transform_0 (grid1.coords t) 1 = t.val := by
  have h : cfg1.N = 500 := N_1
  have ht := t.isLt
  show (BitVec.ofNat 32 (grid1.coords t 0).val).toNat = _
  rw [coords_all, BitVec.toNat_ofNat]
  omega
theorem tr_7 (t : Fin cfg1.N) : cc1_transform_7 (grid1.coords t) 1 = t.val := tr_0 t

theorem emb_6 (t : Fin cfg1.N) (y : S32x6400.Idx) :
    ((((cfg1.win 6).blk t).view.emb y : S32x3200000.Idx) 0).val = (y 0).val
      ∧ ((((cfg1.win 6).blk t).view.emb y : S32x3200000.Idx) 1).val = 6400 * t.val + (y 1).val := by
  constructor
  · show 0 * 32 + 1 * (y 0).val = _
    omega
  · show cc1_transform_7 (grid1.coords t) 1 * 6400 + 1 * (y 1).val = _
    rw [tr_7]
    omega

theorem arrAt_6 : (dat (U := U) A G q R c).arrAt 6 cfg1.N = outArr A G c := by
  refine Dat.arrAt_eq_of_cover _ 6 _ (fun t _ => ?_) (fun x => ?_)
  · funext y
    obtain ⟨e0, e1⟩ := emb_6 t y
    have hy : (y 1).val < 6400 := (y 1).isLt
    rw [View.read_apply]
    show outb A G c t y = outb A G c (pt _) (place _)
    congr 1
    · congr 1
      refine Fin.ext ?_
      refine Eq.trans ?_ (congrArg (· / 6400) e1).symm
      show t.val = (6400 * t.val + (y 1).val) / 6400
      omega
    · funext a
      fin_cases a
      · exact Fin.ext e0.symm
      · refine Fin.ext ?_
        refine Eq.trans ?_ (congrArg (· % 6400) e1).symm
        show (y 1).val = (6400 * t.val + (y 1).val) % 6400
        omega
  · refine ⟨pt (x 1), flush1_6 _, ?_⟩
    have hx : ((cfg1.win 6).blk (pt (x 1))).view.emb (place x) = x := by
      obtain ⟨e0, e1⟩ := emb_6 (pt (x 1)) (place x)
      funext a
      fin_cases a
      · exact Fin.ext e0
      · refine Fin.ext (e1.trans ?_)
        show 6400 * ((x 1).val / 6400) + (x 1).val % 6400 = (x 1).val
        omega
    exact Finset.mem_map.mpr ⟨place x, Finset.mem_univ _, hx⟩

/-- The operands' arrays are as they were. -/
theorem arrAt_op (w : Fin 7) (h : (cfg1.win w).isOut = false) (n : ℕ) : (dat (U := U) A G q R c).arrAt w n = A c w :=
  (dat (U := U) A G q R c).arrAt_in w h n

/-! ## The blocks -/

/-- The edge features' block at column `x`'s point, at the column, is the array at the column. -/
theorem inb_0 (t : Fin cfg1.N) (y : S16x6400.Idx) (z : S16x3200000.Idx) (h0 : (z 0).val = (y 0).val) (h1 : (z 1).val = 6400 * t.val + (y 1).val) :
    inb A c 0 t y = (A c 0 : S16x3200000.Idx → Elt F .f32) z := by
  refine (View.read_apply _ _).trans ?_
  show (A c 0 : S16x3200000.Idx → Elt F .f32) _ = _
  congr 1
  funext a
  fin_cases a
  · refine Fin.ext (Eq.trans ?_ h0.symm)
    show 0 * 16 + 1 * (y 0).val = (y 0).val
    omega
  · refine Fin.ext (Eq.trans ?_ h1.symm)
    show cc1_transform_0 (grid1.coords t) 1 * 6400 + 1 * (y 1).val = _
    rw [tr_0]
    omega

theorem inb_1 (t : Fin cfg1.N) : inb A c 1 t = (A c 1 : S32x16.Idx → Elt F .f32) := by
  funext y
  refine (View.read_apply _ _).trans ?_
  show (A c 1 : S32x16.Idx → Elt F .f32) _ = _
  congr 1
  funext a
  fin_cases a
  · refine Fin.ext ?_
    show 0 * 32 + 1 * (y 0).val = (y 0).val
    omega
  · refine Fin.ext ?_
    show 0 * 16 + 1 * (y 1).val = (y 1).val
    omega

theorem inb_2 (t : Fin cfg1.N) : inb A c 2 t = (A c 2 : S32x16.Idx → Elt F .f32) := by
  funext y
  refine (View.read_apply _ _).trans ?_
  show (A c 2 : S32x16.Idx → Elt F .f32) _ = _
  congr 1
  funext a
  fin_cases a
  · refine Fin.ext ?_
    show 0 * 32 + 1 * (y 0).val = (y 0).val
    omega
  · refine Fin.ext ?_
    show 0 * 16 + 1 * (y 1).val = (y 1).val
    omega

theorem inb_3 (t : Fin cfg1.N) : inb A c 3 t = (A c 3 : S32x1.Idx → Elt F .f32) := by
  funext y
  refine (View.read_apply _ _).trans ?_
  show (A c 3 : S32x1.Idx → Elt F .f32) _ = _
  congr 1
  funext a
  fin_cases a
  · refine Fin.ext ?_
    show 0 * 32 + 1 * (y 0).val = (y 0).val
    omega
  · refine Fin.ext ?_
    show 0 * 1 + 1 * (y 1).val = (y 1).val
    omega

theorem inb_4 (t : Fin cfg1.N) : inb A c 4 t = (A c 4 : S32x32.Idx → Elt F .f32) := by
  funext y
  refine (View.read_apply _ _).trans ?_
  show (A c 4 : S32x32.Idx → Elt F .f32) _ = _
  congr 1
  funext a
  fin_cases a
  · refine Fin.ext ?_
    show 0 * 32 + 1 * (y 0).val = (y 0).val
    omega
  · refine Fin.ext ?_
    show 0 * 32 + 1 * (y 1).val = (y 1).val
    omega

theorem inb_5 (t : Fin cfg1.N) : inb A c 5 t = (A c 5 : S32x1.Idx → Elt F .f32) := by
  funext y
  refine (View.read_apply _ _).trans ?_
  show (A c 5 : S32x1.Idx → Elt F .f32) _ = _
  congr 1
  funext a
  fin_cases a
  · refine Fin.ext ?_
    show 0 * 32 + 1 * (y 0).val = (y 0).val
    omega
  · refine Fin.ext ?_
    show 0 * 1 + 1 * (y 1).val = (y 1).val
    omega

/-- A block of the gathered rows. -/
theorem eBlk_at (g : Fin 500) (y : S6400x16.Idx) (z : S3200000x16.Idx) (h0 : (z 0).val = 6400 * g.val + (y 0).val) (h1 : (z 1).val = (y 1).val) :
    (eBlk g).view.read (Elt F) (G c) y = (G c : S3200000x16.Idx → Elt F .f32) z := by
  rw [View.read_apply]
  show (G c : S3200000x16.Idx → Elt F .f32) _ = _
  congr 1
  funext a
  fin_cases a
  · refine Fin.ext (Eq.trans ?_ h0.symm)
    show 6400 * g.val + 1 * (y 0).val = _
    omega
  · refine Fin.ext (Eq.trans ?_ h1.symm)
    show 0 + 1 * (y 1).val = _
    omega

end Cert.Proof.BlockArr

end
-- ==== Proof.TileWords.lean ====
/-
  The words of the gather kernel's task, in closed form.

  Task `i = (core, subcore)` is worker `w = subcore + 16·core`. It handles `n` consecutive blocks of 1024 ids, from block
  `b` on (`n = 98` for the first 21 workers, 97 for the others). The pipeline's loop carries five words: how many id
  copies were started, how many were awaited, how many blocks were written out, how many of those were awaited, and the
  block counter. At the top of trip `t` they are `car i t`. All offsets and conditions the trip computes follow.
-/
module

public import proofs.«01_k».proof.KernelIdeal
public import proofs.«01_k».proof.Proof.Gen.KernelIdeal.Skeleton

@[expose] public section

noncomputable section

namespace Cert.Proof.TileWords

open Cert.KernelIdeal Cert.KernelIdeal.Gen
open Idealize.ShloMosaic

/-- The task on core `a`, subcore `b`. -/
def at_ (a : Fin 2) (b : Fin 16) : grid0.Coords :=
  fun | 0 => a | 1 => b | ⟨_ + 2, h⟩ => absurd h (Nat.not_lt.2 (Nat.le_add_left _ _))

theorem eq_at (i : grid0.Coords) : i = at_ (i 0) (i 1) := by
  funext a
  match a with
  | 0 => rfl
  | 1 => rfl

/-- The worker's number, its number of blocks, its first block. -/
def wk (i : grid0.Coords) : ℕ := (i 1).val + 16 * (i 0).val
def nb (i : grid0.Coords) : ℕ := if wk i < 21 then 98 else 97
def bs (i : grid0.Coords) : ℕ := if wk i < 21 then wk i * 98 else wk i * 97 + 21

/-- The five words carried into trip `t`. -/
def car (i : grid0.Coords) (t : ℕ) : BitVec 32 × BitVec 32 × BitVec 32 × BitVec 32 × BitVec 32 :=
  (BitVec.ofNat 32 (min (t + 1) (nb i)), BitVec.ofNat 32 t, BitVec.ofNat 32 t, BitVec.ofNat 32 (t - 1), BitVec.ofNat 32 (if t = nb i then 0 else t))

theorem wk_lt (i : grid0.Coords) : wk i < 32 := by
  have h0 : (i 0).val < 2 := (i 0).isLt
  have h1 : (i 1).val < 16 := (i 1).isLt
  unfold wk; omega
theorem nb_pos (i : grid0.Coords) : 0 < nb i := by unfold nb; split <;> omega
theorem nb_le (i : grid0.Coords) : nb i ≤ 98 := by unfold nb; split <;> omega
theorem bs_nb (i : grid0.Coords) : bs i + nb i ≤ 3125 := by
  have := wk_lt i
  unfold bs nb; split <;> omega

/-- What one trip's words come to. -/
structure Trip (i : grid0.Coords) (t : Fin (k0_t1_loop i).trips) : Prop where
  lt : t.val < nb i
  c3 : k0_cond3 i t (car i t).2.2.2.2 = 1#1 ↔ t.val + 1 < nb i
  o4 : t.val + 1 < nb i → k0_off4 (car i t).1 = ![(t.val + 1) % 2, 0, 0]
  o5 : t.val + 1 < nb i → k0_off5 i (car i t).2.2.2.2 = ![0, 1024 * (bs i + (t.val + 1))]
  o6 : t.val + 1 < nb i → k0_off6 (car i t).1 = ![(t.val + 1) % 2]
  c4 : k0_cond4 i t (car i t).2.2.2.2 = 1#1
  o7 : k0_off7 (car i t).2.1 = ![t.val % 2, 0, 0]
  o8 : k0_off8 i (car i t).2.2.2.2 = ![0, 1024 * (bs i + t.val)]
  o9 : k0_off9 (car i t).2.1 = ![t.val % 2]
  o10 : k0_off10 (car i t).2.2.1 = ![t.val % 2, 0, 0]
  o11 : k0_off11 (car i t).2.1 = ![t.val % 2, 0, 0]
  c7 : k0_cond7 i t (car i t).2.2.2.2 = 1#1
  o12 : k0_off12 (car i t).2.2.1 = ![t.val % 2, 0, 0]
  o13 : k0_off13 i (car i t).2.2.2.2 = ![1024 * (bs i + t.val), 0]
  o14 : k0_off14 (car i t).2.2.1 = ![t.val % 2]
  c9 : k0_cond9 i t (car i t).2.2.2.2 = 1#1 ↔ 0 < t.val
  o15 : k0_off15 (car i t).2.2.2.1 = ![(t.val - 1) % 2, 0, 0]
  o16 : 0 < t.val → k0_off16 i (car i t).2.2.2.2 = ![1024 * (bs i + (t.val - 1)), 0]
  o17 : k0_off17 (car i t).2.2.2.1 = ![(t.val - 1) % 2]

instance (i : grid0.Coords) (t : Fin (k0_t1_loop i).trips) : Decidable (Trip i t) :=
  decidable_of_iff
    (t.val < nb i ∧ (k0_cond3 i t (car i t).2.2.2.2 = 1#1 ↔ t.val + 1 < nb i)
      ∧ (t.val + 1 < nb i → k0_off4 (car i t).1 = ![(t.val + 1) % 2, 0, 0])
      ∧ (t.val + 1 < nb i → k0_off5 i (car i t).2.2.2.2 = ![0, 1024 * (bs i + (t.val + 1))])
      ∧ (t.val + 1 < nb i → k0_off6 (car i t).1 = ![(t.val + 1) % 2])
      ∧ k0_cond4 i t (car i t).2.2.2.2 = 1#1 ∧ k0_off7 (car i t).2.1 = ![t.val % 2, 0, 0]
      ∧ k0_off8 i (car i t).2.2.2.2 = ![0, 1024 * (bs i + t.val)] ∧ k0_off9 (car i t).2.1 = ![t.val % 2]
      ∧ k0_off10 (car i t).2.2.1 = ![t.val % 2, 0, 0] ∧ k0_off11 (car i t).2.1 = ![t.val % 2, 0, 0]
      ∧ k0_cond7 i t (car i t).2.2.2.2 = 1#1 ∧ k0_off12 (car i t).2.2.1 = ![t.val % 2, 0, 0]
      ∧ k0_off13 i (car i t).2.2.2.2 = ![1024 * (bs i + t.val), 0] ∧ k0_off14 (car i t).2.2.1 = ![t.val % 2]
      ∧ (k0_cond9 i t (car i t).2.2.2.2 = 1#1 ↔ 0 < t.val) ∧ k0_off15 (car i t).2.2.2.1 = ![(t.val - 1) % 2, 0, 0]
      ∧ (0 < t.val → k0_off16 i (car i t).2.2.2.2 = ![1024 * (bs i + (t.val - 1)), 0])
      ∧ k0_off17 (car i t).2.2.2.1 = ![(t.val - 1) % 2])
    ⟨fun ⟨a, b, c, d, e, f, g, h, i, j, k, l, m, n, o, p, q, r, s⟩ => ⟨a, b, c, d, e, f, g, h, i, j, k, l, m, n, o, p, q, r, s⟩,
      fun ⟨a, b, c, d, e, f, g, h, i, j, k, l, m, n, o, p, q, r, s⟩ => ⟨a, b, c, d, e, f, g, h, i, j, k, l, m, n, o, p, q, r, s⟩⟩

theorem trip_all : ∀ (a : Fin 2) (b : Fin 16) (t : Fin (k0_t1_loop (at_ a b)).trips), Trip (at_ a b) t := by decide +kernel

theorem trip (i : grid0.Coords) (t : Fin (k0_t1_loop i).trips) : Trip i t := by
  revert t; rw [eq_at i]; exact trip_all _ _

theorem trips_all : ∀ (a : Fin 2) (b : Fin 16), (k0_t1_loop (at_ a b)).trips = nb (at_ a b) ∧ (k0_t2_loop (at_ a b)).trips = 0
    ∧ k0_cond1 (at_ a b) = 1#1 ∧ k0_cond2 (at_ a b) = 1#1 ∧ k0_off2 (at_ a b) = ![0, 1024 * bs (at_ a b)]
    ∧ k0_cond18 (at_ a b) = 1#1
    ∧ k0_off32 (car (at_ a b) (nb (at_ a b))).2.2.2.1 = ![(nb (at_ a b) - 1) % 2, 0, 0]
    ∧ k0_off33 (at_ a b) (car (at_ a b) (nb (at_ a b))).2.2.2.2 = ![1024 * (bs (at_ a b) + (nb (at_ a b) - 1)), 0]
    ∧ k0_off34 (car (at_ a b) (nb (at_ a b))).2.2.2.1 = ![(nb (at_ a b) - 1) % 2]
    ∧ k0_off35 (car (at_ a b) (nb (at_ a b))).2.2.2.1 = ![(nb (at_ a b) - 1) % 2, 0, 0] := by decide +kernel

theorem ends (i : grid0.Coords) : (k0_t1_loop i).trips = nb i ∧ (k0_t2_loop i).trips = 0
    ∧ k0_cond1 i = 1#1 ∧ k0_cond2 i = 1#1 ∧ k0_off2 i = ![0, 1024 * bs i] ∧ k0_cond18 i = 1#1
    ∧ k0_off32 (car i (nb i)).2.2.2.1 = ![(nb i - 1) % 2, 0, 0] ∧ k0_off33 i (car i (nb i)).2.2.2.2 = ![1024 * (bs i + (nb i - 1)), 0]
    ∧ k0_off34 (car i (nb i)).2.2.2.1 = ![(nb i - 1) % 2] ∧ k0_off35 (car i (nb i)).2.2.2.1 = ![(nb i - 1) % 2, 0, 0] := by
  rw [eq_at i]; exact trips_all _ _

end Cert.Proof.TileWords

end
-- ==== Proof.TileChecks.lean ====
/-
  The side conditions the gather kernel's task computes from its words, and the words it carries to its next trip.
-/
module

public import proofs.«01_k».proof.Proof.TileWords

@[expose] public section

noncomputable section

namespace Cert.Proof.TileChecks

open Cert.KernelIdeal Cert.KernelIdeal.Gen Cert.Proof.TileWords
open Idealize.ShloMosaic

/-- A slot's offset keeps the slot inside a two-slot buffer; a block's keeps it inside the array. -/
theorem slot1_inb {o : Fin 3 → ℕ} {n : ℕ} (hn : n < 2) (h : o = ![n, 0, 0]) : ∀ a, o a + S1x1x1024.size a ≤ S2x1x1024.size a := by
  subst h; intro a; fin_cases a <;> simp [S1x1x1024, S2x1x1024]; omega
theorem slot2_inb {o : Fin 3 → ℕ} {n : ℕ} (hn : n < 2) (h : o = ![n, 0, 0]) : ∀ a, o a + S1x1024x16.size a ≤ S2x1024x16.size a := by
  subst h; intro a; fin_cases a <;> simp [S1x1024x16, S2x1024x16]; omega
theorem blk1_inb {o : Fin 2 → ℕ} {n : ℕ} (hn : n < 3125) (h : o = ![0, 1024 * n]) : ∀ a, o a + S1x1024.size a ≤ S1x3200000.size a := by
  subst h; intro a; fin_cases a <;> simp [S1x1024, S1x3200000]; omega
theorem blk2_inb {o : Fin 2 → ℕ} {n : ℕ} (hn : n < 3125) (h : o = ![1024 * n, 0]) : ∀ a, o a + S1024x16.size a ≤ S3200000x16.size a := by
  subst h; intro a; fin_cases a <;> simp [S1024x16, S3200000x16]; omega
theorem sem1_inb {o : Fin 1 → ℕ} {n : ℕ} (hn : n < 2) (h : o = ![n]) : ∀ a, o a + S1.size a ≤ S2.size a := by
  subst h; intro a; fin_cases a; simp [S1, S2]; omega

variable (i : grid0.Coords) (t : Fin (k0_t1_loop i).trips)

theorem chk3 : k0_chk3 i (car i t).2.1 := fun _ => slot1_inb (Nat.mod_lt _ (by decide)) (trip i t).o11
theorem chk2 : k0_chk2 i (car i t).2.2.1 := fun _ => slot2_inb (Nat.mod_lt _ (by decide)) (trip i t).o10
theorem chk1 : k0_chk1 i t (car i t).1 (car i t).2.1 (car i t).2.2.1 (car i t).2.2.2.1 (car i t).2.2.2.2 := by
  have T := trip i t
  have hb := bs_nb i
  have hl := T.lt
  refine ⟨?_, ?_, ?_, ?_, ?_, ?_, ?_, ?_, ?_, ?_, ?_, ?_⟩
  · intro _ h; have h := T.c3.1 h; exact slot1_inb (Nat.mod_lt _ (by decide)) (T.o4 h)
  · intro _ h; have h := T.c3.1 h; exact blk1_inb (by omega) (T.o5 h)
  · intro _ h; have h := T.c3.1 h; exact sem1_inb (Nat.mod_lt _ (by decide)) (T.o6 h)
  · intro _ _; exact slot1_inb (Nat.mod_lt _ (by decide)) T.o7
  · intro _ _; exact blk1_inb (by omega) T.o8
  · intro _ _; exact sem1_inb (Nat.mod_lt _ (by decide)) T.o9
  · intro _ _; exact slot2_inb (Nat.mod_lt _ (by decide)) T.o12
  · intro _ _; exact blk2_inb (by omega) T.o13
  · intro _ _; exact sem1_inb (Nat.mod_lt _ (by decide)) T.o14
  · intro _ _; exact slot2_inb (Nat.mod_lt _ (by decide)) T.o15
  · intro _ h; have h := T.c9.1 h; exact blk2_inb (by omega) (T.o16 h)
  · intro _ _; exact sem1_inb (Nat.mod_lt _ (by decide)) T.o17

theorem chk8 : k0_chk8 i (car i (nb i)).2.2.2.2 := fun _ _ => by
  have := bs_nb i; have := nb_pos i
  exact blk2_inb (by omega) (ends i).2.2.2.2.2.2.2.1
theorem chk7 : k0_chk7 i (car i (nb i)).2.2.2.1 :=
  ⟨fun _ _ => slot2_inb (Nat.mod_lt _ (by decide)) (ends i).2.2.2.2.2.2.1,
    fun _ _ => sem1_inb (Nat.mod_lt _ (by decide)) (ends i).2.2.2.2.2.2.2.2.1,
    fun _ _ => slot2_inb (Nat.mod_lt _ (by decide)) (ends i).2.2.2.2.2.2.2.2.2⟩

/-! ## The words the task computes -/

/-- The worker's number of blocks and its first block, as the task computes them. -/
def cnt : BitVec 32 :=
  let v3 := Scalar.addi (Scalar.addi 0#32 (Scalar.muli (BitVec.ofNat 32 (i 1).val) 1#32)) (Scalar.muli (BitVec.ofNat 32 (i 0).val) 16#32)
  Scalar.select (Scalar.cmpi .slt v3 21#32) 98#32 97#32
def fst : BitVec 32 :=
  let v3 := Scalar.addi (Scalar.addi 0#32 (Scalar.muli (BitVec.ofNat 32 (i 1).val) 1#32)) (Scalar.muli (BitVec.ofNat 32 (i 0).val) 16#32)
  Scalar.select (Scalar.cmpi .slt v3 21#32) (Scalar.muli v3 (cnt i)) (Scalar.addi (Scalar.muli v3 97#32) 21#32)

/-- The block numbers of this trip, of the one before and of the next, as the trip computes them. -/
def now (c : BitVec 32) : BitVec 32 := Scalar.addi c (fst i)
def prev (c : BitVec 32) : BitVec 32 :=
  let v86 := Scalar.select 1#1 (Scalar.subi c 1#32) c
  Scalar.addi (Scalar.select (Scalar.cmpi .eq v86 4294967295#32) (Scalar.subi (cnt i) 1#32) v86) (fst i)
def next (c : BitVec 32) : BitVec 32 :=
  let v92 := Scalar.select 1#1 (Scalar.addi c 1#32) c
  Scalar.addi (Scalar.select (Scalar.cmpi .eq v92 (cnt i)) 0#32 v92) (fst i)
def iv (t : Fin (k0_t1_loop i).trips) : BitVec 32 := Scf.iv 0#32 1#32 t
def lastT (t : Fin (k0_t1_loop i).trips) : BitVec 1 := Scalar.cmpi .eq (iv i t) (Scalar.subi (Scalar.muli 1#32 (cnt i)) 1#32)

def n7 (t : Fin (k0_t1_loop i).trips) (a7 a11 : BitVec 32) : BitVec 32 :=
  let v106 := Scalar.andi (Scalar.cmpi .ne (now i a11) (next i a11))
    (Scalar.xori (Scalar.cmpi .sge (iv i t) (Scalar.addi (Scalar.subi (Scalar.muli 1#32 (cnt i)) 2#32) 1#32)) 1#1)
  Scalar.select (Scalar.andi v106 1#1) (Scalar.addi a7 1#32) a7
def n9 (t : Fin (k0_t1_loop i).trips) (a9 a11 : BitVec 32) : BitVec 32 :=
  Scalar.select (Scalar.andi (Scalar.ori (Scalar.cmpi .ne (now i a11) (next i a11)) (lastT i t)) 1#1) (Scalar.addi a9 1#32) a9
def n10 (t : Fin (k0_t1_loop i).trips) (a10 a11 : BitVec 32) : BitVec 32 :=
  Scalar.select (Scalar.andi (Scalar.andi (Scalar.cmpi .ne (now i a11) (prev i a11)) (Scalar.xori (Scalar.cmpi .eq (iv i t) 0#32) 1#1)) 1#1)
    (Scalar.addi a10 1#32) a10
def n8 (t : Fin (k0_t1_loop i).trips) (a8 a11 : BitVec 32) : BitVec 32 :=
  Scalar.select (Scalar.ori (Scalar.cmpi .ne (now i a11) (next i a11)) (lastT i t)) (Scalar.addi a8 1#32) a8
def n11 (a11 : BitVec 32) : BitVec 32 :=
  let v292 := Scalar.select 1#1 (Scalar.addi a11 1#32) a11
  Scalar.select (Scalar.cmpi .eq v292 (cnt i)) 0#32 v292

theorem step_all : ∀ (a : Fin 2) (b : Fin 16) (t : Fin (k0_t1_loop (at_ a b)).trips),
    (n7 (at_ a b) t (car (at_ a b) t).1 (car (at_ a b) t).2.2.2.2, n8 (at_ a b) t (car (at_ a b) t).2.1 (car (at_ a b) t).2.2.2.2,
      n9 (at_ a b) t (car (at_ a b) t).2.2.1 (car (at_ a b) t).2.2.2.2, n10 (at_ a b) t (car (at_ a b) t).2.2.2.1 (car (at_ a b) t).2.2.2.2,
      n11 (at_ a b) (car (at_ a b) t).2.2.2.2) = car (at_ a b) (t.val + 1) := by decide +kernel

/-- The words a trip carries on are the next trip's. -/
theorem step : (n7 i t (car i t).1 (car i t).2.2.2.2, n8 i t (car i t).2.1 (car i t).2.2.2.2,
      n9 i t (car i t).2.2.1 (car i t).2.2.2.2, n10 i t (car i t).2.2.2.1 (car i t).2.2.2.2,
      n11 i (car i t).2.2.2.2) = car i (t.val + 1) := by
  revert t; rw [eq_at i]; exact step_all _ _

end Cert.Proof.TileChecks

end
-- ==== Proof.GatherBatch.lean ====
/-
  Several indirect gathers outstanding on ONE semaphore cell.

  A stream of `o` entries moves `o` rows, each an ordinary transfer crediting `N` units. The rows of all the streams
  issued on the cell are counted as one batch of `n` transfers (`Transfers.Batch`): a stream takes the issue rights
  of the next `o` of them, and each row delivers, when it has landed, its row of the destination written, its entry
  of the offset list back and its piece of the source's share. The waits are the batch's own.
-/
module

public import Idealize.ShloMosaic.Lib.Batch
public import Idealize.ShloMosaic.Lib.SparseCore.Stream

@[expose] public section

noncomputable section

namespace Cert.Proof.GatherBatch

open Idealize.ShloMosaic Idealize.ShloMosaic.Transfers Idealize.ShloMosaic.SparseCore
open Idealize.SL Idealize.SL.RA
open Idealize.SL.BI (sProp Storable bigSep bigSep_insert)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type}
variable {sp : Space} {s₀ s si : Shape} {e : EltTy} {a : Nat}

local notation "𝕄" => MT nD τ sig Ix (Elt F) Name U Lvl

/-! ## The issue rights, several at a time -/

/-- Transfers `k`, …, `k + o − 1` of `n`. -/
def nth {n : ℕ} (k o : ℕ) (h : k + o ≤ n) (i : Fin o) : Fin n := ⟨k + i.val, by omega⟩

/-- What is pending from `k` on is the next `o` members and what is pending from `k + o` on. -/
theorem pending_take {n : ℕ} (Φ : Fin n → sProp 𝕄) (k : ℕ) :
    ∀ (o : ℕ) (h : k + o ≤ n), bigSep (pending k) Φ ⊢ iprop((bigSep Finset.univ fun i : Fin o => Φ (nth k o h i)) ∗ bigSep (pending (k + o)) Φ) := by
  intro o
  induction o generalizing k with
  | zero =>
    intro h
    rw [show (Finset.univ : Finset (Fin 0)) = ∅ from rfl, BI.bigSep_empty]
    iintro H
    isplitr; · iempintro
    iexact H
  | succ o ih =>
    intro h
    rw [bigSep_pending_step Φ k (by omega), bigSep_univ_succ]
    iintro ⟨H0, H⟩
    ihave H' := ih (k + 1) (by omega) $$ H
    icases H' with ⟨Ho, Hr⟩
    isplitl [H0 Ho]
    · isplitl [H0]
      · rw [show nth k (o + 1) h 0 = (⟨k, by omega⟩ : Fin n) from Fin.ext (Nat.add_zero k)]; iexact H0
      have e : (fun i : Fin o => Φ (nth (k + 1) o (by omega) i)) = fun i : Fin o => Φ (nth k (o + 1) h i.succ) := by
        funext i; congr 1; apply Fin.ext; simp only [nth, Fin.val_succ]; omega
      rw [← e]; iexact Ho
    · rw [show k + 1 + o = k + (o + 1) by omega]; iexact Hr

/-! ## What a row brings back -/

section Rows

variable (c : Thread nD τ)

/-- The element of the offset list that entry `k` names. -/
def entryAt {o : ℕ} (hn : si.numel = o) (k : Fin o) : si.Idx := si.rowMajor.symm (k.cast hn.symm)

theorem entryAt_bijective {o : ℕ} (hn : si.numel = o) : Function.Bijective (entryAt hn) :=
  si.rowMajor.symm.bijective.comp (finCongr hn.symm).bijective

/-- Row `j` of a gather, landed: its row of the destination written with the source's row that the list names, the list's
    entry `j` and piece `j` of the source's share back. -/
def rowBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) : sProp 𝕄 :=
  iprop(((dst.view.loc c ↦[(dst.view.slice (s.rowRect hg.axis' j)).set]{fullShare}
          ((dst.view.slice (s.rowRect hg.axis' j)).write (Elt F) fd (fun i => src.view.read (Elt F) fs (hg.rowIdx (r j) i)) Finset.univ))
      ∗ (offs.view.loc c ↦[{offs.view.emb (entryAt hn j)}]{qo} fo))
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') (j : Fin (s.size hg.axis')) :
    Storable (upEmb : UEmb _ 𝕄) (rowBack c src dst hg offs hn q qo fs fd fo r ho j) := by
  unfold rowBack; infer_instance

/-- All the rows of a gather back are the destination written with the gather's payload, the source's share and the
    list's share. -/
theorem rowsBack (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fd : Buf (Elt F) (dst.view.loc c)) (fo : Buf (Elt F) (offs.view.loc c))
    (r : Fin (s.size hg.axis') → Fin (s₀.size hg.axis)) (ho : 0 < s.size hg.axis') :
    bigSep Finset.univ (rowBack c src dst hg offs hn q qo fs fd fo r ho)
      ⊢ (iprop((dst.view.loc c ↦[dst.view.set]{fullShare}
                (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hw := pointsTo_rows_write (Ix := Ix) (Name := Name) (U := U) (Lvl := Lvl) c dst.view hg.axis' fd
    (fun j i => src.view.read (Elt F) fs (hg.rowIdx (r j) i)) (gatherPayload hg (src.view.read (Elt F) fs) r)
    (fun j i => by unfold gatherPayload; rw [Shape.Gathers.idx_rowRect_emb])
  unfold rowBack
  iintro H
  ihave H1 := bigSep_sep_out _ _ _ $$ H
  icases H1 with ⟨H2, Hs⟩
  ihave H3 := bigSep_sep_out _ _ _ $$ H2
  icases H3 with ⟨Hd, Ho⟩
  isplitl [Hd]
  · have e := hw
    istop; exact e
  isplitl [Hs]
  · iapply (Entails.of_eq (pointsTo_piecesOf src.view.set fs ho q).symm) $$ Hs
  · iapply (Entails.of_eq (pointsTo_entries c offs.view (entryAt hn) (entryAt_bijective hn) qo fo).symm) $$ Ho

end Rows

/-! ## The issue -/

variable [Preorder Lvl] {Λ : Labels} {defs : Defs nD τ sig (Elt F) Λ}
variable (EC : UEmb Counters (MT nD τ sig Ix (Elt F) Name U Lvl)) (𝒱 : Variants) (c : Thread nD τ) (bd : Option 𝒱.V)
variable {α : Type} {Q : α → sProp (MT nD τ sig Ix (Elt F) Name U Lvl)}

/-- An indirect gather issued as transfers `k`, …, `k + o − 1` of the batch on its semaphore: holding a share of the
    source, the destination outright, a share of the offset list (every word in range) and the batch with `k` issued, the
    tile issues the stream and holds the batch with `k + o` issued; the batch's deliveries there are entailed by the rows
    back (`hD`). -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {k u : ℕ} (hk : k + s.size hg.axis' ≤ n) (hu : u ≤ k * N)
    (hD : ∀ j, rowBack c src dst hg offs hn q qo fs fd fo (rows (offs.view.read (Elt F) fo) hn hin) ho j ⊢ D (nth k _ hk j)) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcred⟩⟩ Hk
  ihave HI' := pending_take (fun t => count EC (γ t) 0) k (s.size hg.axis') hk $$ HI
  icases HI' with ⟨Hγ, HI⟩
  ihave Hd' := (Entails.of_eq (pointsTo_rows c dst.view hg.axis' fullShare fd)) $$ Hd
  ihave Ho' := (Entails.of_eq (pointsTo_entries c offs.view (entryAt hn) (entryAt_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j, iprop(inv κ (batchBody EC (c, SemLoc.dma sem) N D γ γ₀)
          ∗ ((((dst.view.loc c ↦[(dst.view.slice (s.rowRect hg.axis' j)).set]{fullShare} fd) ∗ (offs.view.loc c ↦[{offs.view.emb (entryAt hn j)}]{qo} fo))
          ∗ (src.view.loc c ↦[src.view.set]{pieceOf q _ ho j} fs)) ∗ count EC (γ (nth k _ hk j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have ham : (rd j).dst.view.amount (.dma sem) = N := hN j
        rw [ham]
        iapply (batch_creditUpdate EC (nth k _ hk j) (hD j))
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (k + s.size hg.axis') * N - u = (k * N - u) + s.size hg.axis' * N by rw [Nat.add_mul]; omega, ← tallyAt_add]
    icombine Hcred Hcred' as H
    iexact H

end Cert.Proof.GatherBatch

end
-- ==== Proof.TileMem.lean ====
/-
  The gather kernel's buffers as one task addresses them, and the steps it takes on them.

  A task has two scratch buffers of two slots each (`iSl p`: 1024 ids; `oSl p`: 1024 rows of 16), and addresses block `g`
  of the id array (`iBlk g`) and of the output (`oBlk g`). The lemmas here are the task's copies and waits, stated once
  for every spelling of the offsets that comes to the canonical one.
-/
module

public import proofs.«01_k».proof.Proof.TileWords
public import proofs.«01_k».proof.Proof.GatherBatch
public import Idealize.ShloMosaic.Lib.SparseCore.Quiescent
public import Idealize.ShloMosaic.Lib.SparseCore.Ops
public import Idealize.ShloMosaic.Lib.Tactic

@[expose] public section

noncomputable section

namespace Cert.Proof.TileMem

open Cert.KernelIdeal Cert.KernelIdeal.Gen
open Idealize.ShloMosaic
open Idealize.ShloMosaic.SparseCore (S V T)
open Idealize.ShloMosaic.SparseCore.Cfg (HIx)
open Idealize.ShloMosaic.Transfers
open Idealize.SL Idealize.SL.RA
open Idealize.SL.BI (sProp Storable bigSep)
open scoped Idealize.SL.BI
open Idealize.SL.BI.BIBase Idealize.SL.BI.Laws Idealize.SL.ProofMode Idealize.SL.Sem
open Idealize.ShloMosaic.Tactic

variable {F : FTy → Type}

/-! ## The buffers -/

abbrev tabV : Memref sig .scVector .hbm S100000x16 .f32 := Memref.whole main_arg1_scv
abbrev idsV : Memref sig .scVector .hbm S1x3200000 .i32 := Memref.whole main_v2_scv
abbrev outV : Memref sig .scVector .hbm S3200000x16 .f32 := Memref.whole main_v3_scv
abbrev iBuf : Memref sig .scVector .vmem S2x1x1024 .i32 := Memref.whole cc0_scoped0
abbrev oBuf : Memref sig .scVector .vmem S2x1024x16 .f32 := Memref.whole cc0_scoped2

theorem iSl_inb (p : Fin 2) : ∀ a, (![p.val, 0, 0] : Fin 3 → ℕ) a + S1x1x1024.size a ≤ S2x1x1024.size a := by
  have := p.isLt
  intro a; fin_cases a <;> simp [S1x1x1024, S2x1x1024]; omega
theorem oSl_inb (p : Fin 2) : ∀ a, (![p.val, 0, 0] : Fin 3 → ℕ) a + S1x1024x16.size a ≤ S2x1024x16.size a := by
  have := p.isLt
  intro a; fin_cases a <;> simp [S1x1024x16, S2x1024x16]; omega
theorem iBlk_inb (g : Fin 3125) : ∀ a, (![0, 1024 * g.val] : Fin 2 → ℕ) a + S1x1024.size a ≤ S1x3200000.size a := by
  have := g.isLt
  intro a; fin_cases a <;> simp [S1x1024, S1x3200000]; omega
theorem oBlk_inb (g : Fin 3125) : ∀ a, (![1024 * g.val, 0] : Fin 2 → ℕ) a + S1024x16.size a ≤ S3200000x16.size a := by
  have := g.isLt
  intro a; fin_cases a <;> simp [S1024x16, S3200000x16]; omega
theorem sem_inb (p : Fin 2) : ∀ a, (![p.val] : Fin 1 → ℕ) a + S1.size a ≤ S2.size a := by
  have := p.isLt
  intro a; fin_cases a; simp [S1, S2]; omega

/-- Slot `p` of the id scratch and of the row scratch; block `g` of the id array and of the output. -/
abbrev iSl (p : Fin 2) : Memref sig .scVector .vmem S1x1024 .i32 :=
  (iBuf.slice (Rect.unit (s := S2x1x1024) ![p.val, 0, 0] S1x1x1024.size (iSl_inb p)) (fun _ => rfl)).squeeze S1x1024 squeezes_S1x1x1024_S1x1024
abbrev oSl (p : Fin 2) : Memref sig .scVector .vmem S1024x16 .f32 :=
  (oBuf.slice (Rect.unit (s := S2x1024x16) ![p.val, 0, 0] S1x1024x16.size (oSl_inb p)) (fun _ => rfl)).squeeze S1024x16 squeezes_S1x1024x16_S1024x16
abbrev iBlk (g : Fin 3125) : Memref sig .scVector .hbm S1x1024 .i32 :=
  idsV.slice (Rect.unit (s := S1x3200000) ![0, 1024 * g.val] S1x1024.size (iBlk_inb g)) (fun _ => rfl)
abbrev oBlk (g : Fin 3125) : Memref sig .scVector .hbm S1024x16 .f32 :=
  outV.slice (Rect.unit (s := S3200000x16) ![1024 * g.val, 0] S1024x16.size (oBlk_inb g)) (fun _ => rfl)
abbrev iSem (p : Fin 2) : DmaSem sig :=
  ((cc0_scoped1.slice (Rect.unit (s := S2) ![p.val] S1.size (sem_inb p))).squeeze S_ squeezes_S1_S_).sem
abbrev oSem (p : Fin 2) : DmaSem sig :=
  ((cc0_scoped3.slice (Rect.unit (s := S2) ![p.val] S1.size (sem_inb p))).squeeze S_ squeezes_S1_S_).sem

/-! ## Held contents -/

variable {U : Type} [URA U] [CountersIn U]

local notation "𝕄" => MT nD τ sig (HIx 1) (Elt F) ℕ U ℕ

variable (d : Dev nD) (i : grid0.Coords)

/-- The task's own thread. -/
abbrev tile : Thread nD τ := V d ((i 0).castLE hcore0) ((i 1).castLE hsub0)

abbrev NI : ℕ := (iSl 0).view.dmaCredit
abbrev NO : ℕ := (oBlk 0).view.dmaCredit

variable (ids : Buf (Elt F) (idsV.view.loc (tile d i))) (G : Buf (Elt F) (outV.view.loc (tile d i))) (q : Fin 2 → PosShare TreeShare)

/-- Slot `p` of the id scratch idle: its elements, its semaphore at zero, the slot's share of the id array. -/
def IIdle (p : Fin 2) : sProp 𝕄 :=
  iprop((∃ f, (iSl p).view.loc (tile d i) ↦[(iSl p).view.set]{fullShare} f) ∗ semVal (tile d i, .dma (iSem p)) 0
    ∗ idsV.view.loc (tile d i) ↦{q p} ids)

/-- Block `g` of the ids on its way to slot `p`. -/
def IFly (p : Fin 2) (g : Fin 3125) : sProp 𝕄 :=
  iprop((∃ fd, Flight countersEmb (tile d i) (.dma (iSem p)) (default : HIx 1) NI
      iprop(((iSl p).view.loc (tile d i) ↦[(iSl p).view.set]{fullShare}
          ((iSl p).view.write (Elt F) fd ((iBlk g).view.read (Elt F) ids) Finset.univ))
        ∗ ((iBlk g).view.loc (tile d i) ↦[(iBlk g).view.set]{q p} ids)))
    ∗ idsV.view.loc (tile d i) ↦[Finset.univ \ (iBlk g).view.set]{q p} ids)

/-- Slot `p` holding block `g` of the ids, awaited. -/
def IHas (p : Fin 2) (g : Fin 3125) : sProp 𝕄 :=
  iprop((∃ f, ⌜(iSl p).view.read (Elt F) f = (iBlk g).view.read (Elt F) ids⌝ ∗ (iSl p).view.loc (tile d i) ↦[(iSl p).view.set]{fullShare} f)
    ∗ semVal (tile d i, .dma (iSem p)) 0 ∗ idsV.view.loc (tile d i) ↦{q p} ids)

/-- Slot `p` of the row scratch idle. -/
def OIdle (p : Fin 2) : sProp 𝕄 :=
  iprop((∃ f, (oSl p).view.loc (tile d i) ↦[(oSl p).view.set]{fullShare} f) ∗ semVal (tile d i, .dma (oSem p)) 0)

/-- Slot `p` holding block `g` of the gathered rows. -/
def OHas (p : Fin 2) (g : Fin 3125) : sProp 𝕄 :=
  iprop((∃ f, ⌜(oSl p).view.read (Elt F) f = (oBlk g).view.read (Elt F) G⌝ ∗ (oSl p).view.loc (tile d i) ↦[(oSl p).view.set]{fullShare} f)
    ∗ semVal (tile d i, .dma (oSem p)) 0)

/-- Slot `p` on its way to block `g` of the output. -/
def OFly (p : Fin 2) (g : Fin 3125) : sProp 𝕄 :=
  Flight countersEmb (tile d i) (.dma (oSem p)) (default : HIx 1) NO
    iprop(((oBlk g).view.loc (tile d i) ↦[(oBlk g).view.set]{fullShare} G)
      ∗ (∃ f, (oSl p).view.loc (tile d i) ↦[(oSl p).view.set]{fullShare} f))

theorem NI_eq (p : Fin 2) : (iSl p).view.dmaCredit = NI := by revert p; decide
theorem NO_eq (g : Fin 3125) : (oBlk g).view.dmaCredit = NO := rfl

variable [FloatOps F]

variable {α : Type} {Ψ : α → sProp (MT nD τ sig (HIx 1) (Elt F) ℕ U ℕ)}

/-- Issuing the copy of block `g` of the ids to slot `p`. -/
theorem wp_fetch (p : Fin 2) (g : Fin 3125) {o4 : Fin 3 → ℕ} {o5 : Fin 2 → ℕ} {o6 : Fin 1 → ℕ}
    (h4 : o4 = ![p.val, 0, 0]) (h5 : o5 = ![0, 1024 * g.val]) (h6 : o6 = ![p.val])
    {n4 : ∀ a, o4 a + S1x1x1024.size a ≤ S2x1x1024.size a} {n5 : ∀ a, o5 a + S1x1024.size a ≤ S1x3200000.size a} {n6 : ∀ a, o6 a + S1.size a ≤ S2.size a}
    {r4 : ∀ a, (Rect.unit (s := S2x1x1024) o4 S1x1x1024.size n4).stride a = 1} {r5 : ∀ a, (Rect.unit (s := S1x3200000) o5 S1x1024.size n5).stride a = 1}
    {hsrc : (idsV.slice (Rect.unit (s := S1x3200000) o5 S1x1024.size n5) r5).view.WordExact}
    {hdst : (DmaTarget.here (nD := nD) (p := (tile d i).2) ((iBuf.slice (Rect.unit (s := S2x1x1024) o4 S1x1x1024.size n4) r4).squeeze S1x1024 squeezes_S1x1x1024_S1x1024)).view.WordExact}
    {ht : (DmaTarget.here (nD := nD) (p := (tile d i).2) ((iBuf.slice (Rect.unit (s := S2x1x1024) o4 S1x1x1024.size n4) r4).squeeze S1x1024 squeezes_S1x1x1024_S1x1024)).Typed .hbm
      (SemLoc.dma ((cc0_scoped1.slice (Rect.unit (s := S2) o6 S1.size n6)).squeeze S_ squeezes_S1_S_).sem)}
    {k : PUnit → Prog (TpuEff nD τ sig (Elt F) Λ₀ (tile d i).2) α} :
    (IIdle d i ids q p : sProp 𝕄) ⊢ iprop((IFly d i ids q p g -∗ wp frame (wpE (defs₀ (F := F)) Variants.none (tile d i) none) Set.univ (k ⟨⟩) Ψ)
      -∗ wp frame (wpE (defs₀ (F := F)) Variants.none (tile d i) none) Set.univ
        (.op (.enqueueDma (idsV.slice (Rect.unit (s := S1x3200000) o5 S1x1024.size n5) r5)
          (.here ((iBuf.slice (Rect.unit (s := S2x1x1024) o4 S1x1x1024.size n4) r4).squeeze S1x1024 squeezes_S1x1x1024_S1x1024))
          (.dma ((cc0_scoped1.slice (Rect.unit (s := S2) o6 S1.size n6)).squeeze S_ squeezes_S1_S_).sem) hsrc hdst ht) k) Ψ) := by
  subst h4; subst h5; subst h6
  unfold IIdle IFly
  iintro ⟨⟨%fd, Hd⟩, Hv, Hs⟩ Hk
  ihave Hs' := (pointsTo_split_subset (Finset.subset_univ (iBlk g).view.set)).1 $$ Hs
  icases Hs' with ⟨Hs, Hr⟩
  iapply (wp_dmaLocal countersEmb Variants.none (tile d i) none (src := iBlk g) (dst := iSl p) (Sd := (iSl p).view.set) (sm := .dma (iSem p)) (default : HIx 1) NI (show (iSl p).view.amount (.dma (iSem p)) = NI from NI_eq p) (by decide) subset_rfl)
    $$ [Hs Hd Hv]
  · isplitl [Hs]; · iexact Hs
    isplitl [Hd]; · iexact Hd
    iexact Hv
  iintro Hf
  iapply Hk
  isplitl [Hf]; · iexists fd; iexact Hf
  iexact Hr

/-- Awaiting it: the slot holds the block. -/
theorem wp_fetched (p : Fin 2) (g : Fin 3125) {o7 : Fin 3 → ℕ} {o8 : Fin 2 → ℕ} {o9 : Fin 1 → ℕ}
    (h7 : o7 = ![p.val, 0, 0]) (h8 : o8 = ![0, 1024 * g.val]) (h9 : o9 = ![p.val])
    {n7 : ∀ a, o7 a + S1x1x1024.size a ≤ S2x1x1024.size a} {n8 : ∀ a, o8 a + S1x1024.size a ≤ S1x3200000.size a} {n9 : ∀ a, o9 a + S1.size a ≤ S2.size a}
    {r7 : ∀ a, (Rect.unit (s := S2x1x1024) o7 S1x1x1024.size n7).stride a = 1} {r8 : ∀ a, (Rect.unit (s := S1x3200000) o8 S1x1024.size n8).stride a = 1}
    {hsrc : (idsV.slice (Rect.unit (s := S1x3200000) o8 S1x1024.size n8) r8).view.WordExact}
    {hdst : ((iBuf.slice (Rect.unit (s := S2x1x1024) o7 S1x1x1024.size n7) r7).squeeze S1x1024 squeezes_S1x1x1024_S1x1024).view.WordExact}
    {k : PUnit → Prog (TpuEff nD τ sig (Elt F) Λ₀ (tile d i).2) α} {O : CellTallies nD τ sig (HIx 1)} {W : Waits sig (HIx 1)} :
    (iprop(IFly d i ids q p g ∗ owes (tile d i) O W ∗ MayWaits (tile d i) (default : HIx 1) O) : sProp 𝕄)
    ⊢ iprop((iprop(IHas d i ids q p g ∗ owes (tile d i) O (insert (SemLoc.dma (iSem p), (default : HIx 1)) W))
        -∗ wp frame (wpE (defs₀ (F := F)) Variants.none (tile d i) none) Set.univ (k ⟨⟩) Ψ)
      -∗ wp frame (wpE (defs₀ (F := F)) Variants.none (tile d i) none) Set.univ
        (.op (.waitDma2 ((cc0_scoped1.slice (Rect.unit (s := S2) o9 S1.size n9)).squeeze S_ squeezes_S1_S_).sem
          (idsV.slice (Rect.unit (s := S1x3200000) o8 S1x1024.size n8) r8)
          ((iBuf.slice (Rect.unit (s := S2x1x1024) o7 S1x1x1024.size n7) r7).squeeze S1x1024 squeezes_S1x1x1024_S1x1024) hsrc hdst) k) Ψ) := by
  subst h7; subst h8; subst h9
  unfold IHas IFly
  iintro ⟨⟨⟨%fd, Hf⟩, Hr⟩, HO, Hmw⟩ Hk
  iapply (wp_waitLocalO countersEmb Variants.none (tile d i) none (default : HIx 1) (NI_eq p)) $$ [Hf HO Hmw]
  · isplitl [Hf]; · iexact Hf
    isplitl [HO]; · iexact HO
    iapply (MayWaits.elim (SemLoc.dma (iSem p))) $$ Hmw
  iintro ⟨⟨Hd, Hs⟩, Hv, HO⟩
  iapply Hk
  isplitr [HO]
  · isplitl [Hd]
    · iexists ((iSl p).view.write (Elt F) fd ((iBlk g).view.read (Elt F) ids) Finset.univ)
      isplitr
      · ipureintro; exact View.read_write_univ _ _
      iexact Hd
    isplitl [Hv]; · iexact Hv
    iapply (pointsTo_split_subset (Finset.subset_univ (iBlk g).view.set)).2
    isplitl [Hs]; · iexact Hs
    iexact Hr
  iexact HO

/-- A block written through its view with what the view reads off `G` is the block at `G`. -/
theorem pts_write_read (g : Fin 3125) (fd : Buf (Elt F) (outV.view.loc (tile d i))) (w : S1024x16.Idx → Elt F .f32)
    (hw : w = (oBlk g).view.read (Elt F) G) :
    ((oBlk g).view.loc (tile d i) ↦[(oBlk g).view.set]{fullShare} ((oBlk g).view.write (Elt F) fd w Finset.univ) : sProp 𝕄)
      = (oBlk g).view.loc (tile d i) ↦[(oBlk g).view.set]{fullShare} G := by
  subst hw
  apply pointsTo_congr
  intro x hx
  obtain ⟨y, -, rfl⟩ := Finset.mem_map.mp hx
  rw [View.write_emb_of_mem _ _ (Finset.mem_univ y), View.read_apply]
  rfl

/-- Issuing the copy of slot `p`'s rows to block `g` of the output. -/
theorem wp_put (p : Fin 2) (g : Fin 3125) {o12 : Fin 3 → ℕ} {o13 : Fin 2 → ℕ} {o14 : Fin 1 → ℕ}
    (h12 : o12 = ![p.val, 0, 0]) (h13 : o13 = ![1024 * g.val, 0]) (h14 : o14 = ![p.val])
    {n12 : ∀ a, o12 a + S1x1024x16.size a ≤ S2x1024x16.size a} {n13 : ∀ a, o13 a + S1024x16.size a ≤ S3200000x16.size a} {n14 : ∀ a, o14 a + S1.size a ≤ S2.size a}
    {r12 : ∀ a, (Rect.unit (s := S2x1024x16) o12 S1x1024x16.size n12).stride a = 1} {r13 : ∀ a, (Rect.unit (s := S3200000x16) o13 S1024x16.size n13).stride a = 1}
    {hsrc : ((oBuf.slice (Rect.unit (s := S2x1024x16) o12 S1x1024x16.size n12) r12).squeeze S1024x16 squeezes_S1x1024x16_S1024x16).view.WordExact}
    {hdst : (DmaTarget.here (nD := nD) (p := (tile d i).2) (outV.slice (Rect.unit (s := S3200000x16) o13 S1024x16.size n13) r13)).view.WordExact}
    {ht : (DmaTarget.here (nD := nD) (p := (tile d i).2) (outV.slice (Rect.unit (s := S3200000x16) o13 S1024x16.size n13) r13)).Typed .vmem
      (SemLoc.dma ((cc0_scoped3.slice (Rect.unit (s := S2) o14 S1.size n14)).squeeze S_ squeezes_S1_S_).sem)}
    {k : PUnit → Prog (TpuEff nD τ sig (Elt F) Λ₀ (tile d i).2) α} (f0 : Buf (Elt F) (outV.view.loc (tile d i))) :
    (iprop(OHas d i G p g ∗ (oBlk g).view.loc (tile d i) ↦[(oBlk g).view.set]{fullShare} f0) : sProp 𝕄)
    ⊢ iprop((OFly d i G p g -∗ wp frame (wpE (defs₀ (F := F)) Variants.none (tile d i) none) Set.univ (k ⟨⟩) Ψ)
      -∗ wp frame (wpE (defs₀ (F := F)) Variants.none (tile d i) none) Set.univ
        (.op (.enqueueDma ((oBuf.slice (Rect.unit (s := S2x1024x16) o12 S1x1024x16.size n12) r12).squeeze S1024x16 squeezes_S1x1024x16_S1024x16)
          (.here (outV.slice (Rect.unit (s := S3200000x16) o13 S1024x16.size n13) r13))
          (.dma ((cc0_scoped3.slice (Rect.unit (s := S2) o14 S1.size n14)).squeeze S_ squeezes_S1_S_).sem) hsrc hdst ht) k) Ψ) := by
  subst h12; subst h13; subst h14
  unfold OHas OFly
  iintro ⟨⟨⟨%fs, %hfs, Hs⟩, Hv⟩, Hd⟩ Hk
  iapply (wp_dmaLocal countersEmb Variants.none (tile d i) none (src := oSl p) (dst := oBlk g) (Sd := (oBlk g).view.set) (sm := .dma (oSem p)) (default : HIx 1) NO (show (oBlk g).view.amount (.dma (oSem p)) = NO from NO_eq g) (by decide) subset_rfl)
    $$ [Hs Hd Hv]
  · isplitl [Hs]; · iexact Hs
    isplitl [Hd]; · iexact Hd
    iexact Hv
  iintro Hf
  iapply Hk
  iapply (Flight_mono countersEmb (tile d i) ?_) $$ Hf
  iintro ⟨Hd, Hs⟩
  isplitl [Hd]
  · iapply (Entails.of_eq (pts_write_read d i G g f0 _ hfs)) $$ Hd
  · iexists fs; iexact Hs

/-- Awaiting it: the output's block is written, the slot idle. -/
theorem wp_putDone (p : Fin 2) (g : Fin 3125) {o15 : Fin 3 → ℕ} {o16 : Fin 2 → ℕ} {o17 : Fin 1 → ℕ}
    (h15 : o15 = ![p.val, 0, 0]) (h16 : o16 = ![1024 * g.val, 0]) (h17 : o17 = ![p.val])
    {n15 : ∀ a, o15 a + S1x1024x16.size a ≤ S2x1024x16.size a} {n16 : ∀ a, o16 a + S1024x16.size a ≤ S3200000x16.size a} {n17 : ∀ a, o17 a + S1.size a ≤ S2.size a}
    {r15 : ∀ a, (Rect.unit (s := S2x1024x16) o15 S1x1024x16.size n15).stride a = 1} {r16 : ∀ a, (Rect.unit (s := S3200000x16) o16 S1024x16.size n16).stride a = 1}
    {hsrc : ((oBuf.slice (Rect.unit (s := S2x1024x16) o15 S1x1024x16.size n15) r15).squeeze S1024x16 squeezes_S1x1024x16_S1024x16).view.WordExact}
    {hdst : (outV.slice (Rect.unit (s := S3200000x16) o16 S1024x16.size n16) r16).view.WordExact}
    {k : PUnit → Prog (TpuEff nD τ sig (Elt F) Λ₀ (tile d i).2) α} {O : CellTallies nD τ sig (HIx 1)} {W : Waits sig (HIx 1)} :
    (iprop(OFly d i G p g ∗ owes (tile d i) O W ∗ MayWaits (tile d i) (default : HIx 1) O) : sProp 𝕄)
    ⊢ iprop((iprop(OIdle d i p ∗ ((oBlk g).view.loc (tile d i) ↦[(oBlk g).view.set]{fullShare} G)
          ∗ owes (tile d i) O (insert (SemLoc.dma (oSem p), (default : HIx 1)) W))
        -∗ wp frame (wpE (defs₀ (F := F)) Variants.none (tile d i) none) Set.univ (k ⟨⟩) Ψ)
      -∗ wp frame (wpE (defs₀ (F := F)) Variants.none (tile d i) none) Set.univ
        (.op (.waitDma2 ((cc0_scoped3.slice (Rect.unit (s := S2) o17 S1.size n17)).squeeze S_ squeezes_S1_S_).sem
          ((oBuf.slice (Rect.unit (s := S2x1024x16) o15 S1x1024x16.size n15) r15).squeeze S1024x16 squeezes_S1x1024x16_S1024x16)
          (outV.slice (Rect.unit (s := S3200000x16) o16 S1024x16.size n16) r16) hsrc hdst) k) Ψ) := by
  subst h15; subst h16; subst h17
  unfold OFly OIdle
  iintro ⟨Hf, HO, Hmw⟩ Hk
  iapply (wp_waitLocalO countersEmb Variants.none (tile d i) none (default : HIx 1) (NO_eq g)) $$ [Hf HO Hmw]
  · isplitl [Hf]; · iexact Hf
    isplitl [HO]; · iexact HO
    iapply (MayWaits.elim (SemLoc.dma (oSem p))) $$ Hmw
  iintro ⟨⟨Hd, Hs⟩, Hv, HO⟩
  iapply Hk
  isplitl [Hs Hv]
  · isplitl [Hs]; · iexact Hs
    iexact Hv
  isplitl [Hd]; · iexact Hd
  iexact HO

end Cert.Proof.TileMem

end
-- ==== Proof.TileGather.lean ====
/-
  The eight gathers of one trip: what the slots hold piece by piece, and the gathered rows put together.

  Stream `j` of 8 gathers rows `128 j`, …, `128 j + 127` of the slot, by the same entries of the slot's ids.
-/
module

public import proofs.«01_k».proof.Proof.TileMem

@[expose] public section

noncomputable section

namespace Cert.Proof.TileGather

open Cert.KernelIdeal Cert.KernelIdeal.Gen Cert.Proof.TileMem Cert.Proof.GatherBatch
open Idealize.ShloMosaic
open Idealize.ShloMosaic.SparseCore (S V T gatherPayload rows)
open Idealize.ShloMosaic.SparseCore.Cfg (HIx)
open Idealize.ShloMosaic.Transfers
open Idealize.SL Idealize.SL.RA
open Idealize.SL.BI (sProp Storable bigSep)
open scoped Idealize.SL.BI
open Idealize.SL.BI.BIBase Idealize.SL.BI.Laws Idealize.SL.ProofMode Idealize.SL.Sem
open Idealize.ShloMosaic.Tactic

variable {F : FTy → Type}
variable {U : Type} [URA U] [CountersIn U]

local notation "𝕄" => MT nD τ sig (HIx 1) (Elt F) ℕ U ℕ

/-! ## A view cut into rectangles -/

/-- A view's elements are those of the rectangles that cut its shape. -/
theorem set_cut {κ : Kind} {sp : Space} {s : Shape} {e : EltTy} (v : View sig κ sp s e) {T : Type} [Fintype T] [DecidableEq T]
    (R : T → Rect s) (hc : ∀ x : s.Idx, ∃ j, x ∈ (R j).set) :
    v.set = Finset.univ.biUnion fun j => (v.slice (R j)).set := by
  ext x
  simp only [Finset.mem_biUnion, Finset.mem_univ, true_and]
  constructor
  · intro hx
    obtain ⟨y, -, rfl⟩ := Finset.mem_map.mp hx
    obtain ⟨j, hj⟩ := hc y
    refine ⟨j, ?_⟩
    rw [View.set_slice]
    exact Finset.mem_map.mpr ⟨y, hj, rfl⟩
  · rintro ⟨j, hj⟩
    rw [View.set_slice] at hj
    obtain ⟨y, -, rfl⟩ := Finset.mem_map.mp hj
    exact Finset.mem_map.mpr ⟨y, Finset.mem_univ _, rfl⟩

theorem set_disj {κ : Kind} {sp : Space} {s : Shape} {e : EltTy} (v : View sig κ sp s e) {R R' : Rect s} (h : Disjoint R.set R'.set) :
    Disjoint (v.slice R).set (v.slice R').set := by
  rw [View.set_slice, View.set_slice]
  exact (Finset.disjoint_map v.emb).mpr h

/-- Held contents of a view are held rectangle by rectangle. -/
theorem pts_cut {c : Thread nD τ} {sp : Space} {s : Shape} {e : EltTy} (v : View sig c.2.kind sp s e) {T : Type} [Fintype T] [DecidableEq T]
    (R : T → Rect s) (hc : ∀ x : s.Idx, ∃ j, x ∈ (R j).set) (hd : ∀ j j', j ≠ j' → Disjoint (R j).set (R j').set)
    (q : PosShare TreeShare) (f : Buf (Elt F) (v.loc c)) :
    (v.loc c ↦[v.set]{q} f : sProp 𝕄) = bigSep Finset.univ fun j => v.loc c ↦[(v.slice (R j)).set]{q} f := by
  rw [set_cut v R hc]
  exact pointsTo_biUnion _ _ fun j _ j' _ h => set_disj v (hd j j' h)

/-! ## The streams' pieces -/

theorem oR_inb (j : Fin 8) : ∀ a, (![128 * j.val, 0] : Fin 2 → ℕ) a + S128x16.size a ≤ S1024x16.size a := by
  have := j.isLt
  intro a; fin_cases a <;> simp [S128x16, S1024x16]; omega
theorem iR_inb (j : Fin 8) : ∀ a, (![0, 128 * j.val] : Fin 2 → ℕ) a + S1x128.size a ≤ S1x1024.size a := by
  have := j.isLt
  intro a; fin_cases a <;> simp [S1x128, S1x1024]; omega

abbrev oR (j : Fin 8) : Rect S1024x16 := Rect.unit (s := S1024x16) ![128 * j.val, 0] S128x16.size (oR_inb j)
abbrev iR (j : Fin 8) : Rect S1x1024 := Rect.unit (s := S1x1024) ![0, 128 * j.val] S1x128.size (iR_inb j)

theorem oR_cover (x : S1024x16.Idx) : ∃ j, x ∈ (oR j).set := by
  have h0 : (x 0).val < 1024 := (x 0).isLt
  have h1 : (x 1).val < 16 := (x 1).isLt
  refine ⟨⟨(x 0).val / 128, by omega⟩, Rect.mem_set_unit.mpr fun a => ?_⟩
  fin_cases a
  · simp [S128x16]; omega
  · simp [S128x16]; omega
theorem iR_cover (x : S1x1024.Idx) : ∃ j, x ∈ (iR j).set := by
  have h0 : (x 0).val < 1 := (x 0).isLt
  have h1 : (x 1).val < 1024 := (x 1).isLt
  refine ⟨⟨(x 1).val / 128, by omega⟩, Rect.mem_set_unit.mpr fun a => ?_⟩
  fin_cases a
  · simp [S1x128]; omega
  · simp [S1x128]; omega
theorem oR_disj (j j' : Fin 8) (h : j ≠ j') : Disjoint (oR j).set (oR j').set :=
  Rect.unit_disjoint 0 (by have : j.val ≠ j'.val := fun e => h (Fin.ext e); simp [S128x16]; omega)
theorem iR_disj (j j' : Fin 8) (h : j ≠ j') : Disjoint (iR j).set (iR j').set :=
  Rect.unit_disjoint 1 (by have : j.val ≠ j'.val := fun e => h (Fin.ext e); simp [S1x128]; omega)

abbrev oSub (p : Fin 2) (j : Fin 8) : Memref sig .scVector .vmem S128x16 .f32 := (oSl p).slice (oR j) (fun _ => rfl)
abbrev iSub (p : Fin 2) (j : Fin 8) : Memref sig .scVector .vmem S128 .i32 := ((iSl p).slice (iR j) (fun _ => rfl)).squeeze S128 squeezes_S1x128_S128
abbrev tabA : Memref sig .scVector .hbm S100000x16 .f32 :=
  tabV.slice (Rect.unit (s := S100000x16) ![0, 0] S100000x16.size inb_S100000x16_S100000x16_0_0) (fun _ => rfl)

variable (d : Dev nD) (i : grid0.Coords)

/-- A row's number, whatever the word. -/
def rowNo (w : BitVec 32) : Fin 100000 := ⟨w.toNat % 100000, Nat.mod_lt _ (by decide)⟩

/-- Row `r`, column `c` of the table; id `n`. -/
def tIx (r : Fin 100000) (c : Fin 16) : S100000x16.Idx
  | 0 => r
  | 1 => c
def nIx (n : Fin 3200000) : S1x3200000.Idx
  | 0 => (0 : Fin 1)
  | 1 => n

/-- The gathered array: row `n` is the table's row that id `n` names. -/
def gath (tab : S100000x16.Idx → Elt F .f32) (ids : S1x3200000.Idx → BitVec 32) : S3200000x16.Idx → Elt F .f32 :=
  fun x => tab (tIx (rowNo (ids (nIx (x 0)))) (x 1))

section Values

variable (tab : Buf (Elt F) (tabV.view.loc (tile d i))) (ids : Buf (Elt F) (idsV.view.loc (tile d i)))

theorem tabA_set : (tabA).view.set = Finset.univ := by
  rw [View.set_slice]
  ext x
  simp only [Finset.mem_univ, iff_true]
  refine Finset.mem_map.mpr ⟨x, Rect.mem_set_unit.mpr fun a => ?_, rfl⟩
  have := (x a).isLt
  fin_cases a <;> simp <;> exact this

/-- The entries of stream `j`, read: the ids of its rows of the block. -/
theorem iSub_read (p : Fin 2) (g : Fin 3125) (j : Fin 8) (fo : Buf (Elt F) ((iSl p).view.loc (tile d i)))
    (ho : (iSl p).view.read (Elt F) fo = (iBlk g).view.read (Elt F) ids) (x : S128.Idx) (n : Fin 3200000)
    (hn : n.val = 1024 * g.val + (128 * j.val + (x 0).val)) :
    (iSub p j).view.read (Elt F) fo x = ids (nIx n) := by
  have hx : (x 0).val < 128 := (x 0).isLt
  have e : (Shape.reshapeEquiv (s := S1x128) (s' := S128) (by decide) x) = (fun | 0 => (0 : Fin 1) | 1 => (⟨(x 0).val, hx⟩ : Fin 128) : S1x128.Idx) := by
    apply Shape.reshapeEquiv_eq_of_rowMajor
    rw [Shape.rowMajor_val_one]
    erw [Shape.rowMajor_val_two]
    simp
  have h := congrFun ho ((iR j).emb (Shape.reshapeEquiv (s := S1x128) (s' := S128) (by decide) x))
  refine Eq.trans (b := (iSl p).view.read (Elt F) fo ((iR j).emb (Shape.reshapeEquiv (s := S1x128) (s' := S128) (by decide) x))) rfl (h.trans ?_)
  rw [e]
  show ids _ = ids _
  congr 1
  funext a
  match a with
  | 0 => rfl
  | 1 =>
    apply Fin.ext
    show 1024 * g.val + 1 * (128 * j.val + 1 * (x 0).val) = n.val
    omega

/-- What stream `j` brings is the block's rows of the gathered array. -/
theorem payload (p : Fin 2) (g : Fin 3125) (j : Fin 8) (fo : Buf (Elt F) ((iSl p).view.loc (tile d i)))
    (ho : (iSl p).view.read (Elt F) fo = (iBlk g).view.read (Elt F) ids) {hn : S128.numel = 128}
    (hin : ∀ x, ((iSub p j).view.read (Elt F) fo x).toNat < 100000) (x : S128x16.Idx) :
    gatherPayload gathers_S100000x16_S128x16 (tabA.view.read (Elt F) tab) (rows (F := F) ((iSub p j).view.read (Elt F) fo) hn hin) x
      = (oBlk g).view.read (Elt F) (gath (F := F) tab ids) ((oR j).emb x) := by
  have hx : (x 0).val < 128 := (x 0).isLt
  have hg := g.isLt
  have hj := j.isLt
  let n : Fin 3200000 := ⟨1024 * g.val + (128 * j.val + (x 0).val), by omega⟩
  have hk : S128.rowMajor.symm ((⟨(x 0).val, hx⟩ : Fin 128).cast hn.symm) = (fun | 0 => ⟨(x 0).val, hx⟩ : S128.Idx) := by
    rw [Equiv.symm_apply_eq]
    apply Fin.ext
    erw [Shape.rowMajor_val_one]
    rfl
  have hr : (iSub p j).view.read (Elt F) fo (S128.rowMajor.symm ((⟨(x 0).val, hx⟩ : Fin 128).cast hn.symm)) = ids (nIx n) := by
    rw [hk]; exact iSub_read d i ids p g j fo ho _ n rfl
  have hlt : (ids (nIx n)).toNat < 100000 := by rw [← hr]; exact hin _
  unfold gatherPayload
  show tab _ = tab _
  congr 1
  funext a
  match a with
  | 0 =>
    apply Fin.ext
    show 0 + 1 * ((gathers_S100000x16_S128x16.idx _ x) gathers_S100000x16_S128x16.axis).val = (rowNo (ids (nIx _))).val
    rw [Shape.Gathers.idx_axis]
    show 0 + 1 * ((iSub p j).view.read (Elt F) fo (S128.rowMajor.symm ((⟨(x 0).val, hx⟩ : Fin 128).cast hn.symm))).toNat = _
    rw [hr]
    have : ids (nIx n) = ids (nIx (((oBlk g).view.emb ((oR j).emb x)) 0)) := by
      congr 2
      apply Fin.ext
      show 1024 * g.val + (128 * j.val + (x 0).val) = 1024 * g.val + 1 * (128 * j.val + 1 * (x 0).val)
      omega
    show _ = (ids (nIx (((oBlk g).view.emb ((oR j).emb x)) 0))).toNat % 100000
    rw [← this, Nat.mod_eq_of_lt hlt]; omega
  | 1 =>
    apply Fin.ext
    show 0 + 1 * ((gathers_S100000x16_S128x16.idx _ x) 1).val = 0 + 1 * (0 + 1 * (x 1).val)
    rw [Shape.Gathers.idx_of_ne _ _ _ _ (by decide)]
    show 0 + 1 * (x 1).val = _
    omega

end Values

/-! ## The batch of 1024 rows -/

section Batches

variable (tab : Buf (Elt F) (tabV.view.loc (tile d i))) (ids : Buf (Elt F) (idsV.view.loc (tile d i))) (q : PosShare TreeShare) (p : Fin 2)
  (fd : Buf (Elt F) ((oSl p).view.loc (tile d i))) (fo : Buf (Elt F) ((iSl p).view.loc (tile d i)))
  (hin : ∀ j x, ((iSub p j).view.read (Elt F) fo x).toNat < 100000)

abbrev gSem : DmaSem sig := cc0_scratch0.sem

/-- Row `r` of stream `j`, landed. -/
def strm (j : Fin 8) (r : Fin 128) : sProp 𝕄 :=
  rowBack (tile d i) tabA (oSub p j) gathers_S100000x16_S128x16 (iSub p j) rfl (pieceOf q 8 (by decide) j) fullShare tab fd fo
    (rows (F := F) ((iSub p j).view.read (Elt F) fo) rfl (hin j)) (by decide) r

/-- Transfer `t` of the batch is row `t % 128` of stream `t / 128`. -/
def dlv (t : Fin 1024) : sProp 𝕄 :=
  strm (U := U) d i tab q p fd fo hin ⟨t.val / 128, by have := t.isLt; omega⟩ ⟨t.val % 128, Nat.mod_lt _ (by decide)⟩

theorem dlv_nth (j : Fin 8) {h} (r : Fin 128) :
    dlv (U := U) d i tab q p fd fo hin (nth (128 * j.val) 128 h r) = strm (U := U) d i tab q p fd fo hin j r := by
  have hr := r.isLt
  unfold dlv
  congr 1
  · apply Fin.ext
    show (128 * j.val + r.val) / 128 = j.val
    omega
  · apply Fin.ext
    show (128 * j.val + r.val) % 128 = r.val
    omega

instance strm_storable (j : Fin 8) (r : Fin 128) : Storable (upEmb : UEmb _ 𝕄) (strm (U := U) d i tab q p fd fo hin j r) := by
  unfold strm; exact rowBack_storable ..
instance dlv_storable (t : Fin 1024) : Storable (upEmb : UEmb _ 𝕄) (dlv (U := U) d i tab q p fd fo hin t) := by
  unfold dlv; infer_instance

/-- What stream `j` is issued with. -/
def piece (j : Fin 8) : sProp 𝕄 :=
  iprop(((tabA).view.loc (tile d i) ↦[(tabA).view.set]{pieceOf q 8 (by decide) j} tab)
    ∗ ((oSub p j).view.loc (tile d i) ↦[(oSub p j).view.set]{fullShare} fd)
    ∗ ((iSub p j).view.loc (tile d i) ↦[(iSub p j).view.set]{fullShare} fo))

/-- One row's credit. -/
abbrev NR : ℕ := ((oSub 0 0).slice (S128x16.rowRect (gathers_S100000x16_S128x16).axis' ⟨0, by decide⟩) (S128x16.stride_rowRect _ _)).view.dmaCredit

/-- `k` streams issued, credit `u` awaited. -/
def GS (k u : ℕ) : sProp 𝕄 :=
  iprop(Batch countersEmb (tile d i) (.dma gSem) (default : HIx 1) NR (dlv (U := U) d i tab q p fd fo hin) (128 * k) u
    ∗ bigSep (pending k) (piece (U := U) d i tab q p fd fo))

theorem iSub_set (j : Fin 8) : (iSub p j).view.set = ((iSl p).view.slice (iR j)).set := View.set_reshape _ _

/-- Stream `j`'s ids, held through its own view or through the slot's rectangle. -/
theorem iSub_pts (j : Fin 8) :
    ((iSub p j).view.loc (tile d i) ↦[(iSub p j).view.set]{fullShare} fo : sProp 𝕄)
      = ((iSl p).view.loc (tile d i) ↦[((iSl p).view.slice (iR j)).set]{fullShare} fo) := by
  rw [iSub_set]

theorem iSub_cut :
    ((iSl p).view.loc (tile d i) ↦[(iSl p).view.set]{fullShare} fo : sProp 𝕄)
      = bigSep Finset.univ fun j => ((iSub p j).view.loc (tile d i) ↦[(iSub p j).view.set]{fullShare} fo) :=
  (pts_cut (U := U) (c := tile d i) (iSl p).view iR iR_cover iR_disj fullShare fo).trans
    (congrArg (bigSep Finset.univ) (funext fun j => (iSub_pts (U := U) d i p fo j).symm))

theorem oSub_cut (f : Buf (Elt F) ((oSl p).view.loc (tile d i))) :
    ((oSl p).view.loc (tile d i) ↦[(oSl p).view.set]{fullShare} f : sProp 𝕄)
      = bigSep Finset.univ fun j => ((oSub p j).view.loc (tile d i) ↦[(oSub p j).view.set]{fullShare} f) :=
  pts_cut (U := U) (c := tile d i) (oSl p).view oR oR_cover oR_disj fullShare f

theorem tab_cut :
    ((tabV.view.loc (tile d i) ↦{q} tab) : sProp 𝕄)
      = bigSep Finset.univ fun j => ((tabA).view.loc (tile d i) ↦[(tabA).view.set]{pieceOf q 8 (by decide) j} tab) := by
  rw [tabA_set]
  exact pointsTo_piecesOf (Ix := HIx 1) (Name := ℕ) (U := U) (Lvl := ℕ) (ℓ := tabV.view.loc (tile d i)) Finset.univ tab (o := 8) (by decide) q

/-- The batch opened. -/
theorem gs_start :
    (iprop((tabV.view.loc (tile d i) ↦{q} tab) ∗ ((oSl p).view.loc (tile d i) ↦[(oSl p).view.set]{fullShare} fd)
        ∗ ((iSl p).view.loc (tile d i) ↦[(iSl p).view.set]{fullShare} fo) ∗ semVal (tile d i, .dma gSem) 0) : sProp 𝕄)
      ⊢ iprop(|={Set.univ}=> GS (U := U) d i tab q p fd fo hin 0 0) := by
  rw [tab_cut, oSub_cut, iSub_cut]
  iintro ⟨Ht, Ho, Hi, Hs⟩
  imod (batch_alloc' countersEmb (tile d i) (default : HIx 1) NR (dlv (U := U) d i tab q p fd fo hin) (E := Set.univ)) $$ Hs with HB
  imodintro
  unfold GS
  isplitl [HB]; · iexact HB
  rw [pending_zero]
  unfold piece
  ihave H := bigSep_sep_in _ _ _ $$ [Ho Hi]; · isplitl [Ho] <;> iassumption
  ihave H := bigSep_sep_in _ _ _ $$ [Ht H]; · isplitl [Ht] <;> iassumption
  iexact H

variable [FloatOps F]

variable {Ψ : PUnit → sProp (MT nD τ sig (HIx 1) (Elt F) ℕ U ℕ)}

/-- Issuing stream `j`. -/
theorem wp_issue (j : Fin 8) {u : ℕ} (hu : u ≤ 128 * j.val * NR) {o10 : Fin 3 → ℕ} {o11 : Fin 3 → ℕ} {oo : Fin 2 → ℕ} {oi : Fin 2 → ℕ}
    (h10 : o10 = ![p.val, 0, 0]) (h11 : o11 = ![p.val, 0, 0]) (hoo : oo = ![128 * j.val, 0]) (hoi : oi = ![0, 128 * j.val])
    {n10 : ∀ a, o10 a + S1x1024x16.size a ≤ S2x1024x16.size a} {n11 : ∀ a, o11 a + S1x1x1024.size a ≤ S2x1x1024.size a}
    {noo : ∀ a, oo a + S128x16.size a ≤ S1024x16.size a} {noi : ∀ a, oi a + S1x128.size a ≤ S1x1024.size a}
    {r10 : ∀ a, (Rect.unit (s := S2x1024x16) o10 S1x1024x16.size n10).stride a = 1} {r11 : ∀ a, (Rect.unit (s := S2x1x1024) o11 S1x1x1024.size n11).stride a = 1}
    {roo : ∀ a, (Rect.unit (s := S1024x16) oo S128x16.size noo).stride a = 1} {roi : ∀ a, (Rect.unit (s := S1x1024) oi S1x128.size noi).stride a = 1}
    {hp : (tile d i).2.kind = .scVector} {hn : S128.numel = S128x16.size (gathers_S100000x16_S128x16).axis'}
    {hsrc : tabA.view.WordExact} {he : EltTy.f32.bits = 32} {hsp : Space.hbm = .hbm ∨ Space.hbm = .shared} {hr : S100000x16.StreamRows 0} :
    (GS (U := U) d i tab q p fd fo hin j.val u : sProp 𝕄)
    ⊢ iprop((GS (U := U) d i tab q p fd fo hin (j.val + 1) u -∗ Ψ ⟨⟩)
      -∗ wp frame (wpE (defs₀ (F := F)) Variants.none (tile d i) none) Set.univ
        (SparseCore.enqueueIndirectGather hp tabA
          (((oBuf.slice (Rect.unit (s := S2x1024x16) o10 S1x1024x16.size n10) r10).squeeze S1024x16 squeezes_S1x1024x16_S1024x16).slice
            (Rect.unit (s := S1024x16) oo S128x16.size noo) roo)
          gathers_S100000x16_S128x16
          ((((iBuf.slice (Rect.unit (s := S2x1x1024) o11 S1x1x1024.size n11) r11).squeeze S1x1024 squeezes_S1x1x1024_S1x1024).slice
            (Rect.unit (s := S1x1024) oi S1x128.size noi) roi).squeeze S128 squeezes_S1x128_S128)
          hn gSem hsrc he hsp hr) Ψ) := by
  subst h10; subst h11; subst hoo; subst hoi
  have hb : ∀ (m : Prog (TpuEff nD τ sig (Elt F) Λ₀ (tile d i).2) PUnit),
      wp frame (wpE (defs₀ (F := F)) Variants.none (tile d i) none) Set.univ m Ψ
        = wp frame (wpE (defs₀ (F := F)) Variants.none (tile d i) none) Set.univ (m >>= pure) Ψ := fun m => by rw [bind_pure]
  rw [hb]
  have hj := j.isLt
  iintro H Hk
  unfold GS
  icases H with ⟨HB, HP⟩
  ihave HP' := (Entails.of_eq (bigSep_pending_step (piece (U := U) d i tab q p fd fo) j.val hj)) $$ HP
  icases HP' with ⟨Hp, HP⟩
  unfold piece
  icases Hp with ⟨Ht, Ho, Hi⟩
  iapply (Cert.Proof.GatherBatch.wp_gatherBatch countersEmb Variants.none (tile d i) none (src := tabA) (dst := oSub p j) (hg := gathers_S100000x16_S128x16) (offs := iSub p j)
    (hn := rfl) (default : HIx 1) NR (fun _ => rfl) (by decide) (hin j) (D := dlv (U := U) d i tab q p fd fo hin) (k := 128 * j.val) (u := u)
    (show 128 * j.val + 128 ≤ 1024 by omega) hu (fun r => ?_)) $$ [HB Ht Ho Hi]
  · exact Entails.of_eq (dlv_nth (U := U) d i tab q p fd fo hin j r).symm
  · isplitl [Ht]; · iexact Ht
    isplitl [Ho]; · iexact Ho
    isplitl [Hi]; · iexact Hi
    iexact HB
  iintro HB
  rw [wp_pure]
  imodintro
  iapply Hk
  isplitl [HB]; · iexact HB
  iexact HP

variable {O : CellTallies nD τ sig (HIx 1)} {W : Waits sig (HIx 1)}

theorem room (m : ℕ) (hm : m < 8) (N : ℕ) : m * (128 * N) + 128 * N ≤ N * (128 * 8) := by
  have := Nat.mul_le_mul_right (128 * N) (show m + 1 ≤ 8 by omega)
  rw [Nat.succ_mul] at this
  omega

theorem room_last (N : ℕ) : 7 * (128 * N) + 128 * N = N * 1024 := by omega

/-- A wait of one stream's credit that leaves some of the batch awaited. -/
theorem wp_gwait {u : ℕ} (m : ℕ) (hm : m < 8) (hu : u = m * (128 * NR)) {src : Memref sig .scVector .hbm S100000x16 .f32} {dst : Memref sig .scVector .vmem S128x16 .f32}
    (hc : dst.view.dmaCredit = 128 * NR) {hsrc : src.view.WordExact} {hdst : dst.view.WordExact} :
    (iprop(GS (U := U) d i tab q p fd fo hin 8 u ∗ owes (tile d i) O W ∗ MayWaits (tile d i) (default : HIx 1) O) : sProp 𝕄)
    ⊢ iprop((iprop(GS (U := U) d i tab q p fd fo hin 8 ((m + 1) * (128 * NR)) ∗ owes (tile d i) O (insert (SemLoc.dma gSem, (default : HIx 1)) W)) -∗ Ψ ⟨⟩)
      -∗ wp frame (wpE (defs₀ (F := F)) Variants.none (tile d i) none) Set.univ (SparseCore.waitIndirectGather gSem src dst hsrc hdst) Ψ) := by
  subst hu
  unfold GS
  iintro ⟨⟨HB, HP⟩, HO, Hmw⟩ Hk
  unfold SparseCore.waitIndirectGather
  iapply (wp_waitBatchMulO countersEmb Variants.none (tile d i) none (default : HIx 1) 128 hc (D := dlv (U := U) d i tab q p fd fo hin) (j := 128 * 8) (u := m * (128 * NR))
    (room m hm NR)) $$ [HB HO Hmw]
  · isplitl [HB]; · iexact HB
    isplitl [HO]; · iexact HO
    iapply (MayWaits.elim (SemLoc.dma gSem)) $$ Hmw
  iintro ⟨HB, HO⟩
  rw [wp_ret]
  imodintro
  iapply Hk
  isplitr [HO]
  · isplitl [HB]
    · rw [show (m + 1) * (128 * NR) = m * (128 * NR) + 128 * NR from Nat.succ_mul _ _]; iexact HB
    · iexact HP
  · iexact HO

/-- The last wait: every row has landed. -/
theorem wp_gwaitLast {u : ℕ} (hu : u = 7 * (128 * NR)) {src : Memref sig .scVector .hbm S100000x16 .f32} {dst : Memref sig .scVector .vmem S128x16 .f32}
    (hc : dst.view.dmaCredit = 128 * NR) {hsrc : src.view.WordExact} {hdst : dst.view.WordExact} :
    (iprop(GS (U := U) d i tab q p fd fo hin 8 u ∗ owes (tile d i) O W ∗ MayWaits (tile d i) (default : HIx 1) O) : sProp 𝕄)
    ⊢ iprop((iprop(bigSep Finset.univ (dlv (U := U) d i tab q p fd fo hin) ∗ semVal (tile d i, .dma gSem) 0
          ∗ owes (tile d i) O (insert (SemLoc.dma gSem, (default : HIx 1)) W)) -∗ Ψ ⟨⟩)
      -∗ wp frame (wpE (defs₀ (F := F)) Variants.none (tile d i) none) Set.univ (SparseCore.waitIndirectGather gSem src dst hsrc hdst) Ψ) := by
  subst hu
  unfold GS
  iintro ⟨⟨HB, HP⟩, HO, Hmw⟩ Hk
  unfold SparseCore.waitIndirectGather
  iapply (wp_waitBatchAllO countersEmb Variants.none (tile d i) none (default : HIx 1) hc (by decide) (D := dlv (U := U) d i tab q p fd fo hin) (u := 7 * (128 * NR))
    (room_last NR)) $$ [HB HO Hmw]
  · isplitl [HB]; · iexact HB
    isplitl [HO]; · iexact HO
    iapply (MayWaits.elim (SemLoc.dma gSem)) $$ Hmw
  iintro ⟨HB, Hs, HO⟩
  rw [wp_ret]
  imodintro
  iapply Hk
  isplitl [HB]; · iexact HB
  isplitl [Hs]; · iexact Hs
  iexact HO

theorem bigSep_each {I : Type} [Fintype I] (Φ Φ' : I → sProp (MT nD τ sig (HIx 1) (Elt F) ℕ U ℕ)) (h : ∀ j, Φ j ⊢ Φ' j) :
    (bigSep Finset.univ Φ : sProp 𝕄) ⊢ bigSep Finset.univ Φ' := BI.bigSep_mono fun j _ => h j

/-- The batch's rows, stream by stream. -/
theorem dlv_streams :
    bigSep Finset.univ (dlv (U := U) d i tab q p fd fo hin)
      = bigSep Finset.univ fun j : Fin 8 => bigSep Finset.univ fun r : Fin 128 => strm (U := U) d i tab q p fd fo hin j r := by
  rw [BI.bigSep_univ_equiv (finProdFinEquiv (m := 8) (n := 128)) (dlv (U := U) d i tab q p fd fo hin), BI.bigSep_univ_prod]
  refine congrArg _ (funext fun j => congrArg _ (funext fun r => ?_))
  rw [← dlv_nth (h := by have := j.isLt; omega)]
  congr 1
  apply Fin.ext
  show r.val + 128 * j.val = 128 * j.val + r.val
  omega

/-- All 1024 rows landed: the slot holds block `g` of the gathered array, and the table's share and the ids are back. -/
theorem gs_done (g : Fin 3125) (ids : Buf (Elt F) (idsV.view.loc (tile d i)))
    (ho : (iSl p).view.read (Elt F) fo = (iBlk g).view.read (Elt F) ids) :
    bigSep Finset.univ (dlv (U := U) d i tab q p fd fo hin)
      ⊢ (iprop((tabV.view.loc (tile d i) ↦{q} tab) ∗ ((iSl p).view.loc (tile d i) ↦[(iSl p).view.set]{fullShare} fo)
        ∗ (∃ f, ⌜(oSl p).view.read (Elt F) f = (oBlk g).view.read (Elt F) (gath (F := F) tab ids)⌝
            ∗ ((oSl p).view.loc (tile d i) ↦[(oSl p).view.set]{fullShare} f))) : sProp 𝕄) := by
  have hs : ∀ j : Fin 8, bigSep Finset.univ (fun r : Fin 128 => strm (U := U) d i tab q p fd fo hin j r)
      ⊢ (iprop(((oSub p j).view.loc (tile d i) ↦[(oSub p j).view.set]{fullShare}
            ((oSl p).view.write (Elt F) fd ((oBlk g).view.read (Elt F) (gath (F := F) tab ids)) Finset.univ))
          ∗ ((tabA).view.loc (tile d i) ↦[(tabA).view.set]{pieceOf q 8 (by decide) j} tab)
          ∗ ((iSub p j).view.loc (tile d i) ↦[(iSub p j).view.set]{fullShare} fo)) : sProp 𝕄) := fun j => by
    refine (rowsBack (tile d i) tabA (oSub p j) gathers_S100000x16_S128x16 (iSub p j) rfl (pieceOf q 8 (by decide) j) fullShare tab fd fo
      (rows (F := F) ((iSub p j).view.read (Elt F) fo) rfl (hin j)) (by decide)).trans ?_
    iintro ⟨Hd, Ht, Hi⟩
    isplitl [Hd]
    · iapply (Entails.of_eq (pointsTo_congr fun x hx => ?_)) $$ Hd
      obtain ⟨y, -, rfl⟩ := Finset.mem_map.mp hx
      rw [View.write_emb_of_mem _ _ (Finset.mem_univ _)]
      rw [show (oSub p j).view.emb y = (oSl p).view.emb ((oR j).emb y) from rfl, View.write_emb_of_mem _ _ (Finset.mem_univ _)]
      exact congrArg (cast _) (payload d i tab ids p g j fo ho (hin j) y)
    isplitl [Ht]; · iexact Ht
    iexact Hi
  rw [dlv_streams, tab_cut, iSub_cut]
  iintro H
  ihave H := (bigSep_each _ _ hs) $$ H
  ihave H := bigSep_sep_out _ _ _ $$ H
  icases H with ⟨Ho, H⟩
  ihave H := bigSep_sep_out _ _ _ $$ H
  icases H with ⟨Ht, Hi⟩
  isplitl [Ht]; · iexact Ht
  isplitl [Hi]; · iexact Hi
  iexists _
  isplitr
  rotate_left
  · iapply (Entails.of_eq (oSub_cut (U := U) d i p _).symm) $$ Ho
  · ipureintro; exact View.read_write_univ _ _

end Batches

end Cert.Proof.TileGather

end
-- ==== Proof.TileTrip.lean ====
/-
  One trip of the gather kernel's pipeline, with the rows it leaves.

  A task at trip `n` has block `n` of its ids on the way (`INext`), block `n − 1` of the gathered rows on the way out
  (`OPend`), the blocks before that in the output and the blocks from `n` on still untouched.
-/
module

public import proofs.«01_k».proof.Proof.TileChecks
public import proofs.«01_k».proof.Proof.TileGather
public import proofs.«01_k».proof.Proof.Gen.KernelIdeal.Skeleton

@[expose] public section

noncomputable section

namespace Cert.Proof.TileTrip

open Cert.KernelIdeal Cert.KernelIdeal.Gen Cert.Proof.TileWords Cert.Proof.TileChecks Cert.Proof.TileMem Cert.Proof.TileGather Cert.Proof.GatherBatch
open Idealize.ShloMosaic
open Idealize.ShloMosaic.SparseCore (S V T)
open Idealize.ShloMosaic.SparseCore.Cfg (HIx)
open Idealize.ShloMosaic.Transfers
open Idealize.SL Idealize.SL.RA
open Idealize.SL.BI (sProp Storable bigSep bigSep_insert)
open scoped Idealize.SL.BI
open Idealize.SL.BI.BIBase Idealize.SL.BI.Laws Idealize.SL.Sem Idealize.SL.ProofMode

variable {F : FTy → Type}
variable {U : Type} [URA U] [CountersIn U]

local notation "𝕄" => MT nD τ sig (HIx 1) (Elt F) ℕ U ℕ

def par (n : ℕ) : Fin 2 := ⟨n % 2, Nat.mod_lt _ (by decide)⟩
def blk (i : grid0.Coords) (n : ℕ) : Fin 3125 := ⟨(bs i + n) % 3125, Nat.mod_lt _ (by decide)⟩

theorem par_add_two (n : ℕ) : par (n + 2) = par n := Fin.ext (by simp [par])
theorem par_pred (n : ℕ) (h : 0 < n) : par (n + 1) = par (n - 1) := Fin.ext (by simp [par]; omega)
theorem blk_val {i : grid0.Coords} {n : ℕ} (h : n < nb i) : (blk i n).val = bs i + n := by
  have := bs_nb i
  exact Nat.mod_eq_of_lt (by omega)

variable (d : Dev nD) (i : grid0.Coords)
variable (tab : Buf (Elt F) (tabV.view.loc (tile d i))) (ids : Buf (Elt F) (idsV.view.loc (tile d i)))
  (qt : PosShare TreeShare) (q : Fin 2 → PosShare TreeShare) (f0 : Buf (Elt F) (outV.view.loc (tile d i)))

/-- Block `n` of the ids on its way, or, past the last, its slot idle. -/
def INext (n : ℕ) : sProp 𝕄 := if n < nb i then IFly (U := U) d i ids q (par n) (blk i n) else IIdle (U := U) d i ids q (par n)

/-- Block `n − 1` of the rows on its way out, or, before the first, its slot idle. -/
def OPend (n : ℕ) : sProp 𝕄 :=
  if 0 < n then OFly (U := U) d i (gath (F := F) tab ids) (par (n + 1)) (blk i (n - 1)) else OIdle (U := U) d i (par (n + 1))

/-- Block `m` of the output at `f`. -/
def OB (f : Buf (Elt F) (outV.view.loc (tile d i))) (m : ℕ) : sProp 𝕄 :=
  (oBlk (blk i m)).view.loc (tile d i) ↦[(oBlk (blk i m)).view.set]{fullShare} f

variable (O : CellTallies nD τ sig (HIx 1)) (W : Waits sig (HIx 1))

/-- What is owed, with only local waits recorded since `W`. -/
def OW : sProp 𝕄 := iprop(∃ W', ⌜∀ p ∈ W', p ∈ W ∨ p.2 = none⌝ ∗ owes (tile d i) O W')

theorem ow_insert {W' : Waits sig (HIx 1)} (h : ∀ p ∈ W', p ∈ W ∨ p.2 = none) (sm : SemLoc sig) :
    (owes (tile d i) O (insert (sm, (default : HIx 1)) W') : sProp 𝕄) ⊢ OW (U := U) (F := F) d i O W := by
  unfold OW
  iintro H
  iexists _
  isplitr
  rotate_left
  · iexact H
  ipureintro
  intro p hp
  rcases Finset.mem_insert.mp hp with rfl | hp
  · exact Or.inr rfl
  · exact h p hp

variable [FloatOps F]

variable (hr : ∀ n : Fin 3200000, (ids (nIx n)).toNat < 100000)

include hr in
/-- The ids of a slot that holds a block of the id array are in range. -/
theorem hin_of {p : Fin 2} {g : Fin 3125} {fo : Buf (Elt F) ((iSl p).view.loc (tile d i))}
    (ho : (iSl p).view.read (Elt F) fo = (iBlk g).view.read (Elt F) ids) (j : Fin 8) (x : S128.Idx) :
    ((iSub p j).view.read (Elt F) fo x).toNat < 100000 := by
  have hx : (x 0).val < 128 := (x 0).isLt
  have hg := g.isLt
  have hj := j.isLt
  rw [iSub_read d i ids p g j fo ho x ⟨1024 * g.val + (128 * j.val + (x 0).val), by omega⟩ rfl]
  exact hr _

/-- The eight gathers of trip `n` under way: `k` of them issued, credit `u` awaited. -/
def Mid (n k u : ℕ) : sProp 𝕄 :=
  iprop(∃ fd, ∃ fo : {fo : Buf (Elt F) ((iSl (par n)).view.loc (tile d i)) // (iSl (par n)).view.read (Elt F) fo = (iBlk (blk i n)).view.read (Elt F) ids},
    GS (U := U) d i tab qt (par n) fd fo.1 (hin_of d i ids hr fo.2) k u
      ∗ semVal (tile d i, .dma (iSem (par n))) 0 ∗ (idsV.view.loc (tile d i) ↦{q (par n)} ids) ∗ semVal (tile d i, .dma (oSem (par n))) 0)

/-- The gathers begun. -/
theorem mid_start (n : ℕ) :
    (iprop(IHas (U := U) d i ids q (par n) (blk i n) ∗ OIdle (U := U) d i (par n) ∗ (tabV.view.loc (tile d i) ↦{qt} tab) ∗ semVal (tile d i, .dma gSem) 0) : sProp 𝕄)
      ⊢ iprop(|={Set.univ}=> Mid (U := U) d i tab ids qt q hr n 0 0) := by
  unfold IHas OIdle Mid
  iintro ⟨⟨⟨%fo, %ho, Hi⟩, His, Hids⟩, ⟨⟨%fd, Ho⟩, Hos⟩, Ht, Hg⟩
  imod (gs_start (U := U) d i tab qt (par n) fd fo (hin_of d i ids hr ho)) $$ [Ht Ho Hi Hg] with H
  · isplitl [Ht]; · iexact Ht
    isplitl [Ho]; · iexact Ho
    isplitl [Hi]; · iexact Hi
    iexact Hg
  imodintro
  iexists fd, ⟨fo, ho⟩
  isplitl [H]; · iexact H
  isplitl [His]; · iexact His
  isplitl [Hids]; · iexact Hids
  iexact Hos

section Steps
variable {Ψ : PUnit → sProp (MT nD τ sig (HIx 1) (Elt F) ℕ U ℕ)}

/-- Stream `j` issued. -/
theorem wp_mid_issue (n k jo : ℕ) (hk : k < 8) (hjo : jo = 128 * k) {o10 : Fin 3 → ℕ} {o11 : Fin 3 → ℕ}
    (h10 : o10 = ![n % 2, 0, 0]) (h11 : o11 = ![n % 2, 0, 0])
    {n10 : ∀ a, o10 a + S1x1024x16.size a ≤ S2x1024x16.size a} {n11 : ∀ a, o11 a + S1x1x1024.size a ≤ S2x1x1024.size a}
    {noo : ∀ a, (![jo, 0] : Fin 2 → ℕ) a + S128x16.size a ≤ S1024x16.size a} {noi : ∀ a, (![0, jo] : Fin 2 → ℕ) a + S1x128.size a ≤ S1x1024.size a}
    {r10 : ∀ a, (Rect.unit (s := S2x1024x16) o10 S1x1024x16.size n10).stride a = 1} {r11 : ∀ a, (Rect.unit (s := S2x1x1024) o11 S1x1x1024.size n11).stride a = 1}
    {roo : ∀ a, (Rect.unit (s := S1024x16) ![jo, 0] S128x16.size noo).stride a = 1} {roi : ∀ a, (Rect.unit (s := S1x1024) ![0, jo] S1x128.size noi).stride a = 1}
    {hp : (tile d i).2.kind = .scVector} {hn : S128.numel = S128x16.size (gathers_S100000x16_S128x16).axis'}
    {hsrc : tabA.view.WordExact} {he : EltTy.f32.bits = 32} {hsp : Space.hbm = .hbm ∨ Space.hbm = .shared} {hsr : S100000x16.StreamRows 0} :
    (Mid (U := U) d i tab ids qt q hr n k 0 : sProp 𝕄)
    ⊢ iprop((Mid (U := U) d i tab ids qt q hr n (k + 1) 0 -∗ Ψ ⟨⟩)
      -∗ wp frame (wpE (defs₀ (F := F)) Variants.none (tile d i) none) Set.univ
        (SparseCore.enqueueIndirectGather hp tabA
          (((oBuf.slice (Rect.unit (s := S2x1024x16) o10 S1x1024x16.size n10) r10).squeeze S1024x16 squeezes_S1x1024x16_S1024x16).slice
            (Rect.unit (s := S1024x16) ![jo, 0] S128x16.size noo) roo)
          gathers_S100000x16_S128x16
          ((((iBuf.slice (Rect.unit (s := S2x1x1024) o11 S1x1x1024.size n11) r11).squeeze S1x1024 squeezes_S1x1x1024_S1x1024).slice
            (Rect.unit (s := S1x1024) ![0, jo] S1x128.size noi) roi).squeeze S128 squeezes_S1x128_S128)
          hn gSem hsrc he hsp hsr) Ψ) := by
  unfold Mid
  iintro ⟨%fd, %fo, H, Hrest⟩ Hk
  iapply (wp_issue (U := U) d i tab qt (par n) fd fo.1 (hin_of d i ids hr fo.2) ⟨k, hk⟩ (Nat.zero_le _) h10 h11 (by rw [hjo]) (by rw [hjo])) $$ H
  iintro H
  iapply Hk
  iexists fd, fo
  isplitl [H]; · iexact H
  iexact Hrest

/-- One stream's credit awaited. -/
theorem wp_mid_wait (n m : ℕ) (hm : m < 7) {u : ℕ} (hu : u = m * (128 * NR)) {src : Memref sig .scVector .hbm S100000x16 .f32} {dst : Memref sig .scVector .vmem S128x16 .f32}
    (hc : dst.view.dmaCredit = 128 * NR) {hsrc : src.view.WordExact} {hdst : dst.view.WordExact} :
    (iprop(Mid (U := U) d i tab ids qt q hr n 8 u ∗ OW (U := U) (F := F) d i O W ∗ MayWaits (tile d i) (default : HIx 1) O) : sProp 𝕄)
    ⊢ iprop((iprop(Mid (U := U) d i tab ids qt q hr n 8 ((m + 1) * (128 * NR)) ∗ OW (U := U) (F := F) d i O W) -∗ Ψ ⟨⟩)
      -∗ wp frame (wpE (defs₀ (F := F)) Variants.none (tile d i) none) Set.univ (SparseCore.waitIndirectGather gSem src dst hsrc hdst) Ψ) := by
  unfold Mid OW
  iintro ⟨⟨%fd, %fo, H, Hrest⟩, ⟨%W', %hW, HO⟩, Hmw⟩ Hk
  iapply (wp_gwait (U := U) d i tab qt (par n) fd fo.1 (hin_of d i ids hr fo.2) m (by omega) hu hc) $$ [H HO Hmw]
  · isplitl [H]; · iexact H
    isplitl [HO]; · iexact HO
    iexact Hmw
  iintro ⟨H, HO⟩
  iapply Hk
  isplitr [HO]
  · iexists fd, fo
    isplitl [H]; · iexact H
    iexact Hrest
  have e := ow_insert (U := U) (F := F) d i O W hW (.dma gSem)
  unfold OW at e
  iapply e $$ HO

/-- The last credit awaited: the slot holds its block of gathered rows. -/
theorem wp_mid_last (n : ℕ) {u : ℕ} (hu : u = 7 * (128 * NR)) {src : Memref sig .scVector .hbm S100000x16 .f32} {dst : Memref sig .scVector .vmem S128x16 .f32}
    (hc : dst.view.dmaCredit = 128 * NR) {hsrc : src.view.WordExact} {hdst : dst.view.WordExact} :
    (iprop(Mid (U := U) d i tab ids qt q hr n 8 u ∗ OW (U := U) (F := F) d i O W ∗ MayWaits (tile d i) (default : HIx 1) O) : sProp 𝕄)
    ⊢ iprop((iprop(IIdle (U := U) d i ids q (par n) ∗ OHas (U := U) d i (gath (F := F) tab ids) (par n) (blk i n) ∗ (tabV.view.loc (tile d i) ↦{qt} tab)
          ∗ semVal (tile d i, .dma gSem) 0 ∗ OW (U := U) (F := F) d i O W) -∗ Ψ ⟨⟩)
      -∗ wp frame (wpE (defs₀ (F := F)) Variants.none (tile d i) none) Set.univ (SparseCore.waitIndirectGather gSem src dst hsrc hdst) Ψ) := by
  unfold Mid OW
  iintro ⟨⟨%fd, %fo, H, Hv, Hids, Hov⟩, ⟨%W', %hW, HO⟩, Hmw⟩ Hk
  iapply (wp_gwaitLast (U := U) d i tab qt (par n) fd fo.1 (hin_of d i ids hr fo.2) hu hc) $$ [H HO Hmw]
  · isplitl [H]; · iexact H
    isplitl [HO]; · iexact HO
    iexact Hmw
  iintro ⟨H, Hg, HO⟩
  iapply Hk
  ihave H := (gs_done (U := U) d i tab qt (par n) fd fo.1 (hin_of d i ids hr fo.2) (blk i n) ids fo.2) $$ H
  icases H with ⟨Ht, Hi, Ho⟩
  unfold IIdle OHas
  isplitl [Hi Hv Hids]
  · isplitl [Hi]; · iexists fo.1; iexact Hi
    isplitl [Hv]; · iexact Hv
    iexact Hids
  isplitl [Ho Hov]
  · isplitl [Ho]; · iexact Ho
    iexact Hov
  isplitl [Ht]; · iexact Ht
  isplitl [Hg]; · iexact Hg
  have e := ow_insert (U := U) (F := F) d i O W hW (.dma gSem)
  unfold OW at e
  iapply e $$ HO

end Steps

section Parts
variable (t : Fin (k0_t1_loop i).trips)
variable {h2 : tabV.IsWhole} {h3 : idsV.IsWhole} {h4 : outV.IsWhole} {hi : iBuf.IsWhole} {ho : oBuf.IsWhole} (k1 : k0_cond1 i = 1#1)

/-- The first part: block `t + 1` of the ids is asked for. -/
theorem wp_p1 {Ψ : (Σ' (_ : k0_chk3 i (car i t).2.1) (_ : k0_chk2 i (car i t).2.2.1)
      (_ : k0_chk1 i t (car i t).1 (car i t).2.1 (car i t).2.2.1 (car i t).2.2.2.1 (car i t).2.2.2.2) (_ : BitVec 32) (_ : BitVec 32) (_ : BitVec 1)
      (_ : BitVec 1) (_ : BitVec 32) (_ : BitVec 32) (_ : BitVec 32) (_ : BitVec 32) (_ : BitVec 1), BitVec 32) → sProp (MT nD τ sig (HIx 1) (Elt F) ℕ U ℕ)} :
    (IIdle (U := U) d i ids q (par (t.val + 1)) : sProp 𝕄)
    ⊢ iprop((INext (U := U) d i ids q (t.val + 1) -∗
        Ψ ⟨chk3 i t, chk2 i t, chk1 i t, iv i t, Scalar.muli 1#32 (cnt i), Scalar.cmpi .eq (iv i t) 0#32, lastT i t, now i (car i t).2.2.2.2,
          prev i (car i t).2.2.2.2, next i (car i t).2.2.2.2, n7 i t (car i t).1 (car i t).2.2.2.2,
          Scalar.cmpi .ne (now i (car i t).2.2.2.2) (next i (car i t).2.2.2.2), 2#32⟩)
      -∗ wp frame (wpE (defs₀ (F := F)) Variants.none (tile d i) none) Set.univ
        (k0_part1 i tabV h2 idsV h3 outV h4 cc0_scratch0 iBuf hi cc0_scoped1 oBuf ho cc0_scoped3 (cnt i) (fst i) k1 0#32 1#32 t
          (car i t).1 (car i t).2.1 (car i t).2.2.1 (car i t).2.2.2.1 (car i t).2.2.2.2) Ψ) := by
  have T := trip i t
  rw [k0_part1_eq_skeleton]
  unfold k0_part1_skel
  simp only [Prog.bind_lift, Prog.pure_eq_ret, n7, lastT, now, prev, next, iv]
  iintro H Hk
  iapply (wp_assume Variants.none (tile d i) none Set.univ (chk3 i t))
  iapply (wp_assume Variants.none (tile d i) none Set.univ (chk2 i t))
  iapply (wp_assume Variants.none (tile d i) none Set.univ (chk1 i t))
  by_cases hl : t.val + 1 < nb i
  · rw [dif_pos (T.c3.mpr hl)]
    iapply (wp_fetch d i ids q (par (t.val + 1)) (blk i (t.val + 1)) (T.o4 hl) ((T.o5 hl).trans (by rw [blk_val hl])) (T.o6 hl)) $$ H
    iintro H
    rw [wp_ret]
    imodintro
    iapply Hk
    unfold INext
    rw [if_pos hl]
    iexact H
  · rw [dif_neg (fun h => hl (T.c3.mp h)), wp_ret]
    imodintro
    iapply Hk
    unfold INext
    rw [if_neg hl]
    iexact H

/-- The second part: block `t` of the ids has come, and the first gather is issued. -/
theorem wp_p2 {w3 : k0_chk3 i (car i t).2.1} {w2 : k0_chk2 i (car i t).2.2.1}
      {w1 : k0_chk1 i t (car i t).1 (car i t).2.1 (car i t).2.2.1 (car i t).2.2.2.1 (car i t).2.2.2.2} (a6 a80 : BitVec 32) (a81 : BitVec 1) (a84 a90 : BitVec 32)
      (a113 : BitVec 1) (a2 : BitVec 32) {Ψ : PUnit → sProp (MT nD τ sig (HIx 1) (Elt F) ℕ U ℕ)} :
    (iprop(INext (U := U) d i ids q t.val ∗ OIdle (U := U) d i (par t.val) ∗ (tabV.view.loc (tile d i) ↦{qt} tab) ∗ semVal (tile d i, .dma gSem) 0
      ∗ OW (U := U) (F := F) d i O W ∗ MayWaits (tile d i) (default : HIx 1) O) : sProp 𝕄)
    ⊢ iprop((iprop(Mid (U := U) d i tab ids qt q hr t.val 1 0 ∗ OW (U := U) (F := F) d i O W) -∗ Ψ ⟨⟩)
      -∗ wp frame (wpE (defs₀ (F := F)) Variants.none (tile d i) none) Set.univ
        (k0_part2 i tabV h2 idsV h3 outV h4 cc0_scratch0 iBuf hi cc0_scoped1 oBuf ho cc0_scoped3 k1 t
          (car i t).1 (car i t).2.1 (car i t).2.2.1 (car i t).2.2.2.1 (car i t).2.2.2.2 w3 w2 w1 a6 a80 a81 a84 a90 a113 a2) Ψ) := by
  have T := trip i t
  rw [k0_part2_eq_skeleton]
  unfold k0_part2_skel INext
  simp only [Prog.bind_lift, Prog.pure_eq_ret, ite_self]
  rw [dif_pos T.c4, if_pos T.lt]
  unfold OW
  iintro ⟨HI, HOI, Ht, Hg, ⟨%W', %hW, HO⟩, #Hmw⟩ Hk
  iapply (wp_fetched d i ids q (par t.val) (blk i t.val) T.o7 (T.o8.trans (by rw [blk_val T.lt])) T.o9) $$ [HI HO Hmw]
  · isplitl [HI]; · iexact HI
    isplitl [HO]; · iexact HO
    iexact Hmw
  iintro ⟨HI, HO⟩
  ihave HO := (ow_insert (U := U) (F := F) d i O W hW (.dma (iSem (par t.val)))) $$ HO
  simp only [wp_bind]
  imod (mid_start (U := U) d i tab ids qt q hr t.val) $$ [HI HOI Ht Hg] with H
  · isplitl [HI]; · iexact HI
    isplitl [HOI]; · iexact HOI
    isplitl [Ht]; · iexact Ht
    iexact Hg
  iapply (wp_mid_issue (U := U) d i tab ids qt q hr t.val 0 0 (by decide) (by decide) T.o10 T.o11) $$ H
  iintro H
  rw [wp_ret]
  imodintro
  iapply Hk
  isplitl [H]; · iexact H
  unfold OW
  iexact HO

/-- Part 3: gathers 1 to 3 issued. -/
theorem wp_p3 {w3 : k0_chk3 i (car i t).2.1} {w2 : k0_chk2 i (car i t).2.2.1} {Ψ : PUnit → sProp (MT nD τ sig (HIx 1) (Elt F) ℕ U ℕ)} :
    (Mid (U := U) d i tab ids qt q hr t.val 1 0 : sProp 𝕄)
    ⊢ iprop((Mid (U := U) d i tab ids qt q hr t.val 4 0 -∗ Ψ ⟨⟩)
      -∗ wp frame (wpE (defs₀ (F := F)) Variants.none (tile d i) none) Set.univ
        (k0_part3 i tabV h2 idsV h3 outV h4 cc0_scratch0 iBuf hi cc0_scoped1 oBuf ho cc0_scoped3 k1 (car i t).2.1 (car i t).2.2.1 w3 w2) Ψ) := by
  have T := trip i t
  rw [k0_part3_eq_skeleton]
  unfold k0_part3_skel
  simp only [Prog.pure_eq_ret, wp_bind]
  iintro H Hk
  iapply (wp_mid_issue (U := U) d i tab ids qt q hr t.val 1 128 (by decide) (by decide) T.o10 T.o11) $$ H
  iintro H
  iapply (wp_mid_issue (U := U) d i tab ids qt q hr t.val 2 256 (by decide) (by decide) T.o10 T.o11) $$ H
  iintro H
  iapply (wp_mid_issue (U := U) d i tab ids qt q hr t.val 3 384 (by decide) (by decide) T.o10 T.o11) $$ H
  iintro H
  rw [wp_ret]
  imodintro
  iapply Hk
  iexact H

/-- Part 4: gathers 4 to 6 issued. -/
theorem wp_p4 {w3 : k0_chk3 i (car i t).2.1} {w2 : k0_chk2 i (car i t).2.2.1} {Ψ : PUnit → sProp (MT nD τ sig (HIx 1) (Elt F) ℕ U ℕ)} :
    (Mid (U := U) d i tab ids qt q hr t.val 4 0 : sProp 𝕄)
    ⊢ iprop((Mid (U := U) d i tab ids qt q hr t.val 7 0 -∗ Ψ ⟨⟩)
      -∗ wp frame (wpE (defs₀ (F := F)) Variants.none (tile d i) none) Set.univ
        (k0_part4 i tabV h2 idsV h3 outV h4 cc0_scratch0 iBuf hi cc0_scoped1 oBuf ho cc0_scoped3 k1 (car i t).2.1 (car i t).2.2.1 w3 w2) Ψ) := by
  have T := trip i t
  rw [k0_part4_eq_skeleton]
  unfold k0_part4_skel
  simp only [Prog.pure_eq_ret, wp_bind]
  iintro H Hk
  iapply (wp_mid_issue (U := U) d i tab ids qt q hr t.val 4 512 (by decide) (by decide) T.o10 T.o11) $$ H
  iintro H
  iapply (wp_mid_issue (U := U) d i tab ids qt q hr t.val 5 640 (by decide) (by decide) T.o10 T.o11) $$ H
  iintro H
  iapply (wp_mid_issue (U := U) d i tab ids qt q hr t.val 6 768 (by decide) (by decide) T.o10 T.o11) $$ H
  iintro H
  rw [wp_ret]
  imodintro
  iapply Hk
  iexact H

/-- Part 5: the last gather issued, and three credits awaited. -/
theorem wp_p5 {w3 : k0_chk3 i (car i t).2.1} {w2 : k0_chk2 i (car i t).2.2.1} {Ψ : PUnit → sProp (MT nD τ sig (HIx 1) (Elt F) ℕ U ℕ)} :
    (iprop(Mid (U := U) d i tab ids qt q hr t.val 7 0 ∗ OW (U := U) (F := F) d i O W ∗ MayWaits (tile d i) (default : HIx 1) O) : sProp 𝕄)
    ⊢ iprop((iprop(Mid (U := U) d i tab ids qt q hr t.val 8 (3 * (128 * NR)) ∗ OW (U := U) (F := F) d i O W) -∗ Ψ ⟨⟩)
      -∗ wp frame (wpE (defs₀ (F := F)) Variants.none (tile d i) none) Set.univ
        (k0_part5 i tabV h2 idsV h3 outV h4 cc0_scratch0 iBuf hi cc0_scoped1 oBuf ho cc0_scoped3 k1 (car i t).2.1 (car i t).2.2.1 w3 w2) Ψ) := by
  have T := trip i t
  rw [k0_part5_eq_skeleton]
  unfold k0_part5_skel
  simp only [Prog.pure_eq_ret, wp_bind]
  iintro ⟨H, HO, #Hmw⟩ Hk
  iapply (wp_mid_issue (U := U) d i tab ids qt q hr t.val 7 896 (by decide) (by decide) T.o10 T.o11) $$ H
  iintro H
  iapply (wp_mid_wait (U := U) d i tab ids qt q O W hr t.val 0 (by decide) (Nat.zero_mul _).symm rfl) $$ [H HO]
  · isplitl [H]; · iexact H
    isplitl [HO]; · iexact HO
    iexact Hmw
  iintro ⟨H, HO⟩
  iapply (wp_mid_wait (U := U) d i tab ids qt q O W hr t.val 1 (by decide) rfl rfl) $$ [H HO]
  · isplitl [H]; · iexact H
    isplitl [HO]; · iexact HO
    iexact Hmw
  iintro ⟨H, HO⟩
  iapply (wp_mid_wait (U := U) d i tab ids qt q O W hr t.val 2 (by decide) rfl rfl) $$ [H HO]
  · isplitl [H]; · iexact H
    isplitl [HO]; · iexact HO
    iexact Hmw
  iintro ⟨H, HO⟩
  rw [wp_ret]
  imodintro
  iapply Hk
  isplitl [H]; · iexact H
  iexact HO

/-- Part 6: three more credits. -/
theorem wp_p6 {w3 : k0_chk3 i (car i t).2.1} {w2 : k0_chk2 i (car i t).2.2.1} {Ψ : PUnit → sProp (MT nD τ sig (HIx 1) (Elt F) ℕ U ℕ)} :
    (iprop(Mid (U := U) d i tab ids qt q hr t.val 8 (3 * (128 * NR)) ∗ OW (U := U) (F := F) d i O W ∗ MayWaits (tile d i) (default : HIx 1) O) : sProp 𝕄)
    ⊢ iprop((iprop(Mid (U := U) d i tab ids qt q hr t.val 8 (6 * (128 * NR)) ∗ OW (U := U) (F := F) d i O W) -∗ Ψ ⟨⟩)
      -∗ wp frame (wpE (defs₀ (F := F)) Variants.none (tile d i) none) Set.univ
        (k0_part6 i tabV h2 idsV h3 outV h4 cc0_scratch0 iBuf hi cc0_scoped1 oBuf ho cc0_scoped3 k1 (car i t).2.1 (car i t).2.2.1 w3 w2) Ψ) := by
  rw [k0_part6_eq_skeleton]
  unfold k0_part6_skel
  simp only [Prog.pure_eq_ret, wp_bind]
  iintro ⟨H, HO, #Hmw⟩ Hk
  iapply (wp_mid_wait (U := U) d i tab ids qt q O W hr t.val 3 (by decide) rfl rfl) $$ [H HO]
  · isplitl [H]; · iexact H
    isplitl [HO]; · iexact HO
    iexact Hmw
  iintro ⟨H, HO⟩
  iapply (wp_mid_wait (U := U) d i tab ids qt q O W hr t.val 4 (by decide) rfl rfl) $$ [H HO]
  · isplitl [H]; · iexact H
    isplitl [HO]; · iexact HO
    iexact Hmw
  iintro ⟨H, HO⟩
  iapply (wp_mid_wait (U := U) d i tab ids qt q O W hr t.val 5 (by decide) rfl rfl) $$ [H HO]
  · isplitl [H]; · iexact H
    isplitl [HO]; · iexact HO
    iexact Hmw
  iintro ⟨H, HO⟩
  rw [wp_ret]
  imodintro
  iapply Hk
  isplitl [H]; · iexact H
  iexact HO

/-- Part 7: the last two credits, and block `t` of the rows is sent out. -/
theorem wp_p7 {w3 : k0_chk3 i (car i t).2.1} {w2 : k0_chk2 i (car i t).2.2.1}
      {w1 : k0_chk1 i t (car i t).1 (car i t).2.1 (car i t).2.2.1 (car i t).2.2.2.1 (car i t).2.2.2.2}
      {Ψ : (Σ' (_ : BitVec 32), BitVec 1) → sProp (MT nD τ sig (HIx 1) (Elt F) ℕ U ℕ)} :
    (iprop(Mid (U := U) d i tab ids qt q hr t.val 8 (6 * (128 * NR)) ∗ OB (U := U) (F := F) d i f0 t.val
      ∗ OW (U := U) (F := F) d i O W ∗ MayWaits (tile d i) (default : HIx 1) O) : sProp 𝕄)
    ⊢ iprop((iprop(IIdle (U := U) d i ids q (par t.val) ∗ OFly (U := U) d i (gath (F := F) tab ids) (par t.val) (blk i t.val)
          ∗ (tabV.view.loc (tile d i) ↦{qt} tab) ∗ semVal (tile d i, .dma gSem) 0 ∗ OW (U := U) (F := F) d i O W)
        -∗ Ψ ⟨n9 i t (car i t).2.2.1 (car i t).2.2.2.2, Scalar.andi (Scalar.cmpi .ne (now i (car i t).2.2.2.2) (prev i (car i t).2.2.2.2))
          (Scalar.xori (Scalar.cmpi .eq (iv i t) 0#32) 1#1)⟩)
      -∗ wp frame (wpE (defs₀ (F := F)) Variants.none (tile d i) none) Set.univ
        (k0_part7 i tabV h2 idsV h3 outV h4 cc0_scratch0 iBuf hi cc0_scoped1 oBuf ho cc0_scoped3 k1 t
          (car i t).1 (car i t).2.1 (car i t).2.2.1 (car i t).2.2.2.1 (car i t).2.2.2.2 w3 w2 w1
          (Scalar.cmpi .eq (iv i t) 0#32) (lastT i t) (now i (car i t).2.2.2.2) (prev i (car i t).2.2.2.2) (next i (car i t).2.2.2.2)) Ψ) := by
  have T := trip i t
  rw [k0_part7_eq_skeleton]
  unfold k0_part7_skel
  simp only [Prog.bind_lift, Prog.pure_eq_ret, wp_bind, ite_self, n9]
  rw [dif_pos T.c7]
  iintro ⟨H, Hb, HO, #Hmw⟩ Hk
  iapply (wp_mid_wait (U := U) d i tab ids qt q O W hr t.val 6 (by decide) rfl rfl) $$ [H HO]
  · isplitl [H]; · iexact H
    isplitl [HO]; · iexact HO
    iexact Hmw
  iintro ⟨H, HO⟩
  iapply (wp_mid_last (U := U) d i tab ids qt q O W hr t.val rfl rfl) $$ [H HO]
  · isplitl [H]; · iexact H
    isplitl [HO]; · iexact HO
    iexact Hmw
  iintro ⟨HI, Ho, Ht, Hg, HO⟩
  unfold OB
  iapply (wp_put d i (gath (F := F) tab ids) (par t.val) (blk i t.val) T.o12 (T.o13.trans (by rw [blk_val T.lt])) T.o14 f0) $$ [Ho Hb]
  · isplitl [Ho]; · iexact Ho
    iexact Hb
  iintro Ho
  rw [wp_ret]
  imodintro
  iapply Hk
  isplitl [HI]; · iexact HI
  isplitl [Ho]; · iexact Ho
  isplitl [Ht]; · iexact Ht
  isplitl [Hg]; · iexact Hg
  iexact HO

end Parts

end Cert.Proof.TileTrip

end
-- ==== Proof.TileBody.lean ====
/-
  The gather kernel's pipeline whole: every trip by the parts of `TileTrip`, and the loop over them.
-/
module

public import proofs.«01_k».proof.Proof.TileTrip

@[expose] public section

noncomputable section

namespace Cert.Proof.TileBody

open Cert.KernelIdeal Cert.KernelIdeal.Gen Cert.Proof.TileWords Cert.Proof.TileChecks Cert.Proof.TileMem Cert.Proof.TileGather Cert.Proof.TileTrip
open Idealize.ShloMosaic
open Idealize.ShloMosaic.SparseCore (S V T)
open Idealize.ShloMosaic.SparseCore.Cfg (HIx)
open Idealize.ShloMosaic.Transfers
open Idealize.SL Idealize.SL.RA
open Idealize.SL.BI (sProp Storable bigSep bigSep_insert)
open scoped Idealize.SL.BI
open Idealize.SL.BI.BIBase Idealize.SL.BI.Laws Idealize.SL.Sem Idealize.SL.ProofMode

variable {F : FTy → Type}
variable {U : Type} [URA U] [CountersIn U]

local notation "𝕄" => MT nD τ sig (HIx 1) (Elt F) ℕ U ℕ

variable (d : Dev nD) (i : grid0.Coords)
variable (tab : Buf (Elt F) (tabV.view.loc (tile d i))) (ids : Buf (Elt F) (idsV.view.loc (tile d i)))
  (qt : PosShare TreeShare) (q : Fin 2 → PosShare TreeShare) (f0 : Buf (Elt F) (outV.view.loc (tile d i)))
variable (O : CellTallies nD τ sig (HIx 1)) (W : Waits sig (HIx 1))

/-- What the task holds at the head of trip `n`. -/
def St (n : ℕ) : sProp 𝕄 :=
  iprop(INext (U := U) d i ids q n ∗ IIdle (U := U) d i ids q (par (n + 1)) ∗ OIdle (U := U) d i (par n) ∗ OPend (U := U) d i tab ids n
    ∗ bigSep (Finset.range (n - 1)) (OB (U := U) (F := F) d i (gath (F := F) tab ids)) ∗ bigSep (Finset.Ico n (nb i)) (OB (U := U) (F := F) d i f0)
    ∗ (tabV.view.loc (tile d i) ↦{qt} tab) ∗ semVal (tile d i, .dma gSem) 0 ∗ OW (U := U) (F := F) d i O W)

/-- The next block of those that wait, and one more of those done. -/
theorem pend_step (Φ : ℕ → sProp (MT nD τ sig (HIx 1) (Elt F) ℕ U ℕ)) {t n : ℕ} (h : t < n) :
    (bigSep (Finset.Ico t n) Φ : sProp 𝕄) ⊢ iprop(Φ t ∗ bigSep (Finset.Ico (t + 1) n) Φ) := by
  have e : Finset.Ico t n = insert t (Finset.Ico (t + 1) n) := by
    ext x; simp only [Finset.mem_Ico, Finset.mem_insert]; omega
  rw [e]
  exact Entails.of_eq (bigSep_insert (by simp))
theorem done_step (Φ : ℕ → sProp (MT nD τ sig (HIx 1) (Elt F) ℕ U ℕ)) (n : ℕ) :
    (iprop(Φ n ∗ bigSep (Finset.range n) Φ) : sProp 𝕄) ⊢ bigSep (Finset.range (n + 1)) Φ := by
  rw [Finset.range_add_one]
  exact Entails.of_eq (bigSep_insert (by simp)).symm

variable [FloatOps F]
variable (hr : ∀ n : Fin 3200000, (ids (nIx n)).toNat < 100000)
variable {h2 : tabV.IsWhole} {h3 : idsV.IsWhole} {h4 : outV.IsWhole} {hi : iBuf.IsWhole} {ho : oBuf.IsWhole} (k1 : k0_cond1 i = 1#1)

include hr in
/-- One trip. -/
theorem trip_wp (t : Fin (k0_t1_loop i).trips) (v11 a1 a3 a4 a5 a6 a7 : BitVec 32)
    {Ψ : BitVec 32 × BitVec 32 × BitVec 32 × BitVec 32 × BitVec 32 → sProp (MT nD τ sig (HIx 1) (Elt F) ℕ U ℕ)} :
    (iprop(St (U := U) d i tab ids qt q f0 O W t.val ∗ MayWaits (tile d i) (default : HIx 1) O) : sProp 𝕄)
    ⊢ iprop((St (U := U) d i tab ids qt q f0 O W (t.val + 1) -∗ Ψ (car i (t.val + 1)))
      -∗ wp frame (wpE (defs₀ (F := F)) Variants.none (tile d i) none) Set.univ
        (k0_t1_body i tabV h2 idsV h3 outV h4 cc0_scratch0 iBuf hi cc0_scoped1 oBuf ho cc0_scoped3 (cnt i) (fst i) v11 k1 a1 0#32 a3 a4 a5 a6 a7 t
          ((car i t).1, (car i t).2.1, (car i t).2.2.1, (car i t).2.2.2.1, (car i t).2.2.2.2)) Ψ) := by
  have T := trip i t
  unfold St
  iintro ⟨⟨HIN, HII, HOI, HOP, HG, HB, Ht, Hg, HO⟩, #Hmw⟩ Hk
  unfold k0_t1_body
  simp only [wp_bind]
  iapply (wp_p1 (U := U) d i ids q t k1) $$ HII
  iintro HIN'
  simp only []
  iapply (wp_p2 (U := U) d i tab ids qt q O W hr t k1) $$ [HIN HOI Ht Hg HO]
  · isplitl [HIN]; · iexact HIN
    isplitl [HOI]; · iexact HOI
    isplitl [Ht]; · iexact Ht
    isplitl [Hg]; · iexact Hg
    isplitl [HO]; · iexact HO
    iexact Hmw
  iintro ⟨H, HO⟩
  iapply (wp_p3 (U := U) d i tab ids qt q hr t k1) $$ H
  iintro H
  iapply (wp_p4 (U := U) d i tab ids qt q hr t k1) $$ H
  iintro H
  iapply (wp_p5 (U := U) d i tab ids qt q O W hr t k1) $$ [H HO]
  · isplitl [H]; · iexact H
    isplitl [HO]; · iexact HO
    iexact Hmw
  iintro ⟨H, HO⟩
  iapply (wp_p6 (U := U) d i tab ids qt q O W hr t k1) $$ [H HO]
  · isplitl [H]; · iexact H
    isplitl [HO]; · iexact HO
    iexact Hmw
  iintro ⟨H, HO⟩
  ihave HB := (pend_step _ T.lt) $$ HB
  icases HB with ⟨Hb, HB⟩
  iapply (wp_p7 (U := U) d i tab ids qt q f0 O W hr t k1) $$ [H Hb HO]
  · isplitl [H]; · iexact H
    isplitl [Hb]; · iexact Hb
    isplitl [HO]; · iexact HO
    iexact Hmw
  iintro ⟨HII, HOF, Ht, Hg, HO⟩
  have hstep := step i t
  simp only [n8, n10, n11] at hstep
  simp only [Prog.bind_lift, Prog.pure_eq_ret]
  have e1 : (IIdle (U := U) d i ids q (par t.val) : sProp 𝕄) = IIdle (U := U) d i ids q (par (t.val + 1 + 1)) := by rw [show t.val + 1 + 1 = t.val + 2 from rfl, par_add_two]
  have e2 : (OFly (U := U) d i (gath (F := F) tab ids) (par t.val) (blk i t.val) : sProp 𝕄) = OPend (U := U) d i tab ids (t.val + 1) := by
    unfold OPend
    rw [if_pos (Nat.succ_pos _), show t.val + 1 + 1 = t.val + 2 from rfl, par_add_two]; rfl
  ihave HII := (Entails.of_eq e1) $$ HII
  ihave HOF := (Entails.of_eq e2) $$ HOF
  have hfin : ∀ x, x = car i (t.val + 1) → (Ψ (car i (t.val + 1)) ⊢ Ψ x) := fun x h => by subst h; exact .rfl
  by_cases h0 : 0 < t.val
  · rw [dif_pos (T.c9.mpr h0)]
    have e3 : (OPend (U := U) d i tab ids t.val : sProp 𝕄) = OFly (U := U) d i (gath (F := F) tab ids) (par (t.val - 1)) (blk i (t.val - 1)) := by
      unfold OPend; rw [if_pos h0, par_pred _ h0]
    ihave HOP := (Entails.of_eq e3) $$ HOP
    unfold OW
    icases HO with ⟨%W', %hW, HO⟩
    have hl : t.val - 1 < nb i := by have := T.lt; omega
    iapply (wp_putDone d i (gath (F := F) tab ids) (par (t.val - 1)) (blk i (t.val - 1)) T.o15 ((T.o16 h0).trans (by rw [blk_val hl])) T.o17) $$ [HOP HO]
    · isplitl [HOP]; · iexact HOP
      isplitl [HO]; · iexact HO
      iexact Hmw
    iintro ⟨HOI, Hb, HO⟩
    ihave HO := (ow_insert (U := U) (F := F) d i O W hW (.dma (oSem (par (t.val - 1))))) $$ HO
    rw [wp_ret]
    imodintro
    iapply (hfin _ hstep)
    iapply Hk
    isplitl [HIN']; · iexact HIN'
    isplitl [HII]; · iexact HII
    isplitl [HOI]; · rw [par_pred _ h0]; iexact HOI
    isplitl [HOF]; · iexact HOF
    isplitl [HG Hb]
    · rw [show t.val + 1 - 1 = (t.val - 1) + 1 by omega]
      iapply (done_step (U := U) (F := F) _ _)
      isplitl [Hb]
      · unfold OB; iexact Hb
      · iexact HG
    isplitl [HB]; · iexact HB
    isplitl [Ht]; · iexact Ht
    isplitl [Hg]; · iexact Hg
    unfold OW
    iexact HO
  · have ht : t.val = 0 := by omega
    rw [dif_neg (fun h => h0 (T.c9.mp h))]
    have e3 : (OPend (U := U) d i tab ids t.val : sProp 𝕄) = OIdle (U := U) d i (par (t.val + 1)) := by
      unfold OPend; rw [if_neg h0]
    ihave HOP := (Entails.of_eq e3) $$ HOP
    rw [wp_ret]
    imodintro
    iapply (hfin _ hstep)
    iapply Hk
    isplitl [HIN']; · iexact HIN'
    isplitl [HII]; · iexact HII
    isplitl [HOP]; · iexact HOP
    isplitl [HOF]; · iexact HOF
    isplitl [HG]
    · rw [show t.val + 1 - 1 = t.val - 1 by omega]; iexact HG
    isplitl [HB]; · iexact HB
    isplitl [Ht]; · iexact Ht
    isplitl [Hg]; · iexact Hg
    iexact HO

/-! ## Before and after the trips -/

theorem first_all : ∀ (a : Fin 2) (b : Fin 16),
    Scalar.select (Scalar.andi 1#1 (Scalar.cmpi .sgt (Scalar.muli 1#32 (cnt (at_ a b))) 0#32)) (Scalar.addi 0#32 1#32) 0#32 = 1#32
      ∧ car (at_ a b) 0 = (1#32, 0#32, 0#32, 0#32, 0#32) := by decide +kernel

theorem first_word : Scalar.select (Scalar.andi 1#1 (Scalar.cmpi .sgt (Scalar.muli 1#32 (cnt i)) 0#32)) (Scalar.addi 0#32 1#32) 0#32 = 1#32
      ∧ car i 0 = (1#32, 0#32, 0#32, 0#32, 0#32) := by
  rw [eq_at i]; exact first_all _ _

/-- Before the trips: the first block of the ids is asked for. -/
theorem wp_p15 (v11 : BitVec 32)
    {Ψ : (Σ' (_ : BitVec 32) (_ : BitVec 32) (_ : BitVec 32) (_ : BitVec 32) (_ : BitVec 32) (_ : BitVec 32), BitVec 32) → sProp (MT nD τ sig (HIx 1) (Elt F) ℕ U ℕ)} :
    (IIdle (U := U) d i ids q (par 0) : sProp 𝕄)
    ⊢ iprop((INext (U := U) d i ids q 0 -∗ Ψ ⟨1#32, 0#32, 0#32, 0#32, 0#32, 0#32, Scalar.muli (Scalar.divsi (Scalar.subi v11 0#32) 1#32) 1#32⟩)
      -∗ wp frame (wpE (defs₀ (F := F)) Variants.none (tile d i) none) Set.univ
        (k0_part15 i tabV h2 idsV h3 outV h4 cc0_scratch0 iBuf hi cc0_scoped1 oBuf ho cc0_scoped3 (cnt i) (fst i) v11 k1) Ψ) := by
  have E := ends i
  rw [k0_part15_eq_skeleton]
  unfold k0_part15_skel
  simp only [Prog.bind_lift, Prog.pure_eq_ret, (first_word i).1]
  rw [dif_pos E.2.2.2.1]
  iintro H Hk
  iapply (wp_fetch d i ids q (par 0) (blk i 0) rfl (E.2.2.2.2.1.trans (by rw [blk_val (nb_pos i)]; rfl)) rfl) $$ H
  iintro H
  rw [wp_ret]
  imodintro
  iapply Hk
  unfold INext
  rw [if_pos (nb_pos i)]
  iexact H

/-- What the task holds before its trips. -/
def Start : sProp 𝕄 :=
  iprop(IIdle (U := U) d i ids q (par 0) ∗ IIdle (U := U) d i ids q (par 1) ∗ OIdle (U := U) d i (par 0) ∗ OIdle (U := U) d i (par 1)
    ∗ bigSep (Finset.range (nb i)) (OB (U := U) (F := F) d i f0)
    ∗ (tabV.view.loc (tile d i) ↦{qt} tab) ∗ semVal (tile d i, .dma gSem) 0 ∗ OW (U := U) (F := F) d i O W)

theorem st_start :
    (iprop(INext (U := U) d i ids q 0 ∗ IIdle (U := U) d i ids q (par 1) ∗ OIdle (U := U) d i (par 0) ∗ OIdle (U := U) d i (par 1)
      ∗ bigSep (Finset.range (nb i)) (OB (U := U) (F := F) d i f0)
      ∗ (tabV.view.loc (tile d i) ↦{qt} tab) ∗ semVal (tile d i, .dma gSem) 0 ∗ OW (U := U) (F := F) d i O W) : sProp 𝕄)
    ⊢ St (U := U) d i tab ids qt q f0 O W 0 := by
  unfold St OPend
  rw [if_neg (by decide), show Finset.range (0 - 1) = ∅ from rfl, Finset.range_eq_Ico]
  iintro ⟨H1, H2, H3, H4, H5, H6, H7, H8⟩
  isplitl [H1]; · iexact H1
  isplitl [H2]; · iexact H2
  isplitl [H3]; · iexact H3
  isplitl [H4]; · iexact H4
  isplitr
  · rw [BI.bigSep_empty]; iempintro
  isplitl [H5]; · iexact H5
  isplitl [H6]; · iexact H6
  isplitl [H7]; · iexact H7
  iexact H8

theorem par_two (n : ℕ) (P : Fin 2 → sProp (MT nD τ sig (HIx 1) (Elt F) ℕ U ℕ)) :
    (iprop(P (par n) ∗ P (par (n + 1))) : sProp 𝕄) ⊢ iprop(P (par 0) ∗ P (par 1)) := by
  rcases Nat.mod_two_eq_zero_or_one n with h | h
  · rw [show par n = par 0 from Fin.ext (by simp [par, h]), show par (n + 1) = par 1 from Fin.ext (by simp [par]; omega)]
  · rw [show par n = par 1 from Fin.ext (by simp [par, h]), show par (n + 1) = par 0 from Fin.ext (by simp [par]; omega)]
    iintro ⟨H1, H2⟩
    isplitl [H2]; · iexact H2
    iexact H1

include hr in
/-- The trips, and the last wait: every block of the task's part of the output is the gathered rows. -/
theorem wp_p16 (v11 v45 : BitVec 32) {Ψ : PUnit → sProp (MT nD τ sig (HIx 1) (Elt F) ℕ U ℕ)} :
    (iprop(St (U := U) d i tab ids qt q f0 O W 0 ∗ MayWaits (tile d i) (default : HIx 1) O) : sProp 𝕄)
    ⊢ iprop((Start (U := U) d i tab ids qt q (gath (F := F) tab ids) O W -∗ Ψ ⟨⟩)
      -∗ wp frame (wpE (defs₀ (F := F)) Variants.none (tile d i) none) Set.univ
        (k0_part16 i tabV h2 idsV h3 outV h4 cc0_scratch0 iBuf hi cc0_scoped1 oBuf ho cc0_scoped3 (cnt i) (fst i) v11 k1 1#32 0#32 0#32 0#32 0#32 0#32 v45) Ψ) := by
  have E := ends i
  have hpos := nb_pos i
  rw [k0_part16_eq_skeleton]
  unfold k0_part16_skel
  simp only [wp_bind, dite_eq_ite, ite_self, Prog.bind_lift, Prog.pure_eq_ret]
  iintro ⟨HS, #Hmw⟩ Hk
  iapply (Scf.wp_for _ _ _ _ _ _ _ _ _ (fun n acc => iprop(⌜acc = car i n⌝ ∗ St (U := U) d i tab ids qt q f0 O W n ∗ MayWaits (tile d i) (default : HIx 1) O))
    (fun t acc => ?_))
  · iintro ⟨%e, HS, #Hmw⟩
    subst e
    ihave HT := (trip_wp d i tab ids qt q f0 O W hr k1 t v11 1#32 0#32 0#32 0#32 0#32
      (Ψ := fun acc => iprop(⌜acc = car i (t.val + 1)⌝ ∗ St (U := U) d i tab ids qt q f0 O W (t.val + 1) ∗ MayWaits (tile d i) (default : HIx 1) O))) $$ [HS]
    · isplitl [HS]; · iexact HS
      iexact Hmw
    iapply HT
    iintro HS
    isplitr; · ipureintro; rfl
    isplitl [HS]; · iexact HS
    iexact Hmw
  isplitl [HS]
  · isplitr; · ipureintro; exact (first_word i).2.symm
    isplitl [HS]; · iexact HS
    iexact Hmw
  iintro %acc ⟨%e, HS, -⟩
  have e' : acc = car i (nb i) := e.trans (congrArg (car i) E.1)
  subst e'
  ihave HS := (Entails.of_eq (congrArg (St (U := U) d i tab ids qt q f0 O W) E.1)) $$ HS
  iapply (Scf.wp_for _ _ _ _ _ _ _ _ _ (fun _ acc => iprop(⌜acc = car i (nb i)⌝ ∗ St (U := U) d i tab ids qt q f0 O W (nb i)))
    (fun t acc => absurd t.isLt (by have h := E.2.1; unfold Scf.Loop.trips at h; omega)))
  isplitl [HS]
  · isplitr; · ipureintro; rfl
    iexact HS
  iintro %acc ⟨%e, HS⟩
  subst e
  iapply (wp_assume Variants.none (tile d i) none Set.univ (chk8 i))
  iapply (wp_assume Variants.none (tile d i) none Set.univ (chk7 i))
  rw [dif_pos E.2.2.2.2.2.1]
  unfold St
  icases HS with ⟨HI1, HI2, HO1, HOP, HG, -, Ht, Hg, HO⟩
  have e1 : (INext (U := U) d i ids q (nb i) : sProp 𝕄) = IIdle (U := U) d i ids q (par (nb i)) := by
    unfold INext; rw [if_neg (Nat.lt_irrefl _)]
  have e3 : (OPend (U := U) d i tab ids (nb i) : sProp 𝕄) = OFly (U := U) d i (gath (F := F) tab ids) (par (nb i - 1)) (blk i (nb i - 1)) := by
    unfold OPend; rw [if_pos hpos, par_pred _ hpos]
  ihave HI1 := (Entails.of_eq e1) $$ HI1
  ihave HOP := (Entails.of_eq e3) $$ HOP
  have hl : nb i - 1 < nb i := by omega
  unfold OW
  icases HO with ⟨%W', %hW, HO⟩
  iapply (wp_putDone d i (gath (F := F) tab ids) (par (nb i - 1)) (blk i (nb i - 1)) E.2.2.2.2.2.2.2.2.2 (E.2.2.2.2.2.2.2.1.trans (by rw [blk_val hl])) E.2.2.2.2.2.2.2.2.1) $$ [HOP HO]
  · isplitl [HOP]; · iexact HOP
    isplitl [HO]; · iexact HO
    iexact Hmw
  iintro ⟨HO2, Hb, HO⟩
  ihave HO := (ow_insert (U := U) (F := F) d i O W hW (.dma (oSem (par (nb i - 1))))) $$ HO
  rw [wp_ret]
  imodintro
  iapply Hk
  rw [← par_pred _ hpos]
  unfold Start
  ihave HI := (par_two (F := F) (U := U) (nb i) (fun p => IIdle (U := U) d i ids q p)) $$ [HI1 HI2]
  · isplitl [HI1]; · iexact HI1
    iexact HI2
  ihave HOO := (par_two (F := F) (U := U) (nb i) (fun p => OIdle (U := U) d i p)) $$ [HO1 HO2]
  · isplitl [HO1]; · iexact HO1
    iexact HO2
  icases HI with ⟨HI1, HI2⟩
  icases HOO with ⟨HO1, HO2⟩
  isplitl [HI1]; · iexact HI1
  isplitl [HI2]; · iexact HI2
  isplitl [HO1]; · iexact HO1
  isplitl [HO2]; · iexact HO2
  isplitl [HG Hb]
  · rw [show Finset.range (nb i) = Finset.range ((nb i - 1) + 1) by rw [Nat.sub_add_cancel hpos]]
    iapply (done_step (U := U) (F := F) _ _)
    isplitl [Hb]; · unfold OB; iexact Hb
    iexact HG
  isplitl [Ht]; · iexact Ht
  isplitl [Hg]; · iexact Hg
  iexact HO

include hr in
/-- The whole task: from the idle slots and any contents of its blocks to the gathered rows. -/
theorem wp_task {Ψ : PUnit → sProp (MT nD τ sig (HIx 1) (Elt F) ℕ U ℕ)} :
    (iprop(Start (U := U) d i tab ids qt q f0 O W ∗ MayWaits (tile d i) (default : HIx 1) O) : sProp 𝕄)
    ⊢ iprop((Start (U := U) d i tab ids qt q (gath (F := F) tab ids) O W -∗ Ψ ⟨⟩)
      -∗ wp frame (wpE (defs₀ (F := F)) Variants.none (tile d i) none) Set.univ
        (cc0_gather_kernel i tabV h2 idsV h3 outV h4 cc0_scratch0 iBuf hi cc0_scoped1 oBuf ho cc0_scoped3) Ψ) := by
  have E := ends i
  rw [cc0_gather_kernel_eq_skeleton]
  unfold cc0_gather_kernel_skel
  simp only [wp_bind, Prog.pure_eq_ret]
  rw [dif_pos E.2.2.1]
  simp only [wp_bind, Prog.pure_eq_ret]
  unfold Start
  iintro ⟨⟨HI0, HI1, HO0, HO1, HB, Ht, Hg, HO⟩, #Hmw⟩ Hk
  iapply (wp_p15 (U := U) d i ids q E.2.2.1) $$ HI0
  iintro HI0
  simp only []
  iapply (wp_p16 (U := U) d i tab ids qt q f0 O W hr E.2.2.1) $$ [HI0 HI1 HO0 HO1 HB Ht Hg HO]
  · isplitl
    · iapply (st_start (U := U) d i tab ids qt q f0 O W)
      isplitl [HI0]; · iexact HI0
      isplitl [HI1]; · iexact HI1
      isplitl [HO0]; · iexact HO0
      isplitl [HO1]; · iexact HO1
      isplitl [HB]; · iexact HB
      isplitl [Ht]; · iexact Ht
      isplitl [Hg]; · iexact Hg
      iexact HO
    iexact Hmw
  iintro HS
  rw [wp_ret]
  imodintro
  iapply Hk
  unfold Start
  iexact HS

end Cert.Proof.TileBody

end
-- ==== Proof.GatherSplit.lean ====
/-
  How the gathered array splits among the 32 tasks: task `wk` has the blocks `bs ≤ g < bs + nb`, and every block of the
  3125 is one task's.
-/
module

public import proofs.«01_k».proof.Proof.TileBody
public import Idealize.ShloMosaic.Lib.Ring

@[expose] public section

noncomputable section

namespace Cert.Proof.GatherSplit

open Cert.KernelIdeal Cert.KernelIdeal.Gen Cert.Proof.TileWords Cert.Proof.TileMem Cert.Proof.TileTrip
open Idealize.ShloMosaic
open Idealize.ShloMosaic.SparseCore (S V T)
open Idealize.ShloMosaic.SparseCore.Cfg (HIx)
open Idealize.SL Idealize.SL.RA
open Idealize.SL.BI (sProp bigSep bigSep_congr)
open scoped Idealize.SL.BI
open Idealize.SL.BI.BIBase Idealize.SL.BI.Laws Idealize.SL.Sem Idealize.SL.ProofMode

/-! ## Blocks as sets of elements -/

/-- The elements of block `g`: the rows `1024 g ≤ r < 1024 (g + 1)`. -/
theorem mem_oBlk (g : Fin 3125) (x : S3200000x16.Idx) : x ∈ (oBlk g).view.set ↔ (x 0).val / 1024 = g.val := by
  have e : (oBlk g).view.set = (Rect.unit (s := S3200000x16) ![1024 * g.val, 0] S1024x16.size (oBlk_inb g)).set := by
    show ((View.whole (main_v3_scv : Ref sig .scVector)).slice _).set = _
    rw [View.set_slice]; exact Finset.map_refl
  rw [e, Rect.mem_set_unit]
  constructor
  · intro h
    have h0 := h 0
    simp [S1024x16] at h0
    omega
  · intro h a
    have h1 : (x 1).val < 16 := (x 1).isLt
    match a with
    | 0 => simp [S1024x16]; omega
    | 1 => simp [S1024x16]; omega

/-- Task `(c, s)`'s elements; core `c`'s. -/
def tset (c : Fin 2) (s : Fin 16) : Finset S3200000x16.Idx := (Finset.range (nb (at_ c s))).biUnion fun m => (oBlk (blk (at_ c s) m)).view.set
def cset (c : Fin 2) : Finset S3200000x16.Idx := Finset.univ.biUnion (tset c)

theorem wk_at (c : Fin 2) (s : Fin 16) : wk (at_ c s) = s.val + 16 * c.val := rfl

theorem mem_tset (c : Fin 2) (s : Fin 16) (x : S3200000x16.Idx) :
    x ∈ tset c s ↔ bs (at_ c s) ≤ (x 0).val / 1024 ∧ (x 0).val / 1024 < bs (at_ c s) + nb (at_ c s) := by
  unfold tset
  simp only [Finset.mem_biUnion, Finset.mem_range]
  constructor
  · rintro ⟨m, hm, h⟩
    have h := (mem_oBlk _ x).mp h
    rw [blk_val hm] at h; omega
  · rintro ⟨h1, h2⟩
    refine ⟨(x 0).val / 1024 - bs (at_ c s), by omega, (mem_oBlk _ x).mpr ?_⟩
    rw [blk_val (by omega)]; omega

theorem blk_disjoint (c : Fin 2) (s : Fin 16) : ∀ m ∈ Finset.range (nb (at_ c s)), ∀ m' ∈ Finset.range (nb (at_ c s)), m ≠ m' →
    Disjoint ((oBlk (blk (at_ c s) m)).view.set : Finset S3200000x16.Idx) ((oBlk (blk (at_ c s) m')).view.set : Finset S3200000x16.Idx) := by
  intro m hm m' hm' hne
  rw [Finset.disjoint_left]
  intro x h h'
  rw [mem_oBlk, blk_val (Finset.mem_range.mp hm)] at h
  rw [mem_oBlk, blk_val (Finset.mem_range.mp hm')] at h'
  omega

/-- No block is two tasks'. -/
theorem one_task (c c' : Fin 2) (s s' : Fin 16) (x : S3200000x16.Idx) (h : x ∈ tset c s) (h' : x ∈ tset c' s') : s.val + 16 * c.val = s'.val + 16 * c'.val := by
  rw [mem_tset] at h h'
  unfold bs nb at h h'
  rw [wk_at] at h h'
  split at h <;> split at h' <;> omega

theorem tset_disjoint (c : Fin 2) : ∀ s ∈ (Finset.univ : Finset (Fin 16)), ∀ s' ∈ (Finset.univ : Finset (Fin 16)), s ≠ s' → Disjoint (tset c s) (tset c s') := by
  intro s _ s' _ hne
  rw [Finset.disjoint_left]
  intro x h h'
  exact hne (Fin.ext (by have := one_task c c s s' x h h'; omega))

theorem cset_disjoint : ∀ c ∈ (Finset.univ : Finset (Fin 2)), ∀ c' ∈ (Finset.univ : Finset (Fin 2)), c ≠ c' → Disjoint (cset c) (cset c') := by
  intro c _ c' _ hne
  rw [Finset.disjoint_left]
  intro x h h'
  unfold cset at h h'
  simp only [Finset.mem_biUnion, Finset.mem_univ, true_and] at h h'
  obtain ⟨s, h⟩ := h
  obtain ⟨s', h'⟩ := h'
  exact hne (Fin.ext (by have := one_task c c' s s' x h h'; omega))

/-- Every element is some task's. -/
theorem cset_cover : (Finset.univ : Finset (Fin 2)).biUnion cset = Finset.univ := by
  rw [Finset.eq_univ_iff_forall]
  intro x
  have hx : (x 0).val < 3200000 := (x 0).isLt
  have hw : ∃ w : ℕ, w < 32 ∧ (if w < 21 then w * 98 else w * 97 + 21) ≤ (x 0).val / 1024
      ∧ (x 0).val / 1024 < (if w < 21 then w * 98 else w * 97 + 21) + (if w < 21 then 98 else 97) := by
    by_cases h : (x 0).val / 1024 < 2058
    · refine ⟨(x 0).val / 1024 / 98, by omega, ?_, ?_⟩ <;> rw [if_pos (by omega)]
      · omega
      · rw [if_pos (by omega)]; omega
    · refine ⟨((x 0).val / 1024 - 21) / 97, by omega, ?_, ?_⟩ <;> rw [if_neg (by omega)]
      · omega
      · rw [if_neg (by omega)]; omega
  obtain ⟨w, h0, h1, h2⟩ := hw
  unfold cset
  simp only [Finset.mem_biUnion, Finset.mem_univ, true_and]
  refine ⟨⟨w / 16, by omega⟩, ⟨w % 16, by omega⟩, ?_⟩
  rw [mem_tset]
  unfold bs nb
  rw [wk_at]
  simp only [show w % 16 + 16 * (w / 16) = w by omega]
  exact ⟨h1, h2⟩

/-! ## The array held as the tasks' blocks -/

variable {F : FTy → Type}
variable {U : Type} [URA U]

local notation "𝕄" => MT nD τ sig (HIx 1) (Elt F) ℕ U ℕ

variable (d : Dev nD)

abbrev oLoc : Loc nD τ sig := (SparseCore.T (τ := τ) d).loc main_v3

/-- Task `(c, s)`'s blocks of the output, at `f`. -/
def tblocks (f : Buf (Elt F) (oLoc d)) (c : Fin 2) (s : Fin 16) : sProp 𝕄 :=
  bigSep (Finset.range (nb (at_ c s))) (OB (U := U) (F := F) d (at_ c s) f)

theorem tblocks_eq (f : Buf (Elt F) (oLoc d)) (c : Fin 2) (s : Fin 16) :
    (tblocks d f c s : sProp 𝕄) = (oLoc d ↦[tset c s]{fullShare} f) :=
  (pointsTo_biUnion (ℓ := oLoc d) (q := fullShare) (f := f) (Finset.range (nb (at_ c s))) (fun m => (oBlk (blk (at_ c s) m)).view.set) (blk_disjoint c s)).symm

theorem out_split (f : Buf (Elt F) (oLoc d)) :
    (oLoc d ↦{fullShare} f : sProp 𝕄) = bigSep Finset.univ fun c : Fin 2 => bigSep Finset.univ fun s : Fin 16 => tblocks d f c s := by
  have e : ∀ c : Fin 2, (bigSep Finset.univ fun s : Fin 16 => (tblocks d f c s : sProp 𝕄)) = (oLoc d ↦[cset c]{fullShare} f) := fun c => by
    rw [show (fun s : Fin 16 => (tblocks d f c s : sProp 𝕄)) = fun s => (oLoc d ↦[tset c s]{fullShare} f) from funext fun s => tblocks_eq d f c s]
    exact (pointsTo_biUnion (ℓ := oLoc d) (q := fullShare) (f := f) Finset.univ (tset c) (tset_disjoint c)).symm
  rw [show (fun c : Fin 2 => bigSep Finset.univ fun s : Fin 16 => (tblocks d f c s : sProp 𝕄)) = fun c => (oLoc d ↦[cset c]{fullShare} f) from funext e,
    ← pointsTo_biUnion (ℓ := oLoc d) (q := fullShare) (f := f) Finset.univ cset cset_disjoint, cset_cover]
  try rfl

/-! ## Shares of what every task reads -/

abbrev qc (c : Fin 2) : PosShare TreeShare := pieceOf fullShare 2 (by decide) c
abbrev qs (c : Fin 2) (s : Fin 16) : PosShare TreeShare := pieceOf (qc c) 16 (by decide) s
abbrev qp (c : Fin 2) (s : Fin 16) (p : Fin 2) : PosShare TreeShare := pieceOf (qs c s) 2 (by decide) p

theorem shares {ℓ : Loc nD τ sig} (f : Buf (Elt F) ℓ) :
    (ℓ ↦{fullShare} f : sProp 𝕄) = bigSep Finset.univ fun c : Fin 2 => bigSep Finset.univ fun s : Fin 16 => ℓ ↦{qs c s} f := by
  rw [pointsTo_piecesOf Finset.univ f (o := 2) (by decide) fullShare]
  exact bigSep_congr fun c _ => pointsTo_piecesOf Finset.univ f (o := 16) (by decide) (qc c)

theorem halves {ℓ : Loc nD τ sig} (f : Buf (Elt F) ℓ) (c : Fin 2) (s : Fin 16) :
    (ℓ ↦{qs c s} f : sProp 𝕄) = iprop((ℓ ↦{qp c s 0} f) ∗ (ℓ ↦{qp c s 1} f)) := by
  rw [pointsTo_piecesOf Finset.univ f (o := 2) (by decide) (qs c s)]
  exact BI.bigSep_univ_two _

/-! ## The slots of the scratch buffers -/

def iset (p : Fin 2) : Finset S2x1x1024.Idx := (iSl p).view.set
def oset (p : Fin 2) : Finset S2x1024x16.Idx := (oSl p).view.set

theorem mem_iset (p : Fin 2) (x : S2x1x1024.Idx) : x ∈ iset p ↔ (x 0).val = p.val := by
  have e : iset p = (Rect.unit (s := S2x1x1024) ![p.val, 0, 0] S1x1x1024.size (iSl_inb p)).set := by
    show (((View.whole (cc0_scoped0 : Ref sig .scVector)).slice _).reshape S1x1024 _).set = _
    rw [View.set_reshape, View.set_slice]; exact Finset.map_refl
  rw [e, Rect.mem_set_unit]
  constructor
  · intro h
    have h0 := h 0
    simp [S1x1x1024] at h0
    omega
  · intro h a
    have h1 : (x 1).val < 1 := (x 1).isLt
    have h2 : (x 2).val < 1024 := (x 2).isLt
    match a with
    | 0 => simp [S1x1x1024]; omega
    | 1 => simp [S1x1x1024]; omega
    | 2 => simp [S1x1x1024]; omega

theorem mem_oset (p : Fin 2) (x : S2x1024x16.Idx) : x ∈ oset p ↔ (x 0).val = p.val := by
  have e : oset p = (Rect.unit (s := S2x1024x16) ![p.val, 0, 0] S1x1024x16.size (oSl_inb p)).set := by
    show (((View.whole (cc0_scoped2 : Ref sig .scVector)).slice _).reshape S1024x16 _).set = _
    rw [View.set_reshape, View.set_slice]; exact Finset.map_refl
  rw [e, Rect.mem_set_unit]
  constructor
  · intro h
    have h0 := h 0
    simp [S1x1024x16] at h0
    omega
  · intro h a
    have h1 : (x 1).val < 1024 := (x 1).isLt
    have h2 : (x 2).val < 16 := (x 2).isLt
    match a with
    | 0 => simp [S1x1024x16]; omega
    | 1 => simp [S1x1024x16]; omega
    | 2 => simp [S1x1024x16]; omega

theorem iset_disjoint : ∀ p p', p ≠ p' → Disjoint (iset p) (iset p') := fun p p' h =>
  Finset.disjoint_left.mpr fun x hx hx' => h (Fin.ext (((mem_iset p x).mp hx).symm.trans ((mem_iset p' x).mp hx')))
theorem oset_disjoint : ∀ p p', p ≠ p' → Disjoint (oset p) (oset p') := fun p p' h =>
  Finset.disjoint_left.mpr fun x hx hx' => h (Fin.ext (((mem_oset p x).mp hx).symm.trans ((mem_oset p' x).mp hx')))
theorem iset_cover : Finset.univ.biUnion iset = Finset.univ := by
  rw [Finset.eq_univ_iff_forall]; intro x
  exact Finset.mem_biUnion.mpr ⟨x 0, Finset.mem_univ _, (mem_iset _ x).mpr rfl⟩
theorem oset_cover : Finset.univ.biUnion oset = Finset.univ := by
  rw [Finset.eq_univ_iff_forall]; intro x
  exact Finset.mem_biUnion.mpr ⟨x 0, Finset.mem_univ _, (mem_oset _ x).mpr rfl⟩

end Cert.Proof.GatherSplit

end
-- ==== Proof.GatherObl.lean ====
/-
  What the SparseCore call's handshakes carry, and the tasks' obligation: each task takes its shares of the table and of
  the ids and its blocks of the output, and brings the blocks back gathered.
-/
module

public import proofs.«01_k».proof.Proof.GatherSplit
public import Idealize.ShloMosaic.Lib.StableHlo.Run
public import Idealize.ShloMosaic.Lib.Pipeline.Kit

@[expose] public section

noncomputable section

namespace Cert.Proof.GatherObl

open Cert.KernelIdeal Cert.KernelIdeal.Gen Cert.Proof.TileWords Cert.Proof.TileMem Cert.Proof.TileGather Cert.Proof.TileTrip Cert.Proof.TileBody Cert.Proof.GatherSplit
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

abbrev tLoc (d : Dev nD) : Loc nD τ sig := (SparseCore.T d).loc main_arg1
abbrev iLoc (d : Dev nD) : Loc nD τ sig := (SparseCore.T d).loc main_v2

variable (tab : (d : Dev nD) → Buf (Elt F) (tLoc d)) (ids : (d : Dev nD) → Buf (Elt F) (iLoc d)) (f0 : (d : Dev nD) → Buf (Elt F) (oLoc d))

/-- The gathered array. -/
abbrev gout (d : Dev nD) : Buf (Elt F) (oLoc d) := gath (F := F) (tab d) (ids d)

/-! ## What the handshakes carry -/

/-- Task `(c, s)`'s part of the call, the output's blocks at `f`; core `c`'s. -/
abbrev part (f : (d : Dev nD) → Buf (Elt F) (oLoc d)) (d : Dev nD) (c : Fin 2) (s : Fin 16) : sProp 𝕄 :=
  iprop((tLoc d ↦{qs c s} tab d) ∗ (iLoc d ↦{qs c s} ids d) ∗ tblocks d (f d) c s)
abbrev half (f : (d : Dev nD) → Buf (Elt F) (oLoc d)) (d : Dev nD) (c : Fin 2) : sProp 𝕄 :=
  bigSep Finset.univ fun s : Fin 16 => part tab ids f d c s

def P : (K (F := F)).Pay (nD := nD) (Val := Elt F) (Name := ℕ) (U := UU) where
  st := fun q d c => match q with | 0 => half tab ids f0 d (Fin.cast nCore_zero c)
  dn := fun q d c => match q with | 0 => half tab ids (gout tab ids) d (Fin.cast nCore_zero c)
  go := fun q d c i => match q with | 0 => part tab ids f0 d (Fin.cast nCore_zero c) (Fin.cast nSub_zero i)
  td := fun q d c i => match q with | 0 => part tab ids (gout tab ids) d (Fin.cast nCore_zero c) (Fin.cast nSub_zero i)
  x := fun _ _ => iprop(emp)

instance tblocks_storable (d : Dev nD) (f : Buf (Elt F) (oLoc d)) (c : Fin 2) (s : Fin 16) :
    BI.Storable (upEmb : UEmb _ (MT nD τ sig (HIx 1) (Elt F) ℕ UU ℕ)) (tblocks d f c s) := by
  rw [tblocks_eq]; infer_instance

instance part_storable (f : (d : Dev nD) → Buf (Elt F) (oLoc d)) (d : Dev nD) (c : Fin 2) (s : Fin 16) :
    BI.Storable (upEmb : UEmb _ (MT nD τ sig (HIx 1) (Elt F) ℕ UU ℕ)) (part tab ids f d c s) := inferInstance

instance half_storable (f : (d : Dev nD) → Buf (Elt F) (oLoc d)) (d : Dev nD) (c : Fin 2) :
    BI.Storable (upEmb : UEmb _ (MT nD τ sig (HIx 1) (Elt F) ℕ UU ℕ)) (half tab ids f d c) := inferInstance

instance P_storable : (P (F := F) tab ids f0).IsStorable where
  st q d c := match q with | 0 => half_storable tab ids f0 d (Fin.cast nCore_zero c)
  dn q d c := match q with | 0 => half_storable tab ids (gout tab ids) d (Fin.cast nCore_zero c)
  go q d c i := match q with | 0 => part_storable tab ids f0 d (Fin.cast nCore_zero c) (Fin.cast nSub_zero i)
  td q d c i := match q with | 0 => part_storable tab ids (gout tab ids) d (Fin.cast nCore_zero c) (Fin.cast nSub_zero i)

variable [FloatOps F]

/-! ## A task's scratch -/

section Tile

variable (d : Dev nD) (c : Fin 2) (s : Fin 16)

abbrev thr : Thread nD τ := tile d (at_ c s)

abbrev cI (p : Fin 2) : GSem nD τ sig := (thr d c s, .dma (iSem p))
abbrev cO (p : Fin 2) : GSem nD τ sig := (thr d c s, .dma (oSem p))
abbrev cG : GSem nD τ sig := (thr d c s, .dma gSem)

theorem own_cell (sm : SemLoc sig) (h : sm.isScoped .scVector = true) : (thr d c s, sm) ∈ ownCells (thr d c s) :=
  (mem_ownCells (g := (thr d c s, sm))).mpr ⟨rfl, h⟩

theorem cell_ne {sm sm' : SemLoc sig} (h : sm ≠ sm') : ((thr d c s, sm) : GSem nD τ sig) ≠ (thr d c s, sm') := fun e => h (Prod.mk.inj e).2

def restCells : Finset (GSem nD τ sig) :=
  (((((ownCells (thr d c s)).erase (cI d c s 0)).erase (cI d c s 1)).erase (cO d c s 0)).erase (cO d c s 1)).erase (cG d c s)

theorem ownSems0_V :
    (ownSems0 (thr d c s) : sProp 𝕄)
      = iprop(semVal (cI d c s 0) 0 ∗ semVal (cI d c s 1) 0 ∗ semVal (cO d c s 0) 0 ∗ semVal (cO d c s 1) 0 ∗ semVal (cG d c s) 0
          ∗ bigSep (restCells d c s) fun g => semVal g 0) := by
  unfold SparseCore.Cfg.ownSems0 restCells
  rw [SparseCore.bigSep_erase' (own_cell d c s (.dma (iSem 0)) (by decide)),
    SparseCore.bigSep_erase' (Finset.mem_erase.mpr ⟨cell_ne d c s (sm := .dma (iSem 1)) (sm' := .dma (iSem 0)) (by decide), own_cell d c s (.dma (iSem 1)) (by decide)⟩),
    SparseCore.bigSep_erase' (Finset.mem_erase.mpr ⟨cell_ne d c s (sm := .dma (oSem 0)) (sm' := .dma (iSem 1)) (by decide),
      Finset.mem_erase.mpr ⟨cell_ne d c s (sm := .dma (oSem 0)) (sm' := .dma (iSem 0)) (by decide), own_cell d c s (.dma (oSem 0)) (by decide)⟩⟩),
    SparseCore.bigSep_erase' (Finset.mem_erase.mpr ⟨cell_ne d c s (sm := .dma (oSem 1)) (sm' := .dma (oSem 0)) (by decide),
      Finset.mem_erase.mpr ⟨cell_ne d c s (sm := .dma (oSem 1)) (sm' := .dma (iSem 1)) (by decide),
      Finset.mem_erase.mpr ⟨cell_ne d c s (sm := .dma (oSem 1)) (sm' := .dma (iSem 0)) (by decide), own_cell d c s (.dma (oSem 1)) (by decide)⟩⟩⟩),
    SparseCore.bigSep_erase' (Finset.mem_erase.mpr ⟨cell_ne d c s (sm := .dma gSem) (sm' := .dma (oSem 1)) (by decide),
      Finset.mem_erase.mpr ⟨cell_ne d c s (sm := .dma gSem) (sm' := .dma (oSem 0)) (by decide),
      Finset.mem_erase.mpr ⟨cell_ne d c s (sm := .dma gSem) (sm' := .dma (iSem 1)) (by decide),
      Finset.mem_erase.mpr ⟨cell_ne d c s (sm := .dma gSem) (sm' := .dma (iSem 0)) (by decide), own_cell d c s (.dma gSem) (by decide)⟩⟩⟩⟩)]

abbrev bI : DevRef τ sig := (thr d c s).2.devRef cc0_scoped0
abbrev bO : DevRef τ sig := (thr d c s).2.devRef cc0_scoped2

def restRefs : Finset (DevRef τ sig) := ((ownRefs (τ := τ) (thr d c s).2).erase (bI d c s)).erase (bO d c s)

theorem ownBufs_V :
    (ownBufs (thr d c s) : sProp 𝕄)
      = iprop((∃ f, (thr d c s).loc cc0_scoped0 ↦{fullShare} f) ∗ (∃ f, (thr d c s).loc cc0_scoped2 ↦{fullShare} f)
          ∗ bigSep (restRefs d c s) fun b => iprop(∃ f, ((d, b) : Loc nD τ sig) ↦{fullShare} f)) := by
  unfold SparseCore.Cfg.ownBufs restRefs
  refine (SparseCore.bigSep_erase' (SparseCore.Cfg.mem_ownRefs_of_owner (p := (thr d c s).2) (b := bI d c s) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d c s).2) (b := bO d c s) rfl⟩)]

/-- The id scratch whole is its two slots, and so is the row scratch. -/
theorem islots : (iprop(∃ f, (thr d c s).loc cc0_scoped0 ↦{fullShare} f) : sProp 𝕄)
    ⊢ iprop((∃ f, (iSl 0).view.loc (thr d c s) ↦[(iSl 0).view.set]{fullShare} f) ∗ ∃ f, (iSl 1).view.loc (thr d c s) ↦[(iSl 1).view.set]{fullShare} f) :=
  Ring.slots2_split (ℓ := (thr d c s).loc cc0_scoped0) iset iset_disjoint iset_cover _ _ (fun _ => rfl) (fun _ => rfl)
theorem islots_back : (iprop((∃ f, (iSl 0).view.loc (thr d c s) ↦[(iSl 0).view.set]{fullShare} f) ∗ ∃ f, (iSl 1).view.loc (thr d c s) ↦[(iSl 1).view.set]{fullShare} f) : sProp 𝕄)
    ⊢ iprop(∃ f, (thr d c s).loc cc0_scoped0 ↦{fullShare} f) :=
  Ring.slots2_join (ℓ := (thr d c s).loc cc0_scoped0) iset iset_disjoint iset_cover _ _ (fun _ => rfl) (fun _ => rfl)
theorem oslots : (iprop(∃ f, (thr d c s).loc cc0_scoped2 ↦{fullShare} f) : sProp 𝕄)
    ⊢ iprop((∃ f, (oSl 0).view.loc (thr d c s) ↦[(oSl 0).view.set]{fullShare} f) ∗ ∃ f, (oSl 1).view.loc (thr d c s) ↦[(oSl 1).view.set]{fullShare} f) :=
  Ring.slots2_split (ℓ := (thr d c s).loc cc0_scoped2) oset oset_disjoint oset_cover _ _ (fun _ => rfl) (fun _ => rfl)
theorem oslots_back : (iprop((∃ f, (oSl 0).view.loc (thr d c s) ↦[(oSl 0).view.set]{fullShare} f) ∗ ∃ f, (oSl 1).view.loc (thr d c s) ↦[(oSl 1).view.set]{fullShare} f) : sProp 𝕄)
    ⊢ iprop(∃ f, (thr d c s).loc cc0_scoped2 ↦{fullShare} f) :=
  Ring.slots2_join (ℓ := (thr d c s).loc cc0_scoped2) oset oset_disjoint oset_cover _ _ (fun _ => rfl) (fun _ => rfl)

theorem tblocks_is (f : Buf (Elt F) (oLoc d)) :
    (tblocks d f c s : sProp 𝕄) = bigSep (Finset.range (nb (at_ c s))) (OB (U := UU) (F := F) d (at_ c s) f) := rfl

/-- A task's own memory and its part of the call are what `wp_task` starts from, the rest of its own memory beside; -/
theorem start_of (f : (d : Dev nD) → Buf (Elt F) (oLoc d)) (O : CellTallies nD τ sig (HIx 1)) (W : Waits sig (HIx 1)) :
    (iprop(part tab ids f d c s ∗ ownBufs (thr d c s) ∗ ownSems0 (thr d c s) ∗ owes (thr d c s) O W) : sProp 𝕄)
      ⊢ iprop(Start (U := UU) d (at_ c s) (tab d) (ids d) (qs c s) (qp c s) (f d) O W
          ∗ (bigSep (restRefs d c s) fun b => iprop(∃ f, ((d, b) : Loc nD τ sig) ↦{fullShare} f)) ∗ bigSep (restCells d c s) fun g => semVal g 0) := by
  rw [ownSems0_V, ownBufs_V]
  unfold Start IIdle OIdle OW
  iintro ⟨⟨Ht, Hi, Hb⟩, ⟨HI, HO, Hbufs⟩, ⟨Hi0, Hi1, Ho0, Ho1, Hg, Hsems⟩, Hw⟩
  ihave HI' := (islots (F := F) d c s) $$ HI
  icases HI' with ⟨HI0, HI1⟩
  ihave HO' := (oslots (F := F) d c s) $$ HO
  icases HO' with ⟨HO0, HO1⟩
  ihave Hh := (Entails.of_eq (halves (F := F) (U := UU) (ℓ := iLoc d) (ids d) c s)) $$ Hi
  icases Hh with ⟨Hh0, Hh1⟩
  isplitr [Hbufs Hsems]
  · isplitl [HI0 Hi0 Hh0]
    · isplitl [HI0]; · iexact HI0
      isplitl [Hi0]; · iexact Hi0
      iexact Hh0
    isplitl [HI1 Hi1 Hh1]
    · isplitl [HI1]; · iexact HI1
      isplitl [Hi1]; · iexact Hi1
      iexact Hh1
    isplitl [HO0 Ho0]
    · isplitl [HO0]; · iexact HO0
      iexact Ho0
    isplitl [HO1 Ho1]
    · isplitl [HO1]; · iexact HO1
      iexact Ho1
    isplitl [Hb]; · iapply (Entails.of_eq (tblocks_is (F := F) d c s (f d))); iexact Hb
    isplitl [Ht]; · iexact Ht
    isplitl [Hg]; · iexact Hg
    iexists W; isplitr
    · ipureintro; exact fun p hp => Or.inl hp
    iexact Hw
  isplitl [Hbufs]; · iexact Hbufs
  iexact Hsems

/-- and back. -/
theorem of_start (f : (d : Dev nD) → Buf (Elt F) (oLoc d)) (O : CellTallies nD τ sig (HIx 1)) (W : Waits sig (HIx 1)) :
    (iprop(Start (U := UU) d (at_ c s) (tab d) (ids d) (qs c s) (qp c s) (f d) O W
          ∗ (bigSep (restRefs d c s) fun b => iprop(∃ f, ((d, b) : Loc nD τ sig) ↦{fullShare} f)) ∗ bigSep (restCells d c s) fun g => semVal g 0) : sProp 𝕄)
      ⊢ iprop(part tab ids f d c s ∗ ownBufs (thr d c s) ∗ ownSems0 (thr d c s) ∗ ∃ W', ⌜∀ p ∈ W', p ∈ W ∨ p.2 = none⌝ ∗ owes (thr d c s) O W') := by
  rw [ownSems0_V, ownBufs_V]
  unfold Start IIdle OIdle OW
  iintro ⟨⟨⟨HI0, Hi0, Hh0⟩, ⟨HI1, Hi1, Hh1⟩, ⟨HO0, Ho0⟩, ⟨HO1, Ho1⟩, Hb, Ht, Hg, Hw⟩, Hbufs, Hsems⟩
  isplitl [Ht Hh0 Hh1 Hb]
  · isplitl [Ht]; · iexact Ht
    isplitl [Hh0 Hh1]
    · iapply (Entails.of_eq (halves (F := F) (U := UU) (ℓ := iLoc d) (ids d) c s).symm)
      isplitl [Hh0]; · iexact Hh0
      iexact Hh1
    iapply (Entails.of_eq (tblocks_is (F := F) d c s (f d)).symm); iexact Hb
  isplitl [HI0 HI1 HO0 HO1 Hbufs]
  · isplitl [HI0 HI1]
    · iapply (islots_back (F := F) d c s)
      isplitl [HI0]; · iexact HI0
      iexact HI1
    isplitl [HO0 HO1]
    · iapply (oslots_back (F := F) d c s)
      isplitl [HO0]; · iexact HO0
      iexact HO1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iexact Hw

variable (hr : ∀ (d : Dev nD) (n : Fin 3200000), ((ids d (nIx n) : BitVec 32)).toNat < 100000)

include hr in
set_option maxHeartbeats 4000000 in
theorem task_at (f : (d : Dev nD) → Buf (Elt F) (oLoc d)) (O : CellTallies nD τ sig (HIx 1)) (W : Waits sig (HIx 1)) {Ψ : PUnit → sProp (MT nD τ sig (HIx 1) (Elt F) ℕ UU ℕ)} :
    (iprop(Start (U := UU) d (at_ c s) (tab d) (ids d) (qs c s) (qp c s) (f d) O W ∗ Transfers.MayWaits (thr d c s) (default : HIx 1) O) : sProp 𝕄)
    ⊢ iprop((Start (U := UU) d (at_ c s) (tab d) (ids d) (qs c s) (qp c s) (gout tab ids d) O W -∗ Ψ ⟨⟩)
      -∗ wp frame (wpE (defs₀ (F := F)) 𝒱₀ (thr d c s) none) Set.univ
          (cc0_gather_kernel (at_ c s) tabV (Memref.isWhole_whole _) idsV (Memref.isWhole_whole _) outV (Memref.isWhole_whole _)
            cc0_scratch0 iBuf (Memref.isWhole_whole _) cc0_scoped1 oBuf (Memref.isWhole_whole _) cc0_scoped3) Ψ) :=
  wp_task (F := F) (U := UU) d (at_ c s) (tab d) (ids d) (qs c s) (qp c s) (f d) O W (hr d)

include hr in
set_option maxHeartbeats 4000000 in
/-- The task on core `c`, subcore `s`. -/
theorem tile_body (O : CellTallies nD τ sig (HIx 1)) (W : Waits sig (HIx 1)) (hO : ∀ g, O g none = 0) :
    iprop(levAts (K (F := F)).L (K (F := F)).lev ∗ emp ∗ part tab ids f0 d c s
        ∗ scopedBufs (thr d c s) ∗ scopedSems0 (thr d c s) ∗ owes (thr d c s) O W)
      ⊢ wp frame (wpE (defs₀ (F := F)) 𝒱₀ (thr d c s) none) Set.univ
          (cc0_gather_kernel (at_ c s) tabV (Memref.isWhole_whole _) idsV (Memref.isWhole_whole _) outV (Memref.isWhole_whole _)
            cc0_scratch0 iBuf (Memref.isWhole_whole _) cc0_scoped1 oBuf (Memref.isWhole_whole _) cc0_scoped3)
          fun _ => iprop(part tab ids (gout tab ids) d c s ∗ scopedBufs (thr d c s) ∗ scopedSems0 (thr d c s)
            ∗ ∃ W', ⌜∀ p ∈ W', p ∈ W ∨ p.2 = none⌝ ∗ owes (thr d c s) O W') := by
  rw [show (scopedBufs (thr d c s) : sProp 𝕄) = _ from (K (F := F)).scopedBufs_V facts d _ _,
    show (scopedSems0 (thr d c s) : sProp 𝕄) = _ from SparseCore.Cfg.scopedSems0_V (Val := Elt F) d _ _]
  iintro ⟨#Hlv, -, Hp, Hb, Hs, HO⟩
  ihave Hmw := (show levAts (K (F := F)).L (K (F := F)).lev ⊢ (Transfers.MayWaits (thr d c s) (default : HIx 1) O : sProp 𝕄) from
    (K (F := F)).mayWaits_none (thr := thr d c s) hO) $$ Hlv
  ihave H := (start_of (F := F) tab ids d c s f0 O W) $$ [Hp Hb Hs HO]
  · isplitl [Hp]; · iexact Hp
    isplitl [Hb]; · iexact Hb
    isplitl [Hs]; · iexact Hs
    iexact HO
  icases H with ⟨HS, Hr⟩
  iapply (task_at (F := F) tab ids d c s hr f0 O W) $$ [HS Hmw]
  · isplitl [HS]; · iexact HS
    iexact Hmw
  iintro HS
  iapply (of_start (F := F) tab ids d c s (gout tab ids) O W)
  isplitl [HS]; · iexact HS
  iexact Hr

/-! ## The obligation -/

theorem defs₀_vector (c : Fin τ.nSC) (s : Fin τ.nSub) :
    defs₀ (F := F) (.scVector c s) 0 ()
      = SparseCore.onTile hcore0 hsub0 (fun c s => cc0_gather_kernel (at_ c s) tabV (Memref.isWhole_whole _) idsV (Memref.isWhole_whole _) outV (Memref.isWhole_whole _)
            cc0_scratch0 iBuf (Memref.isWhole_whole _) cc0_scoped1 oBuf (Memref.isWhole_whole _) cc0_scoped3) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

end Tile

variable (hr : ∀ (d : Dev nD) (n : Fin 3200000), ((ids d (nIx n) : BitVec 32)).toNat < 100000)

include hr in
set_option maxRecDepth 16384 in
set_option maxHeartbeats 4000000 in
theorem tileObl : (K (F := F)).TileObl (D (F := F)) 𝒱 (P tab ids f0) v₀ 0 := by
  intro d c i O W hO _ _
  simp only [show (P tab ids f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ids f0 d ⟨_, hci.1⟩ ⟨_, hci.2⟩ hr O W hO).trans (wp_mono frame _ _ fun _ => obl_post)

theorem vecSplit : (K (F := F)).VecSplit' (P tab ids f0) 0 := by
  intro d c
  show half tab ids f0 d (Fin.cast nCore_zero c) ⊢ |={Set.univ}=> iprop(
      (bigSep Finset.univ fun i : Fin ((K (F := F)).nSub 0) => part tab ids f0 d (Fin.cast nCore_zero c) (Fin.cast nSub_zero i))
      ∗ ((bigSep Finset.univ fun i : Fin ((K (F := F)).nSub 0) => part tab ids (gout tab ids) d (Fin.cast nCore_zero c) (Fin.cast nSub_zero i))
          -∗ half tab ids (gout tab ids) d (Fin.cast nCore_zero c)))
  iintro H; imodintro
  isplitl [H]; · iexact H
  iintro H; iexact H

/-! ## The call's operands, whole -/

/-- The table, the ids and the output, the last at `f`, are the two cores' halves. -/
theorem halves_eq (f : (d : Dev nD) → Buf (Elt F) (oLoc d)) (d : Dev nD) :
    (iprop((tLoc d ↦{fullShare} tab d) ∗ (iLoc d ↦{fullShare} ids d) ∗ (oLoc d ↦{fullShare} f d)) : sProp 𝕄)
      = bigSep Finset.univ fun c : Fin 2 => half tab ids f d c := by
  rw [shares (F := F) (U := UU) (tab d), shares (F := F) (U := UU) (ids d), out_split (F := F) (U := UU) d (f d), ← bigSep_sep', ← bigSep_sep']
  refine bigSep_congr fun c _ => ?_
  rw [← bigSep_sep', ← bigSep_sep']

end Cert.Proof.GatherObl

end
-- ==== Proof.MainVals.lean ====
/-
  The program around its two calls: the host operations before, between and after them, the contents of the device's
  arrays at each stage, and the arrays each call takes.
-/
module

public import proofs.«01_k».proof.Proof.BlockArr
public import proofs.«01_k».proof.Proof.GatherObl
public import Idealize.ShloMosaic.Lib.Pipeline.FrameSuffix

@[expose] public section

noncomputable section

namespace Cert.Proof.MainVals

open Cert.KernelIdeal Cert.KernelIdeal.Gen
open Cert.Proof.TileMem Cert.Proof.TileGather Cert.Proof.GatherSplit Cert.Proof.GatherObl Cert.Proof.BlockMem Cert.Proof.BlockRegion Cert.Proof.BlockArr
open Idealize.ShloMosaic
open Idealize.ShloMosaic.StableHlo (held after seq)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The host operations -/

/-- Before the gather: the edge features transposed, and their first row as whole numbers. -/
def opsA : List (HloOp τ sig (Elt F)) :=
  [StableHlo.unary main_arg0 main_v0 ((transpose S16x3200000 [1, 0] · transposes_S3200000x16_S16x3200000_1_0) : (⟨S3200000x16, .f32⟩ : BufTy).Contents (Elt F) → (⟨S16x3200000, .f32⟩ : BufTy).Contents (Elt F)),
    StableHlo.unary main_v0 main_v1 ((extractStridedSlice S1x3200000 ![0, 0] · slices_S16x3200000_S1x3200000_0_0) : (⟨S16x3200000, .f32⟩ : BufTy).Contents (Elt F) → (⟨S1x3200000, .f32⟩ : BufTy).Contents (Elt F)),
    StableHlo.unary main_v1 main_v2 (fptosi 32 : (⟨S1x3200000, .f32⟩ : BufTy).Contents (Elt F) → (⟨S1x3200000, .i32⟩ : BufTy).Contents (Elt F))]
/-- Between the calls: the weights and biases as the dense call takes them. -/
def opsB : List (HloOp τ sig (Elt F)) :=
  [StableHlo.unary main_arg2 main_v4 ((extractStridedSlice S16x32 ![0, 0] · slices_S31x32_S16x32_0_0) : (⟨S31x32, .f32⟩ : BufTy).Contents (Elt F) → (⟨S16x32, .f32⟩ : BufTy).Contents (Elt F)),
    StableHlo.unary main_v4 main_v5 ((transpose S32x16 [1, 0] · transposes_S16x32_S32x16_1_0) : (⟨S16x32, .f32⟩ : BufTy).Contents (Elt F) → (⟨S32x16, .f32⟩ : BufTy).Contents (Elt F)),
    StableHlo.nullary main_cst (constant S_ .f32 0x00000000#32),
    StableHlo.unary main_cst main_v6 (broadcastInDim S1x32 ![] bcast_S_S1x32 : (⟨S_, .f32⟩ : BufTy).Contents (Elt F) → (⟨S1x32, .f32⟩ : BufTy).Contents (Elt F)),
    StableHlo.unary main_arg2 main_v7 ((extractStridedSlice S15x32 ![16, 0] · slices_S31x32_S15x32_16_0) : (⟨S31x32, .f32⟩ : BufTy).Contents (Elt F) → (⟨S15x32, .f32⟩ : BufTy).Contents (Elt F)),
    StableHlo.binary main_v6 main_v7 main_v8 ((fun a b => concatenate S16x32 0 [⟨S1x32, a⟩, ⟨S15x32, b⟩] concatenates_S1x32_S15x32_S16x32_d0) : (⟨S1x32, .f32⟩ : BufTy).Contents (Elt F) → (⟨S15x32, .f32⟩ : BufTy).Contents (Elt F) → (⟨S16x32, .f32⟩ : BufTy).Contents (Elt F)),
    StableHlo.unary main_v8 main_v9 ((transpose S32x16 [1, 0] · transposes_S16x32_S32x16_1_0) : (⟨S16x32, .f32⟩ : BufTy).Contents (Elt F) → (⟨S32x16, .f32⟩ : BufTy).Contents (Elt F)),
    StableHlo.reshape main_arg3 main_v10 (rfl : (.f32 : EltTy) = .f32) shapeCasts_S32_S32x1,
    StableHlo.reshape main_arg5 main_v11 (rfl : (.f32 : EltTy) = .f32) shapeCasts_S32_S32x1,
    StableHlo.unary main_arg4 main_v12 ((transpose S32x32 [1, 0] · transposes_S32x32_S32x32_1_0) : (⟨S32x32, .f32⟩ : BufTy).Contents (Elt F) → (⟨S32x32, .f32⟩ : BufTy).Contents (Elt F))]
/-- After: the result transposed. -/
def opsC : List (HloOp τ sig (Elt F)) :=
  [StableHlo.unary main_v13 main_v14 ((transpose S3200000x32 [1, 0] · transposes_S32x3200000_S3200000x32_1_0) : (⟨S32x3200000, .f32⟩ : BufTy).Contents (Elt F) → (⟨S3200000x32, .f32⟩ : BufTy).Contents (Elt F))]

theorem main_eq (d : Dev nD) : main (F := F) d
    = (seq opsA >>= fun _ => sc.run d 0 >>= fun _ => seq opsB >>= fun _ =>
        Prog.lift (.customCall (SparseCore.inner (Pipeline.entry 0)) ()) >>= fun _ => seq opsC >>= fun _ => pure ⟨⟩) := by
  simp only [main, opsA, opsB, opsC, seq, bind_assoc, pure_bind]

/-- The device's arrays. -/
abbrev S : Finset (DevRef τ sig) := Pipeline.ucRefs τ sig

abbrev r' (b : Ref sig .tc) : DevRef τ sig := Proc.devRef .tc b

theorem subA : ∀ op ∈ opsA (F := F), op.bufs ⊆ S := by
  intro op h
  fin_cases h
  · exact (show ({r' main_arg0, r' main_v0} : Finset (DevRef τ sig)) ⊆ S by decide)
  · exact (show ({r' main_v0, r' main_v1} : Finset (DevRef τ sig)) ⊆ S by decide)
  · exact (show ({r' main_v1, r' main_v2} : Finset (DevRef τ sig)) ⊆ S by decide)
theorem subB : ∀ op ∈ opsB (F := F), op.bufs ⊆ S := by
  intro op h
  fin_cases h
  · exact (show ({r' main_arg2, r' main_v4} : Finset (DevRef τ sig)) ⊆ S by decide)
  · exact (show ({r' main_v4, r' main_v5} : Finset (DevRef τ sig)) ⊆ S by decide)
  · exact (show ({r' main_cst} : Finset (DevRef τ sig)) ⊆ S by decide)
  · exact (show ({r' main_cst, r' main_v6} : Finset (DevRef τ sig)) ⊆ S by decide)
  · exact (show ({r' main_arg2, r' main_v7} : Finset (DevRef τ sig)) ⊆ S by decide)
  · exact (show ({r' main_v6, r' main_v7, r' main_v8} : Finset (DevRef τ sig)) ⊆ S by decide)
  · exact (show ({r' main_v8, r' main_v9} : Finset (DevRef τ sig)) ⊆ S by decide)
  · exact (show ({r' main_arg3, r' main_v10} : Finset (DevRef τ sig)) ⊆ S by decide)
  · exact (show ({r' main_arg5, r' main_v11} : Finset (DevRef τ sig)) ⊆ S by decide)
  · exact (show ({r' main_arg4, r' main_v12} : Finset (DevRef τ sig)) ⊆ S by decide)
theorem subC : ∀ op ∈ opsC (F := F), op.bufs ⊆ S := by
  intro op h
  fin_cases h
  exact (show ({r' main_v13, r' main_v14} : Finset (DevRef τ sig)) ⊆ S by decide)

theorem freshA : ∀ op ∈ opsA (F := F), op.fresh = ∅ := by intro op h; fin_cases h <;> rfl
theorem freshB : ∀ op ∈ opsB (F := F), op.fresh = ∅ := by intro op h; fin_cases h <;> rfl
theorem freshC : ∀ op ∈ opsC (F := F), op.fresh = ∅ := by intro op h; fin_cases h <;> rfl

/-! ## The arrays at each stage -/

variable (m : (ℓ : Loc nD τ sig) → Buf (Elt F) ℓ)

def V0 (d : Dev nD) : Valuation τ sig (Elt F) := fun b => m (d, b)
def V1 (d : Dev nD) : Valuation τ sig (Elt F) := after opsA (V0 m d)
/-- The gather's table, ids, and the array it fills as found. -/
def tab (d : Dev nD) : Buf (Elt F) (tLoc d) := V1 m d (r' main_arg1)
def ids (d : Dev nD) : Buf (Elt F) (iLoc d) := V1 m d (r' main_v2)
def f0 (d : Dev nD) : Buf (Elt F) (oLoc d) := V1 m d (r' main_v3)
/-- After the gather. -/
def V2 (d : Dev nD) : Valuation τ sig (Elt F) := Function.update (V1 m d) (r' main_v3) (gout (tab m) (ids m) d)
def V3 (d : Dev nD) : Valuation τ sig (Elt F) := after opsB (V2 m d)
/-- The dense call's arrays and the gathered rows. -/
def arr (c : Dev nD) (w : Fin 7) : Buf (Elt F) ((cfg1.win w).arr.view.loc (core c)) := V3 m c (r' (Pipeline.arrRef spec1 w))
def rows (c : Dev nD) : Buf (Elt F) (rowsV.view.loc (core c)) := V3 m c (r' main_v3)
/-- After the dense call, and at the end. -/
def V4 (d : Dev nD) : Valuation τ sig (Elt F) := Function.update (V3 m d) (r' main_v13) (outArr (arr m) (rows m) d)
def V5 (d : Dev nD) : Valuation τ sig (Elt F) := after opsC (V4 m d)

/-! ## What each call takes out of the arrays -/

variable {U : Type} [URA U]

local notation "𝕄" => MT nD τ sig (HIx 1) (Elt F) ℕ U ℕ

abbrev SG : Finset (DevRef τ sig) := {r' main_arg1, r' main_v2, r' main_v3}
abbrev SD : Finset (DevRef τ sig) := {r' main_v0, r' main_v5, r' main_v9, r' main_v10, r' main_v12, r' main_v11, r' main_v13, r' main_v3}
theorem SG_sub : SG ⊆ S := by decide
theorem SD_sub : SD ⊆ S := by decide

theorem held_SG (d : Dev nD) (W : Valuation τ sig (Elt F)) :
    (held (core d) SG W : sProp 𝕄) = iprop(((core d).loc main_arg1 ↦{fullShare} W (r' main_arg1)) ∗ ((core d).loc main_v2 ↦{fullShare} W (r' main_v2))
      ∗ (core d).loc main_v3 ↦{fullShare} W (r' main_v3)) := by
  unfold held SG
  rw [SparseCore.bigSep_insert' (by decide), SparseCore.bigSep_insert' (by decide), bigSep_singleton]

theorem held_SD (d : Dev nD) (W : Valuation τ sig (Elt F)) :
    (held (core d) SD W : sProp 𝕄) = iprop(((core d).loc main_v0 ↦{fullShare} W (r' main_v0)) ∗ ((core d).loc main_v5 ↦{fullShare} W (r' main_v5))
      ∗ ((core d).loc main_v9 ↦{fullShare} W (r' main_v9)) ∗ ((core d).loc main_v10 ↦{fullShare} W (r' main_v10))
      ∗ ((core d).loc main_v12 ↦{fullShare} W (r' main_v12)) ∗ ((core d).loc main_v11 ↦{fullShare} W (r' main_v11))
      ∗ ((core d).loc main_v13 ↦{fullShare} W (r' main_v13)) ∗ (core d).loc main_v3 ↦{fullShare} W (r' main_v3)) := by
  unfold held SD
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem V2_v3 (d : Dev nD) : V2 m d (r' main_v3) = gout (tab m) (ids m) d := Function.update_self _ _ _
theorem V2_ne (d : Dev nD) {b : DevRef τ sig} (h : b ≠ r' main_v3) : V2 m d b = V1 m d b := Function.update_of_ne h _ _
theorem V4_v13 (d : Dev nD) : V4 m d (r' main_v13) = outArr (arr m) (rows m) d := Function.update_self _ _ _
theorem V4_ne (d : Dev nD) {b : DevRef τ sig} (h : b ≠ r' main_v13) : V4 m d b = V3 m d b := Function.update_of_ne h _ _

/-- All the arrays before the gather: its three, and the rest; after it likewise. -/
theorem before_gather (d : Dev nD) :
    (held (core d) S (V1 m d) : sProp 𝕄) = iprop(((tLoc d ↦{fullShare} tab m d) ∗ (iLoc d ↦{fullShare} ids m d) ∗ oLoc d ↦{fullShare} f0 m d)
      ∗ held (core d) (S \ SG) (V1 m d)) := by
  rw [StableHlo.held_sub_split (core d) SG_sub, held_SG]; rfl
theorem after_gather (d : Dev nD) :
    (held (core d) S (V2 m d) : sProp 𝕄) = iprop(((tLoc d ↦{fullShare} tab m d) ∗ (iLoc d ↦{fullShare} ids m d) ∗ oLoc d ↦{fullShare} gout (tab m) (ids m) d)
      ∗ held (core d) (S \ SG) (V1 m d)) := by
  rw [StableHlo.held_sub_split (core d) SG_sub, held_SG, V2_v3, V2_ne m d (show r' main_arg1 ≠ r' main_v3 by decide), V2_ne m d (show r' main_v2 ≠ r' main_v3 by decide),
    StableHlo.held_congr (core d) (S := S \ SG) fun b hb => V2_ne m d fun e =>
      (Finset.mem_sdiff.mp hb).2 (by rw [e]; exact (by decide : r' main_v3 ∈ SG))]
  rfl

/-- All the arrays before the dense call: its own, the gathered rows, and the rest; after it likewise. -/
theorem before_dense (d : Dev nD) :
    (held (core d) S (V3 m d) : sProp 𝕄) = iprop((((core d).loc main_v0 ↦{fullShare} arr m d 0) ∗ ((core d).loc main_v5 ↦{fullShare} arr m d 1)
        ∗ ((core d).loc main_v9 ↦{fullShare} arr m d 2) ∗ ((core d).loc main_v10 ↦{fullShare} arr m d 3) ∗ ((core d).loc main_v12 ↦{fullShare} arr m d 4)
        ∗ ((core d).loc main_v11 ↦{fullShare} arr m d 5) ∗ ((core d).loc main_v13 ↦{fullShare} arr m d 6) ∗ rowsV.view.loc (core d) ↦{fullShare} rows m d)
      ∗ held (core d) (S \ SD) (V3 m d)) := by
  rw [StableHlo.held_sub_split (core d) SD_sub, held_SD]; rfl
theorem after_dense (d : Dev nD) :
    (held (core d) S (V4 m d) : sProp 𝕄) = iprop((((core d).loc main_v0 ↦{fullShare} arr m d 0) ∗ ((core d).loc main_v5 ↦{fullShare} arr m d 1)
        ∗ ((core d).loc main_v9 ↦{fullShare} arr m d 2) ∗ ((core d).loc main_v10 ↦{fullShare} arr m d 3) ∗ ((core d).loc main_v12 ↦{fullShare} arr m d 4)
        ∗ ((core d).loc main_v11 ↦{fullShare} arr m d 5) ∗ ((core d).loc main_v13 ↦{fullShare} outArr (arr m) (rows m) d) ∗ rowsV.view.loc (core d) ↦{fullShare} rows m d)
      ∗ held (core d) (S \ SD) (V3 m d)) := by
  rw [StableHlo.held_sub_split (core d) SD_sub, held_SD, V4_v13, V4_ne m d (show r' main_v0 ≠ r' main_v13 by decide), V4_ne m d (show r' main_v5 ≠ r' main_v13 by decide),
    V4_ne m d (show r' main_v9 ≠ r' main_v13 by decide), V4_ne m d (show r' main_v10 ≠ r' main_v13 by decide), V4_ne m d (show r' main_v12 ≠ r' main_v13 by decide),
    V4_ne m d (show r' main_v11 ≠ r' main_v13 by decide), V4_ne m d (show r' main_v3 ≠ r' main_v13 by decide),
    StableHlo.held_congr (core d) (S := S \ SD) fun b hb => V4_ne m d fun e =>
      (Finset.mem_sdiff.mp hb).2 (by rw [e]; exact (by decide : r' main_v13 ∈ SD))]
  rfl

end Cert.Proof.MainVals

end
-- ==== Proof.MainRun.lean ====
/-
  The whole program's run: the gather, the dense call and the host operations around them, from any contents of the arrays
  whose ids are in range. It ends with every array of a device at `V5`, and every semaphore at zero.
-/
module

public import proofs.«01_k».proof.Proof.MainVals

@[expose] public section

noncomputable section

namespace Cert.Proof.MainRun

open Cert.KernelIdeal Cert.KernelIdeal.Gen
open Cert.Proof.TileMem Cert.Proof.TileGather Cert.Proof.GatherSplit Cert.Proof.GatherObl Cert.Proof.BlockMem Cert.Proof.BlockRegion Cert.Proof.BlockArr Cert.Proof.MainVals
open Idealize.ShloMosaic
open Idealize.ShloMosaic.StableHlo (held after seq)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The dense call's waits and shares -/

/-- The waits the TensorCore may have recorded after the gather. -/
def recd (c : Dev nD) : Set (SemLoc sig × HIx 1) := {p | (K (F := F)).lev (core c, p.1) p.2 ≤ 8 * SparseCore.Cfg.Blocks.fst 1 1 1}

theorem recd_default (c : Dev nD) (s : SemLoc sig) : (s, (default : HIx 1)) ∈ recd (F := F) c := Nat.zero_le _

/-- The two shares of the gathered rows. -/
def qg (p : Fin 2) : PosShare TreeShare := pieceOf fullShare 2 (by decide) p

theorem rows_two (c : Dev nD) : (rowsV.view.loc (core c) ↦{fullShare} rows m c : sProp 𝕄) = gath2 (U := UU) (rows m) qg c := by
  rw [pointsTo_piecesOf Finset.univ (rows m c) (o := 2) (by decide) fullShare]
  exact BI.bigSep_univ_two _

abbrev dd (c : Dev nD) := dat (U := UU) (arr m) (rows m) qg (recd (F := F)) c

theorem arrays_first (c : Dev nD) : ((dd m c).arrays ((dd m c).arrAt · 0) : sProp 𝕄)
    = iprop(((core c).loc main_v0 ↦{fullShare} arr m c 0) ∗ ((core c).loc main_v5 ↦{fullShare} arr m c 1) ∗ ((core c).loc main_v9 ↦{fullShare} arr m c 2)
        ∗ ((core c).loc main_v10 ↦{fullShare} arr m c 3) ∗ ((core c).loc main_v12 ↦{fullShare} arr m c 4) ∗ ((core c).loc main_v11 ↦{fullShare} arr m c 5)
        ∗ ((core c).loc main_v13 ↦{fullShare} arr m c 6)) := by
  rw [arrays_chain]; rfl

theorem arrays_last (c : Dev nD) : ((dd m c).arrays ((dd m c).arrAt · cfg1.N) : sProp 𝕄)
    = iprop(((core c).loc main_v0 ↦{fullShare} arr m c 0) ∗ ((core c).loc main_v5 ↦{fullShare} arr m c 1) ∗ ((core c).loc main_v9 ↦{fullShare} arr m c 2)
        ∗ ((core c).loc main_v10 ↦{fullShare} arr m c 3) ∗ ((core c).loc main_v12 ↦{fullShare} arr m c 4) ∗ ((core c).loc main_v11 ↦{fullShare} arr m c 5)
        ∗ ((core c).loc main_v13 ↦{fullShare} outArr (arr m) (rows m) c)) := by
  rw [arrays_chain, arrAt_op _ _ _ _ c 0 rfl, arrAt_op _ _ _ _ c 1 rfl, arrAt_op _ _ _ _ c 2 rfl, arrAt_op _ _ _ _ c 3 rfl, arrAt_op _ _ _ _ c 4 rfl,
    arrAt_op _ _ _ _ c 5 rfl, arrAt_6]

/-! ## The dense call -/

abbrev rg := reg (U := UU) (arr m) (rows m) qg (recd (F := F)) recd_default (K (F := F)).L (K (F := F)).lev

theorem pinj : Function.Injective (Pipeline.cellOf (nD := nD) (τ := τ) (Pipeline.pin (pcfgs (F := F)) adm)) := cellOf_inj

/-- The pipeline's ghost state of a device. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- What the TensorCore has recorded and owes after the gather, but for the handshakes. -/
abbrev owed1 (d : Dev nD) : sProp 𝕄 :=
  iprop(∃ W, ⌜(K (F := F)).WBelow (SparseCore.T d) W (8 * SparseCore.Cfg.Blocks.fst 1 1 1)⌝ ∗ owes (SparseCore.T d) (0 : CellTallies nD τ sig (HIx 1)) W)

theorem rg_pre (d : Dev nD) : (rg m).pre d
    = iprop((dd m d).arrays ((dd m d).arrAt · 0) ∗ (dd m d).owesAt none 0 ∗ gath2 (U := UU) (rows m) qg d) := rfl
theorem rg_post (d : Dev nD) : (rg m).post d
    = iprop((dd m d).arrays ((dd m d).arrAt · cfg1.N) ∗ (dd m d).owesAt none (Fin.last cfg1.N) ∗ gath2 (U := UU) (rows m) qg d) := rfl

/-- The dense call, from all the arrays. -/
theorem wp_dense (d : Dev nD) {Ψ : PUnit → sProp (MT nD τ sig (HIx 1) (Elt F) ℕ UU ℕ)} [∀ e, Nonempty (Elt F e)] :
    (iprop(boundary (core d) ∗ held (core d) S (V3 m d) ∗ owed1 d ∗ levAts (K (F := F)).L (K (F := F)).lev ∗ ghost d) : sProp 𝕄)
      ⊢ iprop(((boundary (core d) ∗ held (core d) S (V4 m d) ∗ owed1 d) -∗ Ψ ⟨⟩)
        -∗ wp frame (wpE ((K (F := F)).defs (D (F := F))) 𝒱 (SparseCore.T d) none) Set.univ
          (Prog.lift (.customCall (SparseCore.inner (Pipeline.entry 0)) ())) Ψ) := by
  iintro ⟨Hb, Hh, HO, Hl, Hg⟩ Hk
  iapply ((K (F := F)).wp_liftProg (D (F := F)) 𝒱 (SparseCore.T d) Set.univ none (Prog.lift (.customCall (Pipeline.entry 0) ())) Ψ)
  iapply (Pipeline.RegionSeg.wp (pcfgs (F := F)) adm (pdats (U := UU) (arr m) (rows m) qg (recd (F := F))) (none : HIx 1) pinj EP defs₀ 𝒱₀
    (K (F := F)).L (K (F := F)).lev (rg m) d none (fun _ h => nomatch h) (fun _ => .ret ⟨⟩) Ψ)
  ihave Hh := (Entails.of_eq (before_dense (U := UU) m d)) $$ Hh
  icases Hh with ⟨⟨H0, H1, H2, H3, H4, H5, H6, HG⟩, Hrest⟩
  ihave HG := (Entails.of_eq (rows_two m d)) $$ HG
  icases HO with ⟨%W, %hW, HO⟩
  isplitl [Hk Hrest]
  · iintro ⟨Hb, Hp⟩
    ihave Hp := (Entails.of_eq (rg_post m d)) $$ Hp
    icases Hp with ⟨Ha, HO, HG⟩
    rw [wp_ret]
    imodintro
    iapply Hk
    isplitl [Hb]; · iexact Hb
    isplitr [HO]
    · iapply (Entails.of_eq (after_dense (U := UU) m d).symm)
      ihave Ha := (Entails.of_eq (arrays_last m d)) $$ Ha
      icases Ha with ⟨H0, H1, H2, H3, H4, H5, H6⟩
      isplitr [Hrest]
      · isplitl [H0]; · iexact H0
        isplitl [H1]; · iexact H1
        isplitl [H2]; · iexact H2
        isplitl [H3]; · iexact H3
        isplitl [H4]; · iexact H4
        isplitl [H5]; · iexact H5
        isplitl [H6]; · iexact H6
        iapply (Entails.of_eq (rows_two m d).symm) $$ HG
      · iexact Hrest
    · icases HO with ⟨%W', %hW', HO⟩
      iexists W'
      isplitr; swap; (· iexact HO)
      ipureintro
      intro p hp
      rcases hW' hp with h | ⟨w, s, h⟩
      · exact h
      · rw [h]; exact Nat.zero_le _
  · isplitl [Hb]; · iexact Hb
    isplitr [Hl Hg]
    · iapply (Entails.of_eq (rg_pre m d).symm)
      isplitl [H0 H1 H2 H3 H4 H5 H6]
      · iapply (Entails.of_eq (arrays_first m d).symm)
        isplitl [H0]; · iexact H0
        isplitl [H1]; · iexact H1
        isplitl [H2]; · iexact H2
        isplitl [H3]; · iexact H3
        isplitl [H4]; · iexact H4
        isplitl [H5]; · iexact H5
        iexact H6
      isplitl [HO]
      · iexists W
        isplitr; swap; (· iexact HO)
        ipureintro
        exact fun p hp => Or.inl (hW p hp)
      iexact HG
    isplitl [Hl]; · iexact Hl
    iexact Hg

/-! ## The gather -/

theorem gather_in (d : Dev nD) :
    (iprop((tLoc d ↦{fullShare} tab m d) ∗ (iLoc d ↦{fullShare} ids m d) ∗ oLoc d ↦{fullShare} f0 m d) : sProp 𝕄)
      = bigSep Finset.univ fun c : Fin ((K (F := F)).nCore 0) => (P (F := F) (tab m) (ids m) (f0 m)).st 0 d c :=
  halves_eq (tab m) (ids m) (f0 m) d
theorem gather_out (d : Dev nD) :
    (bigSep Finset.univ fun c : Fin ((K (F := F)).nCore 0) => (P (F := F) (tab m) (ids m) (f0 m)).dn 0 d c : sProp 𝕄)
      = iprop((tLoc d ↦{fullShare} tab m d) ∗ (iLoc d ↦{fullShare} ids m d) ∗ oLoc d ↦{fullShare} gout (tab m) (ids m) d) :=
  (halves_eq (tab m) (ids m) (gout (tab m) (ids m)) d).symm

/-! ## The program -/

abbrev FIN (d : Dev nD) : sProp 𝕄 := held (core d) S (V5 m d)

theorem tcSt_eq (d : Dev nD) : ((K (F := F)).tcSt EH d 1 : sProp 𝕄) = iprop(owed1 (F := F) d
    ∗ atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1))) := by
  unfold SparseCore.Cfg.tcSt
  rw [(K (F := F)).Otc_end d (le_refl 1)]

set_option maxHeartbeats 4000000 in
theorem hmain [∀ e, Nonempty (Elt F e)] (κ : GSem nD τ sig → ℕ) (d : Dev nD) :
    iprop((K (F := F)).ctx EH (P (F := F) (tab m) (ids m) (f0 m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (core d) S (V0 m d) from Pipeline.unscopedBufs_held d (V0 m d)]
  iintro ⟨#Hctx, Hst, ⟨Hb, Hh, Hts, -⟩, Hg⟩
  iapply (StableHlo.wp_seq 𝒱 none Set.univ d S _ opsA subA freshA (V0 m d)) $$ [Hb Hh]
  · isplitl [Hb]; · iexact Hb
    iexact Hh
  iintro ⟨Hb, Hh⟩
  ihave Hh := (Entails.of_eq (show (held (core d) S (after opsA (V0 m d)) : sProp 𝕄) = _ from before_gather (U := UU) m d)) $$ Hh
  icases Hh with ⟨HG, Hrest⟩
  ihave HG := (Entails.of_eq (gather_in m d)) $$ HG
  rw [wp_bind]
  iapply ((K (F := F)).wp_run (D (F := F)) 𝒱 (EH := EH) (P := P (F := F) (tab m) (ids m) (f0 m)) κ d 0) $$ [Hst HG Hb Hrest Hts Hg]
  isplitr; · iexact Hctx
  isplitl [Hst]; · iexact Hst
  isplitl [HG]; · iexact HG
  iintro ⟨Hst, HG⟩
  ihave HG := (Entails.of_eq (gather_out m d)) $$ HG
  ihave Hh := (Entails.of_eq (after_gather (U := UU) m d).symm) $$ [HG Hrest]
  · isplitl [HG]; · iexact HG
    iexact Hrest
  iapply (StableHlo.wp_seq 𝒱 none Set.univ d S _ opsB subB freshB (V2 m d)) $$ [Hb Hh]
  · isplitl [Hb]; · iexact Hb
    iexact Hh
  iintro ⟨Hb, Hh⟩
  ihave Hst := (Entails.of_eq (show ((K (F := F)).tcSt EH d ((0 : Fin 1).val + 1) : sProp 𝕄) = _ from tcSt_eq (F := F) d)) $$ Hst
  icases Hst with ⟨HO, Hst⟩
  ihave #Hl := ((K (F := F)).ctx_levAts (EH := EH) (P := P (F := F) (tab m) (ids m) (f0 m)) κ) $$ Hctx
  rw [wp_bind]
  iapply (wp_dense m d) $$ [Hb Hh HO Hg]
  · isplitl [Hb]; · iexact Hb
    isplitl [Hh]; · iexact Hh
    isplitl [HO]; · iexact HO
    isplitr [Hg]; · iexact Hl
    iexact Hg
  iintro ⟨Hb, Hh, HO⟩
  iapply (StableHlo.wp_seq 𝒱 none Set.univ d S _ opsC subC freshC (V4 m d)) $$ [Hb Hh]
  · isplitl [Hb]; · iexact Hb
    iexact Hh
  iintro ⟨Hb, Hh⟩
  rw [wp_pure]
  imodintro
  isplitl [HO Hst]
  · iapply (Entails.of_eq (tcSt_eq (F := F) d).symm)
    isplitl [HO]; · iexact HO
    iexact Hst
  isplitl [Hh]; · iexact Hh
  isplitl [Hb]; · iexact Hb
  iexact Hts

/-! ## The launch -/

def u₀ : UU := (initOf (K (F := F)).hsCells (K (F := F)).hsToks,
  (initOf (Pipeline.cells (Pipeline.pin (pcfgs (F := F)) adm) pinj) (Pipeline.launchToks (Pipeline.pin (pcfgs (F := F)) adm) pinj), (1 : Counters)))

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P (F := F) (tab m) (ids m) (f0 m)).x q thr) := by
  unfold u₀
  iintro Hu
  ihave H := (ownU_pair _ _) $$ Hu
  icases H with ⟨HH, HR⟩
  ihave HR := (own_pair_emb _ _ _) $$ HR
  icases HR with ⟨HP, -⟩
  imod (Pipeline.fund_ghost (Pipeline.pin (pcfgs (F := F)) adm) EP pinj) $$ HP with ⟨Hc, Ht⟩
  imodintro
  isplitl [HH]; · iexact HH
  isplitl [Hc Ht]
  · rw [bigSep_sep']
    isplitl [Hc]
    · iapply (Entails.of_eq (bigSep_congr fun c _ => bigSep_univ_of_subsingleton (0 : Fin 1))) $$ Hc
    · iapply (Entails.of_eq (bigSep_congr fun c _ => bigSep_univ_of_subsingleton (0 : Fin 1))) $$ Ht
  iapply (Entails.of_eq (show (bigSep Finset.univ fun thr : Thread nD τ => bigSep Finset.univ fun q : Fin 1 => (P (F := F) (tab m) (ids m) (f0 m)).x q thr) = bigSep Finset.univ fun _ => iprop(emp) from
    bigSep_congr fun _ _ => bigSep_univ_of_subsingleton (0 : Fin 1)).symm)
  iapply (Entails.of_eq (show (bigSep (Finset.univ : Finset (Thread nD τ)) fun _ => iprop(emp)) = (iprop(emp) : sProp 𝕄) from bigSep_emp_const _).symm)
  iempintro

/-! ## The end -/

/-- The arguments and the result, at the end. -/
def fq (d : Dev nD) (s' : Phys nD τ sig (Elt F)) : Prop :=
  ∀ b ∈ ([main_arg0, main_arg1, main_arg2, main_arg3, main_arg4, main_arg5, main_v14] : List (Ref sig .tc)), s'.mem.mem ((core d).loc b) = V5 m d (r' b)

theorem agree (d : Dev nD) (s' : Phys nD τ sig (Elt F)) (b : DevRef τ sig) (hb : b ∈ S) (W : Valuation τ sig (Elt F)) :
    iprop(held (core d) S W ∗ SI s') ⊢ (⌜s'.mem.mem (d, b) = W b⌝ : sProp 𝕄) := by
  rw [StableHlo.held_sub_split (core d) (Finset.singleton_subset_iff.mpr hb)]
  unfold held
  rw [bigSep_singleton]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

theorem agree_list (d : Dev nD) (s' : Phys nD τ sig (Elt F)) (W : Valuation τ sig (Elt F)) :
    ∀ l : List (Ref sig .tc), (∀ b ∈ l, r' b ∈ S) → iprop(held (core d) S W ∗ SI s') ⊢ (⌜∀ b ∈ l, s'.mem.mem ((core d).loc b) = W (r' b)⌝ : sProp 𝕄)
  | [], _ => by
    iintro ⟨-, -⟩
    ipureintro
    exact fun b h => nomatch h
  | b :: l, h => by
    refine (persistent_entails_right (agree d s' (r' b) (h b List.mem_cons_self) W)).trans ?_
    iintro ⟨%h1, H⟩
    ihave H2 := (agree_list d s' W l fun b' hb' => h b' (List.mem_cons_of_mem _ hb')) $$ H
    icases H2 with %h2
    ipureintro
    intro b' hb'
    rcases List.mem_cons.mp hb' with rfl | h'
    · exact h1
    · exact h2 b' h'

theorem hfin (d : Dev nD) (s' : Phys nD τ sig (Elt F)) : iprop(FIN m d ∗ SI s') ⊢ (⌜fq m d s'⌝ : sProp 𝕄) :=
  agree_list d s' (V5 m d) _ (by decide)

def QC : PUnit × MemSt nD τ sig (Elt F) → Prop := fun r =>
  (∀ d : Dev nD, ∀ b ∈ ([main_arg0, main_arg1, main_arg2, main_arg3, main_arg4, main_arg5, main_v14] : List (Ref sig .tc)),
    r.2.mem ((core d).loc b) = V5 m d (r' b)) ∧ r.2.sem = fun _ => 0

/-- The run of the whole program: from any memory whose ids are in range, every run ends with the arguments and the result at
    `V5` and every semaphore at zero. -/
theorem run_main [∀ e, Nonempty (Elt F e)] (hr : ∀ d (n : Fin 3200000), ((ids m d (nIx n) : BitVec 32)).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (tab m) (ids m) (f0 m)) (A := ∅) facts v₀
    (fun q hq => match q with | 0 => nomatch hq)
    (fun q _ => match q with | 0 => tileObl (tab m) (ids m) (f0 m) hr)
    (fun q _ => match q with | 0 => SparseCore.Cfg.VecSplit.of_plain (vecSplit (tab m) (ids m) (f0 m)))
    m ρ main (fun d => ghost d) (FIN m) (u₀ (F := F)) (sep_elim_left.trans (hu₀ m)) (hmain m ρ) (fq m) (hfin m) (QC m) (fun _ h hz => ⟨h, hz⟩)

end Cert.Proof.MainRun

end
-- ==== Proof.IdsInRange.lean ====
/-
  The precondition, read element by element: every edge's material id is a row of the table.
-/
module

public import proofs.«01_k».proof.Defs
public import proofs.«01_k».proof.Proof.MainVals
public import Idealize.ShloMosaic.Lib.ReduceAll
public import Idealize.ShloMosaic.Lib.Pointwise

@[expose] public section

noncomputable section

namespace Cert.Proof.IdsInRange

open Cert.KernelIdeal Cert.KernelIdeal.Gen
open Cert.Proof.BlockMem Cert.Proof.TileGather Cert.Proof.MainVals
open Idealize.ShloMosaic Idealize.ShloMosaic.TcCoe
open Idealize.ShloMosaic.StableHlo (after)

variable {F : FTy → Type} [FloatOps F]

/-- Edge `n`'s material id: the first of its features, as a whole number. -/
def word (a : S3200000x16.Idx → F .f32) (n : Fin 3200000) : BitVec 32 := FloatOps.fptosi 32 (a (ix2 n 0))

/-- A word that is neither negative nor 100000 or more, compared signed, is below 100000. -/
theorem small (v : BitVec 32) (e : IntOp.andi (IntOp.cmpi .sge v 0#32) (IntOp.cmpi .slt v 100000#32) = 1#1) : v.toNat < 100000 := by
  obtain ⟨h0, h1⟩ := IntOp.andi_eq_one.1 e
  have h0 := IntOp.cmpi_sge.1 h0
  have h1 := IntOp.cmpi_slt.1 h1
  have h2 := v.isLt
  have hc : (100000#32 : BitVec 32).toInt = 100000 := by decide
  have hz : (0#32 : BitVec 32).toInt = 0 := by decide
  rw [hz, BitVec.toInt_eq_toNat_cond] at h0
  rw [hc, BitVec.toInt_eq_toNat_cond] at h1
  split at h0 <;> split at h1 <;> omega

/-- The precondition gives every id's range. -/
theorem word_lt [Cert.Pre_ids_in_range.Facts] (x0 : FVec F S3200000x16 .f32) (x1 : FVec F S100000x16 .f32) (x2 : FVec F S31x32 .f32) (x3 : FVec F S32 .f32)
    (x4 : FVec F S32x32 .f32) (x5 : FVec F S32 .f32) (h : Cert.Pre_ids_in_range.fn x0 x1 x2 x3 x4 x5 = fun _ => 1#1) (n : Fin 3200000) :
    (word x0 n).toNat < 100000 := by
  have e := congrFun h ((fun a : Fin 0 => a.elim0))
  unfold Cert.Pre_ids_in_range.fn at e
  have e := Host.reduce_andi_eq_one _ _ _ _ _ e (ix1 n) (funext fun a : Fin 0 => a.elim0)
  pointwise at e
  exact small _ e

variable (m : (ℓ : Loc nD τ sig) → Buf (Elt F) ℓ)

/-- The ids the gather is handed are the edges' material ids. -/
theorem ids_eq (d : Dev nD) (n : Fin 3200000) :
    (ids m d (nIx n) : BitVec 32) = word (F := F) (m ((core d).loc main_arg0)) n := by
  have e : ids m d = fptosi 32 ((extractStridedSlice S1x3200000 ![0, 0] · slices_S16x3200000_S1x3200000_0_0)
      (transpose S16x3200000 [1, 0] (m ((core d).loc main_arg0) : S3200000x16.Idx → F .f32) transposes_S3200000x16_S16x3200000_1_0)) := by
    unfold ids V1 opsA
    after_results_simp <;> rfl
  rw [e]
  have hn : nIx n = ix2 0 n := by funext a; match a with | 0 => rfl | 1 => rfl
  rw [hn]
  pointwise
  rfl

end Cert.Proof.IdsInRange

end
-- ==== Proof.MainReads.lean ====
/-
  The arrays of the program, each read back to the launch contents of its arguments.
-/
module

public import proofs.«01_k».proof.Proof.IdsInRange

@[expose] public section

noncomputable section

namespace Cert.Proof.MainReads

open Cert.KernelIdeal Cert.KernelIdeal.Gen
open Cert.Proof.BlockMem Cert.Proof.BlockArr Cert.Proof.TileGather Cert.Proof.GatherObl Cert.Proof.MainVals
open Idealize.ShloMosaic
open Idealize.ShloMosaic.StableHlo (after)

variable {F : FTy → Type} [FloatOps F]
variable (m : (ℓ : Loc nD τ sig) → Buf (Elt F) ℓ) (d : Dev nD)

/-! ## The arguments are never written -/

theorem V1_arg0 : V1 m d (r' main_arg0) = m (d, r' main_arg0) := by unfold V1 opsA; after_results_simp <;> rfl
theorem V1_arg1 : V1 m d (r' main_arg1) = m (d, r' main_arg1) := by unfold V1 opsA; after_results_simp <;> rfl
theorem V1_arg2 : V1 m d (r' main_arg2) = m (d, r' main_arg2) := by unfold V1 opsA; after_results_simp <;> rfl
theorem V1_arg3 : V1 m d (r' main_arg3) = m (d, r' main_arg3) := by unfold V1 opsA; after_results_simp <;> rfl
theorem V1_arg4 : V1 m d (r' main_arg4) = m (d, r' main_arg4) := by unfold V1 opsA; after_results_simp <;> rfl
theorem V1_arg5 : V1 m d (r' main_arg5) = m (d, r' main_arg5) := by unfold V1 opsA; after_results_simp <;> rfl

theorem V3_arg0 : V3 m d (r' main_arg0) = m (d, r' main_arg0) :=
  (show after opsB (V2 m d) (r' main_arg0) = V2 m d (r' main_arg0) by unfold opsB; after_results_simp <;> rfl).trans ((V2_ne m d (by decide)).trans (V1_arg0 m d))
theorem V3_arg1 : V3 m d (r' main_arg1) = m (d, r' main_arg1) :=
  (show after opsB (V2 m d) (r' main_arg1) = V2 m d (r' main_arg1) by unfold opsB; after_results_simp <;> rfl).trans ((V2_ne m d (by decide)).trans (V1_arg1 m d))
theorem V3_arg2 : V3 m d (r' main_arg2) = m (d, r' main_arg2) :=
  (show after opsB (V2 m d) (r' main_arg2) = V2 m d (r' main_arg2) by unfold opsB; after_results_simp <;> rfl).trans ((V2_ne m d (by decide)).trans (V1_arg2 m d))
theorem V3_arg3 : V3 m d (r' main_arg3) = m (d, r' main_arg3) :=
  (show after opsB (V2 m d) (r' main_arg3) = V2 m d (r' main_arg3) by unfold opsB; after_results_simp <;> rfl).trans ((V2_ne m d (by decide)).trans (V1_arg3 m d))
theorem V3_arg4 : V3 m d (r' main_arg4) = m (d, r' main_arg4) :=
  (show after opsB (V2 m d) (r' main_arg4) = V2 m d (r' main_arg4) by unfold opsB; after_results_simp <;> rfl).trans ((V2_ne m d (by decide)).trans (V1_arg4 m d))
theorem V3_arg5 : V3 m d (r' main_arg5) = m (d, r' main_arg5) :=
  (show after opsB (V2 m d) (r' main_arg5) = V2 m d (r' main_arg5) by unfold opsB; after_results_simp <;> rfl).trans ((V2_ne m d (by decide)).trans (V1_arg5 m d))

/-- What the last host operation does not write stands as it was. -/
theorem V5_arg0 : V5 m d (r' main_arg0) = m (d, r' main_arg0) :=
  (show after opsC (V4 m d) (r' main_arg0) = V4 m d (r' main_arg0) by unfold opsC; after_results_simp <;> rfl).trans ((V4_ne m d (by decide)).trans (V3_arg0 m d))
theorem V5_arg1 : V5 m d (r' main_arg1) = m (d, r' main_arg1) :=
  (show after opsC (V4 m d) (r' main_arg1) = V4 m d (r' main_arg1) by unfold opsC; after_results_simp <;> rfl).trans ((V4_ne m d (by decide)).trans (V3_arg1 m d))
theorem V5_arg2 : V5 m d (r' main_arg2) = m (d, r' main_arg2) :=
  (show after opsC (V4 m d) (r' main_arg2) = V4 m d (r' main_arg2) by unfold opsC; after_results_simp <;> rfl).trans ((V4_ne m d (by decide)).trans (V3_arg2 m d))
theorem V5_arg3 : V5 m d (r' main_arg3) = m (d, r' main_arg3) :=
  (show after opsC (V4 m d) (r' main_arg3) = V4 m d (r' main_arg3) by unfold opsC; after_results_simp <;> rfl).trans ((V4_ne m d (by decide)).trans (V3_arg3 m d))
theorem V5_arg4 : V5 m d (r' main_arg4) = m (d, r' main_arg4) :=
  (show after opsC (V4 m d) (r' main_arg4) = V4 m d (r' main_arg4) by unfold opsC; after_results_simp <;> rfl).trans ((V4_ne m d (by decide)).trans (V3_arg4 m d))
theorem V5_arg5 : V5 m d (r' main_arg5) = m (d, r' main_arg5) :=
  (show after opsC (V4 m d) (r' main_arg5) = V4 m d (r' main_arg5) by unfold opsC; after_results_simp <;> rfl).trans ((V4_ne m d (by decide)).trans (V3_arg5 m d))

/-! ## The calls' operands, and the result -/

/-- The result is the dense call's, transposed. -/
theorem V5_v14 (n : Fin 3200000) (j : Fin 32) : (V5 m d (r' main_v14) : S3200000x32.Idx → F .f32) (ix2 n j) = outArr (arr m) (rows m) d (ix2 j n) := by
  have e : V5 m d (r' main_v14) = transpose S3200000x32 [1, 0] (V4 m d (r' main_v13) : S32x3200000.Idx → F .f32) transposes_S32x3200000_S3200000x32_1_0 := by
    unfold V5 opsC; after_results_simp <;> rfl
  rw [e, V4_v13]
  pointwise

theorem arr_0 (i : Fin 16) (n : Fin 3200000) :
    (arr m d 0 : S16x3200000.Idx → F .f32) (ix2 i n) = (m (d, r' main_arg0) : S3200000x16.Idx → F .f32) (ix2 n i) := by
  have e : arr m d 0 = transpose S16x3200000 [1, 0] (m (d, r' main_arg0) : S3200000x16.Idx → F .f32) transposes_S3200000x16_S16x3200000_1_0 :=
    (show after opsB (V2 m d) (r' main_v0) = V2 m d (r' main_v0) by unfold opsB; after_results_simp <;> rfl).trans ((V2_ne m d (by decide)).trans
      (show after opsA (V0 m d) (r' main_v0) = _ by unfold opsA; after_results_simp <;> rfl))
  rw [e]
  pointwise

theorem arr_1 (k : Fin 32) (i : Fin 16) :
    (arr m d 1 : S32x16.Idx → F .f32) (ix2 k i) = (m (d, r' main_arg2) : S31x32.Idx → F .f32) (ix2 ⟨i.val, by omega⟩ k) := by
  have e : arr m d 1 = transpose S32x16 [1, 0] (extractStridedSlice S16x32 ![0, 0] (V2 m d (r' main_arg2) : S31x32.Idx → F .f32) slices_S31x32_S16x32_0_0)
      transposes_S16x32_S32x16_1_0 :=
    show after opsB (V2 m d) (r' main_v5) = _ by unfold opsB; after_results_simp <;> rfl
  rw [e, V2_ne m d (by decide), V1_arg2]
  pointwise

theorem arr_2 (k : Fin 32) (i : Fin 16) :
    (arr m d 2 : S32x16.Idx → F .f32) (ix2 k i)
      = if h : i.val < 1 then FloatOps.ofBits .f32 0x00000000#32 else (m (d, r' main_arg2) : S31x32.Idx → F .f32) (ix2 ⟨16 + (i.val - 1), by omega⟩ k) := by
  have e : arr m d 2 = transpose S32x16 [1, 0] (concatenate S16x32 0 [⟨S1x32, broadcastInDim S1x32 ![] bcast_S_S1x32 (constant S_ .f32 0x00000000#32)⟩,
      ⟨S15x32, extractStridedSlice S15x32 ![16, 0] (V2 m d (r' main_arg2) : S31x32.Idx → F .f32) slices_S31x32_S15x32_16_0⟩] concatenates_S1x32_S15x32_S16x32_d0)
      transposes_S16x32_S32x16_1_0 :=
    show after opsB (V2 m d) (r' main_v9) = _ by unfold opsB; after_results_simp <;> rfl
  rw [e, V2_ne m d (by decide), V1_arg2]
  pointwise

theorem arr_3 (k : Fin 32) : (arr m d 3 : S32x1.Idx → F .f32) (ix2 k 0) = (m (d, r' main_arg3) : S32.Idx → F .f32) (ix1 k) := by
  have e : arr m d 3 = shapeCast S32x1 (V2 m d (r' main_arg3) : S32.Idx → F .f32) shapeCasts_S32_S32x1 :=
    show after opsB (V2 m d) (r' main_v10) = _ by unfold opsB; after_results_simp <;> rfl
  rw [e, V2_ne m d (by decide), V1_arg3]
  pointwise

theorem arr_4 (j k : Fin 32) : (arr m d 4 : S32x32.Idx → F .f32) (ix2 j k) = (m (d, r' main_arg4) : S32x32.Idx → F .f32) (ix2 k j) := by
  have e : arr m d 4 = transpose S32x32 [1, 0] (V2 m d (r' main_arg4) : S32x32.Idx → F .f32) transposes_S32x32_S32x32_1_0 :=
    show after opsB (V2 m d) (r' main_v12) = _ by unfold opsB; after_results_simp <;> rfl
  rw [e, V2_ne m d (by decide), V1_arg4]
  pointwise

theorem arr_5 (k : Fin 32) : (arr m d 5 : S32x1.Idx → F .f32) (ix2 k 0) = (m (d, r' main_arg5) : S32.Idx → F .f32) (ix1 k) := by
  have e : arr m d 5 = shapeCast S32x1 (V2 m d (r' main_arg5) : S32.Idx → F .f32) shapeCasts_S32_S32x1 :=
    show after opsB (V2 m d) (r' main_v11) = _ by unfold opsB; after_results_simp <;> rfl
  rw [e, V2_ne m d (by decide), V1_arg5]
  pointwise

/-- The rows the dense call is handed are the table's, at the edges' ids. -/
theorem rows_apply (n : Fin 3200000) (i : Fin 16) :
    (rows m d : S3200000x16.Idx → F .f32) (ix2 n i)
      = (m (d, r' main_arg1) : S100000x16.Idx → F .f32) (ix2 (rowNo (IdsInRange.word (F := F) (m (d, r' main_arg0)) n)) i) := by
  have e : rows m d = gout (tab m) (ids m) d :=
    (show after opsB (V2 m d) (r' main_v3) = V2 m d (r' main_v3) by unfold opsB; after_results_simp <;> rfl).trans (V2_v3 m d)
  rw [e]
  show (tab m d : S100000x16.Idx → F .f32) (tIx (rowNo (ids m d (nIx n))) i) = _
  rw [IdsInRange.ids_eq]
  show (V1 m d (r' main_arg1) : S100000x16.Idx → F .f32) _ = _
  rw [V1_arg1]
  have ht (r : Fin 100000) : tIx r i = ix2 r i := by funext b; match b with | 0 => rfl | 1 => rfl
  rw [ht]

end Cert.Proof.MainReads

end
-- ==== Proof.Mlp.lean ====
/-
  The edge encoder as a formula over the extended reals: the features of an edge are its material's row of the table and its
  fifteen numbers; a linear layer with its bias and a cut at zero; a second linear layer with its bias.
-/
module

public import proofs.«01_k».proof.Proof.IdsInRange

@[expose] public section

noncomputable section

namespace Cert.Proof.Mlp

open Cert.KernelIdeal
open Cert.Proof.TileGather Cert.Proof.IdsInRange
open Idealize.ShloMosaic

variable (a : S3200000x16.Idx → EReal) (tab : S100000x16.Idx → EReal) (w1 : S31x32.Idx → EReal) (b1 : S32.Idx → EReal)
  (w2 : S32x32.Idx → EReal) (b2 : S32.Idx → EReal)

/-- Entry `i` of edge `n`'s material's row. -/
def emb (n : Fin 3200000) (i : Fin 16) : EReal := tab (ix2 (rowNo (word (F := Ideal) a n)) i)
/-- Number `i` of edge `n`: the features but the first. -/
def num (n : Fin 3200000) (i : Fin 15) : EReal := a (ix2 n ⟨1 + i.val, by omega⟩)
/-- The first layer before its bias: the row's part and the numbers' part. -/
def lin (n : Fin 3200000) (k : Fin 32) : EReal :=
  (∑ i : Fin 16, emb a tab n i * w1 (ix2 ⟨i.val, by omega⟩ k)) + ∑ i : Fin 15, num a n i * w1 (ix2 ⟨16 + i.val, by omega⟩ k)
/-- The hidden layer. -/
def hid (n : Fin 3200000) (k : Fin 32) : EReal := max (lin a tab w1 n k + b1 (ix1 k)) 0
/-- The result. -/
def out (n : Fin 3200000) (j : Fin 32) : EReal := (∑ k : Fin 32, hid a tab w1 b1 n k * w2 (ix2 k j)) + b2 (ix1 j)

end Cert.Proof.Mlp

end
-- ==== Proof.DenseValue.lean ====
/-
  What the program computes, element by element: the encoder's formula, the products with the factors exchanged and the first
  feature's weight zero.
-/
module

public import proofs.«01_k».proof.Proof.Mlp

@[expose] public section

noncomputable section

namespace Cert.Proof.DenseValue

open Cert.KernelIdeal Cert.KernelIdeal.Gen
open Cert.Proof.BlockMem Cert.Proof.BlockBody Cert.Proof.BlockRegion Cert.Proof.BlockArr
open Idealize.ShloMosaic

/-! ## One block -/

variable (e : FVec Ideal S6400x16 .f32) (a : Vec Ideal S16x6400 .f32) (w1e w1n : Vec Ideal S32x16 .f32) (b1 : Vec Ideal S32x1 .f32)
  (w2 : Vec Ideal S32x32 .f32) (b2 : Vec Ideal S32x1 .f32)

/-- The hidden layer of a block. -/
def blkHid (k : Fin 32) (c : Fin 6400) : EReal :=
  max ((∑ i : Fin 16, w1e (ix2 k i) * e (ix2 c i)) + (∑ i : Fin 16, w1n (ix2 k i) * a (ix2 i c)) + b1 (ix2 k 0)) 0

theorem pre_apply (k : Fin 32) (c : Fin 6400) :
    blkPre (F := Ideal) e w1e w1n a (ix2 k c) = (∑ i : Fin 16, w1e (ix2 k i) * e (ix2 c i)) + ∑ i : Fin 16, w1n (ix2 k i) * a (ix2 i c) := by
  unfold blkPre
  pointwise
theorem dot_apply (x : FVec Ideal S32x32 .f32) (y : FVec Ideal S32x6400 .f32) (j : Fin 32) (c : Fin 6400) :
    matmul dot_S32x32_S32x6400_S32x6400_1_0_0_1_n_n none x y (constant S32x6400 .f32 0x00000000#32) (ix2 j c) = ∑ k : Fin 32, x (ix2 j k) * y (ix2 k c) := by
  pointwise
theorem col_apply (b : Vec Ideal S32x1 .f32) (j : Fin 32) (c : Fin 6400) : k1_pay3 b (ix2 j c) = b (ix2 j 0) := by
  unfold k1_pay3
  pointwise

/-- A block's result: the second layer of the hidden one. -/
theorem blkOut_apply (j : Fin 32) (c : Fin 6400) :
    blkOut e a w1e w1n b1 w2 b2 (ix2 j c) = (∑ k : Fin 32, w2 (ix2 j k) * blkHid e a w1e w1n b1 k c) + b2 (ix2 j 0) := by
  unfold blkOut k1_pay1
  refine (ValueIdx.addf_apply ..).trans ?_
  congr 1
  · refine (dot_apply ..).trans (Finset.sum_congr rfl fun k _ => ?_)
    congr 1
    · pointwise
    · refine (ValueIdx.maximumf_apply ..).trans ?_
      unfold blkHid
      congr 1
      · refine (ValueIdx.addf_apply ..).trans ?_
        rw [pre_apply, col_apply]
      · show Ideal.ofBits .f32 0x00000000#32 = 0
        exact Ideal.ofBits_zero_f32
  · exact col_apply b2 j c

end Cert.Proof.DenseValue

end
-- ==== Proof.KernelValue.lean ====
/-
  The program computes the encoder's formula. Against the formula its two layers have the factors of each product exchanged,
  and its numbers' part has a sixteenth term, the id itself times a zero weight.
-/
module

public import proofs.«01_k».proof.Proof.MainReads
public import proofs.«01_k».proof.Proof.DenseValue

@[expose] public section

noncomputable section

namespace Cert.Proof.KernelValue

open Cert.KernelIdeal Cert.KernelIdeal.Gen
open Cert.Proof.BlockWords Cert.Proof.BlockMem Cert.Proof.BlockBody Cert.Proof.BlockRegion Cert.Proof.BlockArr Cert.Proof.TileGather Cert.Proof.GatherObl Cert.Proof.MainVals
open Cert.Proof.MainReads Cert.Proof.DenseValue
open Idealize.ShloMosaic

variable (m : (ℓ : Loc nD τ sig) → Buf (Elt Ideal) ℓ) (d : Dev nD)

abbrev ea : S3200000x16.Idx → EReal := m (d, r' main_arg0)
abbrev tb : S100000x16.Idx → EReal := m (d, r' main_arg1)
abbrev w1 : S31x32.Idx → EReal := m (d, r' main_arg2)
abbrev b1 : S32.Idx → EReal := m (d, r' main_arg3)
abbrev w2 : S32x32.Idx → EReal := m (d, r' main_arg4)
abbrev b2 : S32.Idx → EReal := m (d, r' main_arg5)
/-- The numbers' weights as the dense call takes them. -/
abbrev wn : S32x16.Idx → EReal := arr m d 2

/-- Edge `n` is column `n % 6400` of block `n / 6400`. -/
theorem rows_at (n : Fin 3200000) (i : Fin 16) :
    (eBlk (blk (pt n).val)).view.read (Elt Ideal) (rows m d) (ix2 (col n) i) = Mlp.emb (ea m d) (tb m d) n i := by
  have hn := n.isLt
  have hp : (pt n).val = n.val / 6400 := rfl
  have hc : (col n).val = n.val % 6400 := rfl
  refine (eBlk_at (F := Ideal) (rows m) d (blk (pt n).val) (ix2 (col n) i) (ix2 n i) ?_ rfl).trans (rows_apply m d n i)
  show n.val = 6400 * (blk (pt n).val).val + (col n).val
  rw [blk_val (by omega)]
  omega
theorem feats_at (n : Fin 3200000) (i : Fin 16) :
    (inb (F := Ideal) (arr m) d 0 (pt n) : S16x6400.Idx → EReal) (ix2 i (col n)) = ea m d (ix2 n i) := by
  have hn := n.isLt
  have hp : (pt n).val = n.val / 6400 := rfl
  have hc : (col n).val = n.val % 6400 := rfl
  refine (inb_0 (F := Ideal) (arr m) d (pt n) (ix2 i (col n)) (ix2 i n) rfl ?_).trans (arr_0 m d i n)
  show n.val = 6400 * (pt n).val + (col n).val
  omega

/-- The numbers' part: the id's term vanishes. -/
theorem nums (n : Fin 3200000) (k : Fin 32) :
    (∑ i : Fin 16, wn m d (ix2 k i) * ea m d (ix2 n i))
      = ∑ i : Fin 15, Mlp.num (ea m d) n i * w1 m d (ix2 ⟨16 + i.val, by omega⟩ k) := by
  have h0 : wn m d (ix2 k (0 : Fin 16)) = 0 := by
    refine (arr_2 m d k 0).trans ?_
    rw [dif_pos (show (0 : Fin 16).val < 1 by decide)]
    exact Ideal.ofBits_zero_f32
  have hs (i : Fin 15) : wn m d (ix2 k i.succ) = w1 m d (ix2 ⟨16 + i.val, by omega⟩ k) := by
    refine (arr_2 m d k i.succ).trans ?_
    rw [dif_neg (show ¬ i.succ.val < 1 by rw [Fin.val_succ]; omega)]
    refine congrArg (fun q => w1 m d (ix2 q k)) (Fin.ext ?_)
    show 16 + (i.val + 1 - 1) = 16 + i.val
    omega
  have hn (i : Fin 15) : ea m d (ix2 n i.succ) = Mlp.num (ea m d) n i := by
    unfold Mlp.num
    refine congrArg (fun q => ea m d (ix2 n q)) (Fin.ext ?_)
    show i.val + 1 = 1 + i.val
    omega
  rw [Fin.sum_univ_succ, h0, zero_mul, zero_add]
  exact Finset.sum_congr rfl fun i _ => by rw [hs, hn, mul_comm]

/-- The hidden layer. -/
theorem hid_eq (n : Fin 3200000) (k : Fin 32) :
    blkHid ((eBlk (blk (pt n).val)).view.read (Elt Ideal) (rows m d)) (inb (F := Ideal) (arr m) d 0 (pt n)) (arr m d 1) (arr m d 2) (arr m d 3) k (col n)
      = Mlp.hid (ea m d) (tb m d) (w1 m d) (b1 m d) n k := by
  unfold blkHid Mlp.hid Mlp.lin
  refine congrArg₂ max (congrArg₂ (· + ·) (congrArg₂ (· + ·) ?_ ?_) (arr_3 m d k)) rfl
  · refine Finset.sum_congr rfl fun i _ => ?_
    rw [rows_at, arr_1, mul_comm]
  · refine Eq.trans (Finset.sum_congr rfl fun i _ => ?_) (nums m d n k)
    rw [feats_at]

/-- The program's result. -/
theorem V5_out (n : Fin 3200000) (j : Fin 32) :
    (V5 m d (r' main_v14) : S3200000x32.Idx → EReal) (ix2 n j) = Mlp.out (ea m d) (tb m d) (w1 m d) (b1 m d) (w2 m d) (b2 m d) n j := by
  refine (V5_v14 m d n j).trans ?_
  have hpl : place (ix2 j n) = ix2 j (col n) := by funext b; match b with | 0 => rfl | 1 => rfl
  show outb (arr m) (rows m) d (pt n) (place (ix2 j n)) = _
  rw [hpl]
  unfold outb
  rw [inb_1, inb_2, inb_3, inb_4, inb_5]
  refine (blkOut_apply ..).trans ?_
  unfold Mlp.out
  refine congrArg₂ (· + ·) (Finset.sum_congr rfl fun k _ => ?_) (arr_5 m d j)
  rw [hid_eq, arr_4, mul_comm]

end Cert.Proof.KernelValue

end
-- ==== Proof.RefValue.lean ====
/-
  What the reference computes, element by element: the encoder's formula.
-/
module

public import proofs.«01_k».proof.Proof.Mlp
public import proofs.«01_k».proof.Proof.Gen.ReferenceIdeal.Run
public import Idealize.ShloMosaic.Lib.Routing.Ops

@[expose] public section

noncomputable section

namespace Cert.Proof.RefValue

open Cert.ReferenceIdeal Cert.ReferenceIdeal.Gen
open Cert.Proof.TileGather Cert.Proof.IdsInRange
open Idealize.ShloMosaic Idealize.ShloMosaic.TcCoe Idealize.SL.Sem

variable (a : FVec Ideal S3200000x16 .f32) (tab : FVec Ideal S100000x16 .f32) (w1 : FVec Ideal S31x32 .f32) (b1 : FVec Ideal S32 .f32)
  (w2 : FVec Ideal S32x32 .f32) (b2 : FVec Ideal S32 .f32)

/-- The ids, a negative one counted from the table's end, as a column. -/
def idCol : IVec S3200000x1 32 :=
  broadcastInDim S3200000x1 ![0] bcast_S3200000_S3200000x1_0 (select (cmpi .slt (fptosi 32 (shapeCast S3200000 (extractStridedSlice S3200000x1 ![0, 0] a slices_S3200000x16_S3200000x1_0_0) shapeCasts_S3200000x1_S3200000)) (broadcastInDim S3200000 ![] bcast_S_S3200000 (constantI S_ 32 0#32))) (addi (fptosi 32 (shapeCast S3200000 (extractStridedSlice S3200000x1 ![0, 0] a slices_S3200000x16_S3200000x1_0_0) shapeCasts_S3200000x1_S3200000)) (broadcastInDim S3200000 ![] bcast_S_S3200000 (constantI S_ 32 100000#32))) (fptosi 32 (shapeCast S3200000 (extractStridedSlice S3200000x1 ![0, 0] a slices_S3200000x16_S3200000x1_0_0) shapeCasts_S3200000x1_S3200000)))
/-- The rows taken from the table, a filler where an id is out of range. -/
def taken : FVec Ideal S3200000x16 .f32 :=
  select (broadcastInDim S3200000x16 ![0] bcast_S3200000_S3200000x16_0 (Host.reduce IntOp.andi (andi (cmpi .sge (idCol a) (broadcastInDim S3200000x1 ![] bcast_S_S3200000x1 (constantI S_ 32 0#32))) (cmpi .sle (idCol a) (broadcastInDim S3200000x1 ![0, 1] bcast_S1x1_S3200000x1_0_1 (broadcastInDim S1x1 ![1] bcast_S1_S1x1_1 (constantI S1 32 99999#32))))) (constantI S_ 1 1#1) reducesTo_S3200000x1_S3200000_d1 h_S_))
    (Host.gather gather_S100000x16_S3200000x1_S3200000x16_1_0_n_n_0_1_116 tab (idCol a)) (broadcastInDim S3200000x16 ![] bcast_S_S3200000x16 (constant S_ .f32 0x7FC00000#32))
/-- The reference's result. -/
def refOut : FVec Ideal S3200000x32 .f32 :=
  addf (Host.dotGeneral dot_S3200000x32_S32x32_S3200000x32_1_0_0_1_n_n none (maximumf (addf (Host.dotGeneral dot_S3200000x31_S31x32_S3200000x32_1_0_0_1_n_n none
    (concatenate S3200000x31 1 [⟨S3200000x16, taken a tab⟩, ⟨S3200000x15, extractStridedSlice S3200000x15 ![0, 1] a slices_S3200000x16_S3200000x15_0_1⟩] concatenates_S3200000x16_S3200000x15_S3200000x31_d1) w1)
    (broadcastInDim S3200000x32 ![0, 1] bcast_S1x32_S3200000x32_0_1 (broadcastInDim S1x32 ![1] bcast_S32_S1x32_1 b1))) (broadcastInDim S3200000x32 ![] bcast_S_S3200000x32 (constant S_ .f32 0x00000000#32))) w2)
    (broadcastInDim S3200000x32 ![0, 1] bcast_S1x32_S3200000x32_0_1 (broadcastInDim S1x32 ![1] bcast_S32_S1x32_1 b2))

variable (hr : ∀ n, (word (F := Ideal) a n).toNat < 100000)

theorem id_sign (v : BitVec 32) (h : v.toNat < 100000) :
    IntOp.cmpi .slt v 0#32 = 0#1 ∧ IntOp.andi (IntOp.cmpi .sge v 0#32) (IntOp.cmpi .sle v 99999#32) = 1#1 := by
  have hv : v.toInt = v.toNat := by rw [BitVec.toInt_eq_toNat_cond]; split <;> omega
  have hz : (0#32 : BitVec 32).toInt = 0 := by decide
  have hc : (99999#32 : BitVec 32).toInt = 99999 := by decide
  refine ⟨?_, IntOp.andi_eq_one.2 ⟨IntOp.cmpi_sge.2 (by omega), IntOp.cmpi_sle.2 (by omega)⟩⟩
  rcases BitVec.eq_zero_or_eq_one (IntOp.cmpi .slt v 0#32) with e | e
  · exact e
  · have := IntOp.cmpi_slt.1 e
    omega

include hr in
/-- An id in range stands as it is. -/
theorem idCol_apply (n : Fin 3200000) : idCol a (ix2 n 0) = word (F := Ideal) a n := by
  unfold idCol
  pointwise
  have h := (id_sign _ (hr n)).1
  unfold word at h
  rw [h]
  rfl

include hr in
/-- The rows taken are the table's. -/
theorem taken_apply (n : Fin 3200000) (i : Fin 16) : taken a tab (ix2 n i) = Mlp.emb a tab n i := by
  unfold taken
  have e : Host.gather gather_S100000x16_S3200000x1_S3200000x16_1_0_n_n_0_1_116 tab (idCol a) (ix2 n i) = Mlp.emb a tab n i :=
    Routing.gather_row _ rfl rfl rfl rfl rfl tab (idCol a) n i (rowNo (word (F := Ideal) a n))
      (by
        refine (idCol_apply a hr n).trans ?_
        apply BitVec.eq_of_toNat_eq
        have := hr n
        show _ = _ % 2 ^ 32
        show _ = ((word (F := Ideal) a n).toNat % 100000) % 2 ^ 32
        omega) (by decide)
  refine (ValueIdx.select_apply ..).trans ?_
  rw [e]
  have h : broadcastInDim S3200000x16 ![0] bcast_S3200000_S3200000x16_0 (Host.reduce IntOp.andi (andi (cmpi .sge (idCol a) (broadcastInDim S3200000x1 ![] bcast_S_S3200000x1 (constantI S_ 32 0#32))) (cmpi .sle (idCol a) (broadcastInDim S3200000x1 ![0, 1] bcast_S1x1_S3200000x1_0_1 (broadcastInDim S1x1 ![1] bcast_S1_S1x1_1 (constantI S1 32 99999#32))))) (constantI S_ 1 1#1) reducesTo_S3200000x1_S3200000_d1 h_S_) (ix2 n i) = 1#1 := by
    refine Host.reduce_andi_one _ _ _ _ _ rfl fun x => ?_
    obtain ⟨p, rfl⟩ : ∃ p : Fin 3200000, x = ix2 p 0 := by
      refine ⟨x 0, ?_⟩
      funext b
      match b with
      | 0 => rfl
      | 1 => exact Subsingleton.elim (α := Fin 1) _ _
    show IntOp.andi (IntOp.cmpi .sge (idCol a (ix2 p 0)) 0#32) (IntOp.cmpi .sle (idCol a (ix2 p 0)) 99999#32) = 1#1
    rw [idCol_apply a hr p]
    exact (id_sign _ (hr p)).2
  rw [h]
  rfl

/-- The features: the rows taken, then the numbers. -/
def feat : FVec Ideal S3200000x31 .f32 :=
  concatenate S3200000x31 1 [⟨S3200000x16, taken a tab⟩, ⟨S3200000x15, extractStridedSlice S3200000x15 ![0, 1] a slices_S3200000x16_S3200000x15_0_1⟩] concatenates_S3200000x16_S3200000x15_S3200000x31_d1

theorem dot1 (f : FVec Ideal S3200000x31 .f32) (n : Fin 3200000) (k : Fin 32) :
    Host.dotGeneral dot_S3200000x31_S31x32_S3200000x32_1_0_0_1_n_n none f w1 (ix2 n k) = ∑ i : Fin 31, f (ix2 n i) * w1 (ix2 i k) := by
  pointwise
theorem dot2 (f : FVec Ideal S3200000x32 .f32) (n : Fin 3200000) (j : Fin 32) :
    Host.dotGeneral dot_S3200000x32_S32x32_S3200000x32_1_0_0_1_n_n none f w2 (ix2 n j) = ∑ i : Fin 32, f (ix2 n i) * w2 (ix2 i j) := by
  pointwise
theorem bias (b : FVec Ideal S32 .f32) (n : Fin 3200000) (j : Fin 32) :
    broadcastInDim S3200000x32 ![0, 1] bcast_S1x32_S3200000x32_0_1 (broadcastInDim S1x32 ![1] bcast_S32_S1x32_1 b) (ix2 n j) = b (ix1 j) := by
  pointwise
theorem zeros (n : Fin 3200000) (k : Fin 32) :
    broadcastInDim S3200000x32 ![] bcast_S_S3200000x32 (constant (F := Ideal) S_ .f32 0x00000000#32) (ix2 n k) = 0 := by
  pointwise
theorem feat_apply (n : Fin 3200000) (i : Fin 31) :
    feat a tab (ix2 n i) = if h : i.val < 16 then taken a tab (ix2 n ⟨i.val, h⟩) else a (ix2 n ⟨1 + (i.val - 16), by omega⟩) := by
  unfold feat
  pointwise

include hr in
/-- The first layer: the sum over the thirty-one features, cut where the row ends. -/
theorem lin_apply (n : Fin 3200000) (k : Fin 32) :
    (∑ i : Fin 31, feat a tab (ix2 n i) * w1 (ix2 i k)) = Mlp.lin a tab w1 n k := by
  have row (i : Fin 16) : feat a tab (ix2 n (Fin.castAdd 15 i)) = Mlp.emb a tab n i := by
    rw [feat_apply, dif_pos (show (Fin.castAdd 15 i).val < 16 from i.isLt)]
    exact taken_apply a tab hr n i
  have rest (i : Fin 15) : feat a tab (ix2 n (Fin.natAdd 16 i)) = Mlp.num a n i := by
    rw [feat_apply, dif_neg (show ¬ (Fin.natAdd 16 i).val < 16 from by rw [Fin.val_natAdd]; omega)]
    unfold Mlp.num
    refine congrArg (fun q => a (ix2 n q)) (Fin.ext ?_)
    show 1 + (16 + i.val - 16) = 1 + i.val
    omega
  refine (Fin.sum_univ_add (a := 16) (b := 15) (fun i => feat a tab (ix2 n i) * w1 (ix2 i k))).trans ?_
  simp only [row, rest]
  rfl

include hr in
/-- The reference computes the encoder's formula. -/
theorem refOut_apply (n : Fin 3200000) (j : Fin 32) : refOut a tab w1 b1 w2 b2 (ix2 n j) = Mlp.out a tab w1 b1 w2 b2 n j := by
  unfold refOut Mlp.out Mlp.hid
  rw [ValueIdx.addf_apply, dot2, bias]
  refine congrArg (· + b2 (ix1 j)) (Finset.sum_congr rfl fun k _ => congrArg (· * w2 (ix2 k j)) ?_)
  rw [ValueIdx.maximumf_apply, ValueIdx.addf_apply, dot1, bias, zeros]
  rw [show (∑ i : Fin 31, concatenate S3200000x31 1 [⟨S3200000x16, taken a tab⟩, ⟨S3200000x15, extractStridedSlice S3200000x15 ![0, 1] a slices_S3200000x16_S3200000x15_0_1⟩] concatenates_S3200000x16_S3200000x15_S3200000x31_d1 (ix2 n i) * w1 (ix2 i k)) = _ from lin_apply a tab w1 hr n k]

/-- The run of the reference, its result so named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ

end Cert.Proof.RefValue

end
-- ==== Proof.lean ====
/-
  The certificate: the program gathers its edges' material rows on the SparseCores and encodes the edges block by block on the
  TensorCore. Both instances' runs are `MainRun.run_main`; its result is the encoder's formula (`KernelValue.V5_out`), and so is
  the reference's (`RefValue.refOut_apply`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import Idealize.ShloMosaic.Adequacy
public import Idealize.ShloMosaic.Init
public import proofs.«01_k».proof.Proof.MainRun
public import proofs.«01_k».proof.Proof.KernelValue
public import proofs.«01_k».proof.Proof.RefValue

@[expose] public section

noncomputable section

namespace Cert.Proof

open Idealize.ShloMosaic Idealize.ShloMosaic.TcCoe Idealize.SL.Sem
open Cert.Proof.BlockMem Cert.Proof.TileGather Cert.Proof.MainVals

attribute [local instance] Cert.Kernel.Gen.facts Cert.KernelIdeal.Gen.facts Cert.ReferenceIdeal.Gen.facts Cert.Pre_ids_in_range.Gen.facts

/-- Where the precondition holds, every id the gather is handed is a row of the table: on the machine's words. -/
theorem range_bits (m : (ℓ : Loc Cert.KernelIdeal.nD Cert.KernelIdeal.τ Cert.KernelIdeal.sig) → Buf (Elt Bits) ℓ) (h : Cert.Pre_Kernel m) :
    ∀ d (n : Fin 3200000), ((ids m d (nIx n) : BitVec 32)).toNat < 100000 := fun d n => by
  rw [IdsInRange.ids_eq]
  exact IdsInRange.word_lt (F := Bits) _ _ _ _ _ _ (h d) n
/-- The same over the extended reals. -/
theorem range_ideal (m : (ℓ : Loc Cert.KernelIdeal.nD Cert.KernelIdeal.τ Cert.KernelIdeal.sig) → Buf (Elt Ideal) ℓ) (h : Cert.Pre_KernelIdeal m) :
    ∀ d (n : Fin 3200000), ((ids m d (nIx n) : BitVec 32)).toNat < 100000 := fun d n => by
  rw [IdsInRange.ids_eq]
  exact IdsInRange.word_lt (F := Ideal) _ _ _ _ _ _ (h d) n

/-- The arguments, at the end of a run, are as they were. -/
theorem kept {F : FTy → Type} [FloatOps F] (m : (ℓ : Loc Cert.KernelIdeal.nD Cert.KernelIdeal.τ Cert.KernelIdeal.sig) → Buf (Elt F) ℓ)
    (s : MemSt Cert.KernelIdeal.nD Cert.KernelIdeal.τ Cert.KernelIdeal.sig (Elt F)) (d : Dev Cert.KernelIdeal.nD)
    (h : ∀ b ∈ ([Cert.KernelIdeal.main_arg0, Cert.KernelIdeal.main_arg1, Cert.KernelIdeal.main_arg2, Cert.KernelIdeal.main_arg3, Cert.KernelIdeal.main_arg4,
        Cert.KernelIdeal.main_arg5, Cert.KernelIdeal.main_v14] : List (Ref Cert.KernelIdeal.sig .tc)), s.mem ((core d).loc b) = V5 m d (r' b)) :
    s.mem ((core d).loc Cert.KernelIdeal.main_arg0) = m ((core d).loc Cert.KernelIdeal.main_arg0)
      ∧ s.mem ((core d).loc Cert.KernelIdeal.main_arg1) = m ((core d).loc Cert.KernelIdeal.main_arg1)
      ∧ s.mem ((core d).loc Cert.KernelIdeal.main_arg2) = m ((core d).loc Cert.KernelIdeal.main_arg2)
      ∧ s.mem ((core d).loc Cert.KernelIdeal.main_arg3) = m ((core d).loc Cert.KernelIdeal.main_arg3)
      ∧ s.mem ((core d).loc Cert.KernelIdeal.main_arg4) = m ((core d).loc Cert.KernelIdeal.main_arg4)
      ∧ s.mem ((core d).loc Cert.KernelIdeal.main_arg5) = m ((core d).loc Cert.KernelIdeal.main_arg5) :=
  ⟨(h _ (by decide)).trans (MainReads.V5_arg0 m d), (h _ (by decide)).trans (MainReads.V5_arg1 m d), (h _ (by decide)).trans (MainReads.V5_arg2 m d),
    (h _ (by decide)).trans (MainReads.V5_arg3 m d), (h _ (by decide)).trans (MainReads.V5_arg4 m d), (h _ (by decide)).trans (MainReads.V5_arg5 m d)⟩

/-- The two instances' kernels have one text, label by label. -/
theorem bodies_eq : Cert.Kernel.defs₀ (F := Bits) = Cert.KernelIdeal.defs₀ (F := Bits) := by
  funext p ℓ a
  match p, ℓ, a with
  | .scVector c s, 0, _ => rfl
  | .scVector c s, 1, _ => rfl
  | .tc, 0, _ => rfl
  | .tc, 1, (t, s) => rfl
  | .scScalar c, 0, _ => rfl
  | .scScalar c, 1, _ => rfl
theorem defs_eq : Cert.Kernel.defs (F := Bits) = Cert.KernelIdeal.defs (F := Bits) :=
  congrArg (fun D => Cert.KernelIdeal.sc.defs (Pipeline.defs (Cert.KernelIdeal.pcfgs (F := Bits)) D)) bodies_eq

/-- The kernel's frame: the one run, at the machine's words. -/
theorem frame_kernel : Cert.quiescent_Kernel := by
  intro m ρ hpre
  rw [defs_eq]
  exact (θ_run (Cert.KernelIdeal.defs (F := Bits)) (Cert.KernelIdeal.threads (F := Bits)) ⟨m, fun _ => 0, ρ⟩).mono
    (fun r h => ⟨fun c => kept m r.2 c (h.1 c), h.2⟩) (MainRun.run_main (F := Bits) m ρ (range_bits m hpre))

/-- The kernel's frame over the extended reals. -/
theorem frame_kernelIdeal : Cert.quiescent_KernelIdeal := fun m ρ hpre =>
  (θ_run Cert.KernelIdeal.defs _ _).mono (fun r h => ⟨fun c => kept m r.2 c (h.1 c), h.2⟩) (MainRun.run_main (F := Ideal) m ρ (range_ideal m hpre))

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (RefValue.run m ρ)

/-- The same where the precondition holds. -/
theorem frame_reference_pre : Cert.quiescent_ReferenceIdeal_pre_ids_in_range := fun m ρ _ =>
  (θ_run Cert.ReferenceIdeal.defs _ _).mono (fun r h => ⟨fun c => (h c).2, sem_eq_zero_of_no_sems (by decide) r.2⟩) (RefValue.run m ρ)

/-- The kernel's result is the reference's. -/
theorem algebraic : Cert.algebraic_KernelIdeal_ReferenceIdeal := fun m ρ m' ρ' hpre hin =>
  ⟨fun c => V5 m c (r' Cert.KernelIdeal.main_v14),
    (θ_run Cert.KernelIdeal.defs _ _).mono (fun r h c => ⟨h.1 c _ (by decide), kept m r.2 c (h.1 c)⟩) (MainRun.run_main (F := Ideal) m ρ (range_ideal m hpre)),
    (θ_run Cert.ReferenceIdeal.defs _ _).mono (fun r h c => by
      refine ⟨(h c).1.trans ?_, (h c).2⟩
      obtain ⟨e0, e1, e2, e3, e4, e5⟩ := hin c
      rw [e0, e1, e2, e3, e4, e5]
      funext (x : Cert.KernelIdeal.S3200000x32.Idx)
      obtain ⟨n, j, rfl⟩ : ∃ (n : Fin 3200000) (j : Fin 32), x = ix2 n j := ⟨x 0, x 1, by funext b; match b with | 0 => rfl | 1 => rfl⟩
      refine Eq.trans ?_ (KernelValue.V5_out m c n j).symm
      exact RefValue.refOut_apply _ _ _ _ _ _ (fun n => IdsInRange.word_lt (F := Ideal) _ _ _ _ _ _ (hpre c) n) n j)
      (RefValue.run m' ρ')⟩

/-- All the claims. -/
theorem claim : Cert.Claim :=
  ⟨Cert.Kernel.Gen.facts, Cert.KernelIdeal.Gen.facts, Cert.ReferenceIdeal.Gen.facts, Cert.Pre_ids_in_range.Gen.facts,
    frame_kernel, frame_kernelIdeal, frame_reference, frame_reference_pre, trivial, algebraic⟩

end Cert.Proof

end
